-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_banded [hPre_banded : Cert.Pre_banded.Facts] (m : (ℓ : Loc Cert.BandIdeal.nD Cert.BandIdeal.τ Cert.BandIdeal.sig) → Buf (Elt Ideal) ℓ) : Prop :=
  ∀ c : Dev Cert.BandIdeal.nD,
    (Cert.Pre_banded.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_banded [hPre_banded : Cert.Pre_banded.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_banded.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_gate [hPre_finite_gate : Cert.Pre_finite_gate.Facts] (m : (ℓ : Loc Cert.FfnIdeal.nD Cert.FfnIdeal.τ Cert.FfnIdeal.sig) → Buf (Elt Ideal) ℓ) : Prop :=
  ∀ c : Dev Cert.FfnIdeal.nD,
    (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_gate [hPre_finite_gate : Cert.Pre_finite_gate.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_finite_gate [hPre_finite_gate : Cert.Pre_finite_gate.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_finite_gate.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))) = (fun _ => 1#1)

def Pre_Ffn1RefIdeal (m : (ℓ : Loc Cert.Ffn1RefIdeal.nD Cert.Ffn1RefIdeal.τ Cert.Ffn1RefIdeal.sig) → Buf (Elt Ideal) ℓ) : Prop :=
  True

def Pre_Ffn1RefIdeal_finite_gate [hPre_finite_gate : Cert.Pre_finite_gate.Facts] (m : (ℓ : Loc Cert.Ffn1RefIdeal.nD Cert.Ffn1RefIdeal.τ Cert.Ffn1RefIdeal.sig) → Buf (Elt Ideal) ℓ) : Prop :=
  ∀ c : Dev Cert.Ffn1RefIdeal.nD,
    (Cert.Pre_finite_gate.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_proj [hPre_finite_proj : Cert.Pre_finite_proj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_proj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_proj [hPre_finite_proj : Cert.Pre_finite_proj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_banded [hBandIdeal : Cert.BandIdeal.Facts] [hPre_banded : Cert.Pre_banded.Facts] : Prop :=
  ∀ (m : (ℓ : Loc Cert.BandIdeal.nD Cert.BandIdeal.τ Cert.BandIdeal.sig) → Buf (Elt Ideal) ℓ) (g : Dev Cert.BandIdeal.nD → PrngReg), Pre_BandIdeal_banded m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_banded [hBandRefIdeal : Cert.BandRefIdeal.Facts] [hPre_banded : Cert.Pre_banded.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_banded m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_gate [hFfnIdeal : Cert.FfnIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_gate m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_gate [hFfnRefIdeal : Cert.FfnRefIdeal.Facts] [hPre_finite_gate : Cert.Pre_finite_gate.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_gate m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1Ideal_pre_finite_gate [hFfn1Ideal : Cert.Ffn1Ideal.Facts] [hPre_finite_gate : Cert.Pre_finite_gate.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_finite_gate m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Ffn1RefIdeal_pre_finite_gate [hFfn1RefIdeal : Cert.Ffn1RefIdeal.Facts] [hPre_finite_gate : Cert.Pre_finite_gate.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal_finite_gate m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjIdeal_pre_finite_proj [hInProjIdeal : Cert.InProjIdeal.Facts] [hPre_finite_proj : Cert.Pre_finite_proj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_proj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRefIdeal_pre_finite_proj [hInProjRefIdeal : Cert.InProjRefIdeal.Facts] [hPre_finite_proj : Cert.Pre_finite_proj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_proj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Attention_AttentionIdeal : Prop :=
  IdealRules.named_const.Statement Cert.AttentionIdeal.κ "log2e" .f32 0x3FB8AA3B#32 (((Real.log 2)⁻¹ : ℝ) : EReal)

def preserves_Band_BandIdeal : Prop :=
  True

def algebraic_BandIdeal_BandRefIdeal_pre_banded [hBandIdeal : Cert.BandIdeal.Facts] [hBandRefIdeal : Cert.BandRefIdeal.Facts] [hPre_banded : Cert.Pre_banded.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_banded m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v43) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Ffn_FfnIdeal : Prop :=
  True

def algebraic_FfnIdeal_FfnRefIdeal_pre_finite_gate [hFfnIdeal : Cert.FfnIdeal.Facts] [hFfnRefIdeal : Cert.FfnRefIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_gate m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ffn1_Ffn1Ideal : Prop :=
  True

def algebraic_Ffn1Ideal_Ffn1RefIdeal_pre_finite_gate [hFfn1Ideal : Cert.Ffn1Ideal.Facts] [hFfn1RefIdeal : Cert.Ffn1RefIdeal.Facts] [hPre_finite_gate : Cert.Pre_finite_gate.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal_finite_gate m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v4)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v4) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v21) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InProj_InProjIdeal : Prop :=
  True

def algebraic_InProjIdeal_InProjRefIdeal_pre_finite_proj [hInProjIdeal : Cert.InProjIdeal.Facts] [hInProjRefIdeal : Cert.InProjRefIdeal.Facts] [hPre_finite_proj : Cert.Pre_finite_proj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_proj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_6)) (v3 : (c : Dev Cert.InProjIdeal.nD) → Buf (Elt Ideal) ((c.tc : Thread Cert.InProjIdeal.nD Cert.InProjIdeal.τ).loc Cert.InProjIdeal.main_v10_2)) (v4 : (c : Dev Cert.InProjIdeal.nD) → Buf (Elt Ideal) ((c.tc : Thread Cert.InProjIdeal.nD Cert.InProjIdeal.τ).loc Cert.InProjIdeal.main_v10_3)) (v5 : (c : Dev Cert.InProjIdeal.nD) → Buf (Elt Ideal) ((c.tc : Thread Cert.InProjIdeal.nD Cert.InProjIdeal.τ).loc Cert.InProjIdeal.main_v10_4)) (v6 : (c : Dev Cert.InProjIdeal.nD) → Buf (Elt Ideal) ((c.tc : Thread Cert.InProjIdeal.nD Cert.InProjIdeal.τ).loc Cert.InProjIdeal.main_v10_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_6) = v2 c
          ∧ r.2.mem ((c.tc : Thread Cert.InProjIdeal.nD Cert.InProjIdeal.τ).loc Cert.InProjIdeal.main_v10_2) = v3 c
          ∧ r.2.mem ((c.tc : Thread Cert.InProjIdeal.nD Cert.InProjIdeal.τ).loc Cert.InProjIdeal.main_v10_3) = v4 c
          ∧ r.2.mem ((c.tc : Thread Cert.InProjIdeal.nD Cert.InProjIdeal.τ).loc Cert.InProjIdeal.main_v10_4) = v5 c
          ∧ r.2.mem ((c.tc : Thread Cert.InProjIdeal.nD Cert.InProjIdeal.τ).loc Cert.InProjIdeal.main_v10_5) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v25) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v29) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_v31) = v5 c
          ∧ r.2.mem ((c.tc : Thread Cert.InProjRefIdeal.nD Cert.InProjRefIdeal.τ).loc Cert.InProjRefIdeal.main_v32) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hAttention : Cert.Attention.Facts) (hAttentionIdeal : Cert.AttentionIdeal.Facts) (hAttentionRefIdeal : Cert.AttentionRefIdeal.Facts) (hBand : Cert.Band.Facts) (hBandIdeal : Cert.BandIdeal.Facts) (hBandRefIdeal : Cert.BandRefIdeal.Facts) (hFfn : Cert.Ffn.Facts) (hFfnIdeal : Cert.FfnIdeal.Facts) (hFfnRefIdeal : Cert.FfnRefIdeal.Facts) (hFfn1 : Cert.Ffn1.Facts) (hFfn1Ideal : Cert.Ffn1Ideal.Facts) (hFfn1RefIdeal : Cert.Ffn1RefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hPre_banded : Cert.Pre_banded.Facts) (hPre_finite_gate : Cert.Pre_finite_gate.Facts) (hPre_finite_proj : Cert.Pre_finite_proj.Facts),
    quiescent_Attention (hAttention := hAttention)
    ∧ quiescent_AttentionIdeal (hAttentionIdeal := hAttentionIdeal)
    ∧ quiescent_AttentionRefIdeal (hAttentionRefIdeal := hAttentionRefIdeal)
    ∧ quiescent_Band (hBand := hBand)
    ∧ quiescent_BandIdeal (hBandIdeal := hBandIdeal)
    ∧ quiescent_BandIdeal_pre_banded (hBandIdeal := hBandIdeal) (hPre_banded := hPre_banded)
    ∧ quiescent_BandRefIdeal (hBandRefIdeal := hBandRefIdeal)
    ∧ quiescent_BandRefIdeal_pre_banded (hBandRefIdeal := hBandRefIdeal) (hPre_banded := hPre_banded)
    ∧ quiescent_Ffn (hFfn := hFfn)
    ∧ quiescent_FfnIdeal (hFfnIdeal := hFfnIdeal)
    ∧ quiescent_FfnIdeal_pre_finite_gate (hFfnIdeal := hFfnIdeal) (hPre_finite_gate := hPre_finite_gate)
    ∧ quiescent_FfnRefIdeal (hFfnRefIdeal := hFfnRefIdeal)
    ∧ quiescent_FfnRefIdeal_pre_finite_gate (hFfnRefIdeal := hFfnRefIdeal) (hPre_finite_gate := hPre_finite_gate)
    ∧ quiescent_Ffn1 (hFfn1 := hFfn1)
    ∧ quiescent_Ffn1Ideal (hFfn1Ideal := hFfn1Ideal)
    ∧ quiescent_Ffn1Ideal_pre_finite_gate (hFfn1Ideal := hFfn1Ideal) (hPre_finite_gate := hPre_finite_gate)
    ∧ quiescent_Ffn1RefIdeal (hFfn1RefIdeal := hFfn1RefIdeal)
    ∧ quiescent_Ffn1RefIdeal_pre_finite_gate (hFfn1RefIdeal := hFfn1RefIdeal) (hPre_finite_gate := hPre_finite_gate)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjIdeal_pre_finite_proj (hInProjIdeal := hInProjIdeal) (hPre_finite_proj := hPre_finite_proj)
    ∧ quiescent_InProjRefIdeal (hInProjRefIdeal := hInProjRefIdeal)
    ∧ quiescent_InProjRefIdeal_pre_finite_proj (hInProjRefIdeal := hInProjRefIdeal) (hPre_finite_proj := hPre_finite_proj)
    ∧ preserves_Attention_AttentionIdeal
    ∧ preserves_Band_BandIdeal
    ∧ algebraic_BandIdeal_BandRefIdeal_pre_banded (hBandIdeal := hBandIdeal) (hBandRefIdeal := hBandRefIdeal) (hPre_banded := hPre_banded)
    ∧ preserves_Ffn_FfnIdeal
    ∧ algebraic_FfnIdeal_FfnRefIdeal_pre_finite_gate (hFfnIdeal := hFfnIdeal) (hFfnRefIdeal := hFfnRefIdeal) (hPre_finite_gate := hPre_finite_gate)
    ∧ preserves_Ffn1_Ffn1Ideal
    ∧ algebraic_Ffn1Ideal_Ffn1RefIdeal_pre_finite_gate (hFfn1Ideal := hFfn1Ideal) (hFfn1RefIdeal := hFfn1RefIdeal) (hPre_finite_gate := hPre_finite_gate)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal_pre_finite_proj (hInProjIdeal := hInProjIdeal) (hInProjRefIdeal := hInProjRefIdeal) (hPre_finite_proj := hPre_finite_proj)
-- ==== Pre_banded.lean ====
abbrev S32768x1024 : Shape := ⟨2, ![32768, 1024]⟩
abbrev S3x16x768x256 : Shape := ⟨4, ![3, 16, 768, 256]⟩
abbrev S_ : Shape := ⟨0, ![]⟩

class Facts : Prop where
  bcast_S_S3x16x768x256 : S_.BroadcastsInDim S3x16x768x256 (![] : Fin 0 → Fin S3x16x768x256.rank)
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  reducesTo_S3x16x768x256_S_d0_1_2_3 : S3x16x768x256.ReducesTo [0, 1, 2, 3] S_

variable [Facts]

def fn_where {F : FTy → Type} [FloatOps F] (arg0 : IVec S3x16x768x256 1) (arg1 : IVec S3x16x768x256 1) (arg2 : IVec S3x16x768x256 1) : IVec S3x16x768x256 1 :=
  let v0 : IVec S3x16x768x256 1 := select arg0 arg1 arg2
  v0

def fn_part2 {F : FTy → Type} [FloatOps F] (main_v28 : IVec S_ 1) (main_v35 : IVec S_ 1) : IVec S_ 1 :=
  let main_v36 : IVec S_ 1 := andi main_v28 main_v35
  main_v36

def fn_part1 {F : FTy → Type} [FloatOps F] (main_arg1 : FVec F S32768x1024 .bf16) (main_arg3 : FVec F S3x16x768x256 .f32) (main_v17 : IVec S3x16x768x256 1) (main_v18 : FVec F S32768x1024 .f32) : IVec S_ 1 :=
  let main_v19 : FVec F S32768x1024 .f32 := Host.absf main_v18
  let main_cst : FVec F S_ .f32 := constant S_ .f32 0x7F800000#32
  let main_v20 : FVec F S32768x1024 .f32 := broadcastInDim S32768x1024 ![] bcast_S_S32768x1024 main_cst
  let main_v21 : IVec S32768x1024 1 := cmpf .olt main_v19 main_v20
  let main_c_4 : IVec S_ 1 := constantI S_ 1 1#1
  let main_v22 : IVec S_ 1 := (fun x v => Host.reduce IntOp.andi x v reducesTo_S32768x1024_S_d0_1 h_S_) main_v21 main_c_4
  let main_v23 : FVec F S32768x1024 .f32 := (extf .f32 · bitsLt_bf16_f32) main_arg1
  let main_v24 : FVec F S32768x1024 .f32 := Host.absf main_v23
  let main_cst_5 : FVec F S_ .f32 := constant S_ .f32 0x7F800000#32
  let main_v25 : FVec F S32768x1024 .f32 := broadcastInDim S32768x1024 ![] bcast_S_S32768x1024 main_cst_5
  let main_v26 : IVec S32768x1024 1 := cmpf .olt main_v24 main_v25
  let main_c_6 : IVec S_ 1 := constantI S_ 1 1#1
  let main_v27 : IVec S_ 1 := (fun x v => Host.reduce IntOp.andi x v reducesTo_S32768x1024_S_d0_1 h_S_) main_v26 main_c_6
  let main_v28 : IVec S_ 1 := andi main_v22 main_v27
  let main_v29 : FVec F S3x16x768x256 .f32 := Host.absf main_arg3
  let main_cst_7 : FVec F S_ .f32 := constant S_ .f32 0x7F800000#32
  let main_v30 : FVec F S3x16x768x256 .f32 := broadcastInDim S3x16x768x256 ![] bcast_S_S3x16x768x256 main_cst_7
  let main_v31 : IVec S3x16x768x256 1 := cmpf .olt main_v29 main_v30
  let main_cst_8 : FVec F S_ .f32 := constant S_ .f32 0xFF800000#32
  let main_v32 : FVec F S3x16x768x256 .f32 := broadcastInDim S3x16x768x256 ![] bcast_S_S3x16x768x256 main_cst_8
  let main_v33 : IVec S3x16x768x256 1 := cmpf .oeq main_arg3 main_v32
  let main_v34 : IVec S3x16x768x256 1 := fn_where (F := F) main_v17 main_v31 main_v33
  let main_c_9 : IVec S_ 1 := constantI S_ 1 1#1
  let main_v35 : IVec S_ 1 := (fun x v => Host.reduce IntOp.andi x v reducesTo_S3x16x768x256_S_d0_1_2_3 h_S_) main_v34 main_c_9
  fn_part2 (F := F) main_v28 main_v35

def fn {F : FTy → Type} [FloatOps F] (main_arg0 : FVec F S32768x1024 .bf16) (main_arg1 : FVec F S32768x1024 .bf16) (main_arg2 : FVec F S32768x1024 .bf16) (main_arg3 : FVec F S3x16x768x256 .f32) : IVec S_ 1 :=
  let main_v0 : IVec S3x16x768x256 32 := iotaInDim S3x16x768x256 32 0
  let main_v1 : IVec S3x16x768x256 32 := iotaInDim S3x16x768x256 32 2
  let main_v2 : IVec S3x16x768x256 32 := iotaInDim S3x16x768x256 32 3
  let main_c : IVec S_ 32 := constantI S_ 32 64#32
  let main_v3 : IVec S3x16x768x256 32 := broadcastInDim S3x16x768x256 ![] bcast_S_S3x16x768x256 main_c
  let main_v4 : IVec S3x16x768x256 32 := Host.divsi main_v1 main_v3
  let main_c_0 : IVec S_ 32 := constantI S_ 32 64#32
  let main_v5 : IVec S3x16x768x256 32 := broadcastInDim S3x16x768x256 ![] bcast_S_S3x16x768x256 main_c_0
  let main_v6 : IVec S3x16x768x256 32 := Host.divsi main_v2 main_v5
  let main_v7 : IVec S3x16x768x256 1 := cmpi .sle main_v6 main_v4
  let main_c_1 : IVec S_ 32 := constantI S_ 32 8#32
  let main_v8 : IVec S3x16x768x256 32 := broadcastInDim S3x16x768x256 ![] bcast_S_S3x16x768x256 main_c_1
  let main_v9 : IVec S3x16x768x256 32 := addi main_v6 main_v8
  let main_v10 : IVec S3x16x768x256 1 := cmpi .sle main_v4 main_v9
  let main_v11 : IVec S3x16x768x256 1 := andi main_v7 main_v10
  let main_c_2 : IVec S_ 32 := constantI S_ 32 256#32
  let main_v12 : IVec S3x16x768x256 32 := broadcastInDim S3x16x768x256 ![] bcast_S_S3x16x768x256 main_c_2
  let main_v13 : IVec S3x16x768x256 32 := muli main_v12 main_v0
  let main_v14 : IVec S3x16x768x256 32 := addi main_v1 main_v13
  let main_c_3 : IVec S_ 32 := constantI S_ 32 512#32
  let main_v15 : IVec S3x16x768x256 32 := broadcastInDim S3x16x768x256 ![] bcast_S_S3x16x768x256 main_c_3
  let main_v16 : IVec S3x16x768x256 1 := cmpi .sge main_v14 main_v15
  let main_v17 : IVec S3x16x768x256 1 := andi main_v11 main_v16
  let main_v18 : FVec F S32768x1024 .f32 := (extf .f32 · bitsLt_bf16_f32) main_arg0
  fn_part1 (F := F) main_arg1 main_arg3 main_v17 main_v18
-- ==== Pre_finite_gate.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S32768x1024 .f32) (main_arg1 : FVec F S1024 .f32) (main_arg2 : FVec F S1024x5632 .f32) (main_arg3 : FVec F S2816x1024 .f32) (main_arg4 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Pre_finite_proj.lean ====
abbrev S32768x1024 : Shape := ⟨2, ![32768, 1024]⟩
abbrev S1024 : Shape := ⟨1, ![1024]⟩
abbrev S1024x7696 : Shape := ⟨2, ![1024, 7696]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7696 : S_.BroadcastsInDim S1024x7696 (![] : Fin 0 → Fin S1024x7696.rank)
  reducesTo_S1024x7696_S_d0_1 : S1024x7696.ReducesTo [0, 1] S_

variable [Facts]

def fn {F : FTy → Type} [FloatOps F] (main_arg0 : FVec F S32768x1024 .f32) (main_arg1 : FVec F S1024 .f32) (main_arg2 : FVec F S1024x7696 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7696 .f32 := Host.absf main_arg2
  let main_cst_2 : FVec F S_ .f32 := constant S_ .f32 0x7F800000#32
  let main_v10 : FVec F S1024x7696 .f32 := broadcastInDim S1024x7696 ![] bcast_S_S1024x7696 main_cst_2
  let main_v11 : IVec S1024x7696 1 := cmpf .olt main_v9 main_v10
  let main_c_3 : IVec S_ 1 := constantI S_ 1 1#1
  let main_v12 : IVec S_ 1 := (fun x v => Host.reduce IntOp.andi x v reducesTo_S1024x7696_S_d0_1 h_S_) main_v11 main_c_3
  let main_v13 : IVec S_ 1 := andi main_v8 main_v12
  main_v13
-- ==== Attention.lean ====
abbrev S32768x1024 : Shape := ⟨2, ![32768, 1024]⟩
abbrev S16x257 : Shape := ⟨2, ![16, 257]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S3x16x768x256 : Shape := ⟨4, ![3, 16, 768, 256]⟩
abbrev S1x1x1024 : Shape := ⟨3, ![1, 1, 1024]⟩
abbrev S3x1x768x256 : Shape := ⟨4, ![3, 1, 768, 256]⟩
abbrev S1x1024 : Shape := ⟨2, ![1, 1024]⟩
abbrev S768x1024 : Shape := ⟨2, ![768, 1024]⟩
abbrev S768x256 : Shape := ⟨2, ![768, 256]⟩
abbrev S1x1x768x256 : Shape := ⟨4, ![1, 1, 768, 256]⟩
abbrev S512x1024 : Shape := ⟨2, ![512, 1024]⟩
abbrev S1x16x768x256 : Shape := ⟨4, ![1, 16, 768, 256]⟩
abbrev S2x768x256 : Shape := ⟨3, ![2, 768, 256]⟩
abbrev S256x128 : Shape := ⟨2, ![256, 128]⟩
abbrev S64x128 : Shape := ⟨2, ![64, 128]⟩
abbrev S1x64x128 : Shape := ⟨3, ![1, 64, 128]⟩
abbrev S512x128 : Shape := ⟨2, ![512, 128]⟩
abbrev S768x128 : Shape := ⟨2, ![768, 128]⟩
abbrev S1x768x256 : Shape := ⟨3, ![1, 768, 256]⟩
abbrev S1x1x64x128 : Shape := ⟨4, ![1, 1, 64, 128]⟩
abbrev S128 : Shape := ⟨1, ![128]⟩
abbrev S1x128 : Shape := ⟨2, ![1, 128]⟩
abbrev S1x256 : Shape := ⟨2, ![1, 256]⟩
abbrev S128x768 : Shape := ⟨2, ![128, 768]⟩
abbrev S64x768 : Shape := ⟨2, ![64, 768]⟩
abbrev S64x256 : Shape := ⟨2, ![64, 256]⟩
abbrev S128x256 : Shape := ⟨2, ![128, 256]⟩

abbrev nBuf : Space → Nat
  | .hbm => 34
  | .vmem => 20
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S16x257, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S16x1024, .f32⟩
  | .hbm, ⟨31, _⟩ => ⟨S16x1x1024, .f32⟩
  | .hbm, ⟨32, _⟩ => ⟨S3x16x768x256, .f32⟩
  | .hbm, ⟨33, _⟩ => ⟨S32768x1024, .bf16⟩
  | .local _ .vmem, ⟨0, _⟩ => ⟨S1x1x1024, .f32⟩
  | .local _ .vmem, ⟨1, _⟩ => ⟨S1x1x1024, .f32⟩
  | .local _ .vmem, ⟨2, _⟩ => ⟨S3x1x768x256, .f32⟩
  | .local _ .vmem, ⟨3, _⟩ => ⟨S3x1x768x256, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x16x768x256, .f32⟩
  | .local _ .vmem, ⟨15, _⟩ => ⟨S1x16x768x256, .f32⟩
  | .local _ .vmem, ⟨16, _⟩ => ⟨S512x1024, .bf16⟩
  | .local _ .vmem, ⟨17, _⟩ => ⟨S512x1024, .bf16⟩
  | .local _ .vmem, ⟨18, _⟩ => ⟨S2x768x256, .f32⟩
  | .local _ .vmem, ⟨19, _⟩ => ⟨S2x768x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_c_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc1_transform_5 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 32 := Scalar.minsi v1 c2_i32_0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc1_transform_6 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 32 := Scalar.minsi v1 c2_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x16x768x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x16x768x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== AttentionIdeal.lean ====
variable {F : FTy → Type} [FloatOps F] [Named F]
def κ : String → Option EReal := fun
  | "log2e" => some (((Real.log 2)⁻¹ : ℝ) : EReal)
  | _ => none
-- ==== AttentionRefIdeal.lean ====
abbrev S32768x1024 : Shape := ⟨2, ![32768, 1024]⟩
abbrev S16x257 : Shape := ⟨2, ![16, 257]⟩
abbrev S4x8192x16x64 : Shape := ⟨4, ![4, 8192, 16, 64]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S4x16x8192x8192 : Shape := ⟨4, ![4, 16, 8192, 8192]⟩
abbrev S1x16x8192x8192 : Shape := ⟨4, ![1, 16, 8192, 8192]⟩
abbrev S1x1x8192x8192 : Shape := ⟨4, ![1, 1, 8192, 8192]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S16x257, .f32⟩
  | .hbm, ⟨4, _⟩ => ⟨S32768x1024, .f32⟩
  | .hbm, ⟨5, _⟩ => ⟨S4x8192x16x64, .f32⟩
  | .hbm, ⟨6, _⟩ => ⟨S32768x1024, .f32⟩
  | .hbm, ⟨7, _⟩ => ⟨S4x8192x16x64, .f32⟩
  | .hbm, ⟨8, _⟩ => ⟨S32768x1024, .f32⟩
  | .hbm, ⟨9, _⟩ => ⟨S4x8192x16x64, .f32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S8192x8192x1, .i32⟩
  | .hbm, ⟨32, _⟩ => ⟨S16x8192x8192, .f32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S_, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S8192x8192, .i1⟩
  | .hbm, ⟨45, _⟩ => ⟨S4x16x8192x8192, .f32⟩
  | .hbm, ⟨46, _⟩ => ⟨S_, .f32⟩
  | .hbm, ⟨47, _⟩ => ⟨S4x16x8192x8192, .f32⟩
  | .hbm, ⟨48, _⟩ => ⟨S4x16x8192x8192, .f32⟩
  | .hbm, ⟨49, _⟩ => ⟨S1x16x8192x8192, .f32⟩
  | .hbm, ⟨50, _⟩ => ⟨S4x16x8192x8192, .f32⟩
  | .hbm, ⟨51, _⟩ => ⟨S4x16x8192x8192, .f32⟩
  | .hbm, ⟨52, _⟩ => ⟨S1x1x8192x8192, .i1⟩
  | .hbm, ⟨53, _⟩ => ⟨S_, .f32⟩
  | .hbm, ⟨54, _⟩ => ⟨S_, .f32⟩
  | .hbm, ⟨55, _⟩ => ⟨S4x16x8192x8192, .i1⟩
  | .hbm, ⟨56, _⟩ => ⟨S4x16x8192x8192, .f32⟩
  | .hbm, ⟨57, _⟩ => ⟨S4x16x8192x8192, .f32⟩
  | .hbm, ⟨58, _⟩ => ⟨S_, .f32⟩
  | .hbm, ⟨59, _⟩ => ⟨S4x16x8192, .f32⟩
  | .hbm, ⟨60, _⟩ => ⟨S4x16x8192x1, .f32⟩
  | .hbm, ⟨61, _⟩ => ⟨S4x16x8192x8192, .f32⟩
  | .hbm, ⟨62, _⟩ => ⟨S4x16x8192x8192, .f32⟩
  | .hbm, ⟨63, _⟩ => ⟨S4x16x8192x8192, .f32⟩
  | .hbm, ⟨64, _⟩ => ⟨S_, .f32⟩
  | .hbm, ⟨65, _⟩ => ⟨S4x16x8192, .f32⟩
  | .hbm, ⟨66, _⟩ => ⟨S4x16x8192x1, .f32⟩
  | .hbm, ⟨67, _⟩ => ⟨S4x16x8192x8192, .f32⟩
  | .hbm, ⟨68, _⟩ => ⟨S4x16x8192x8192, .f32⟩
  | .hbm, ⟨69, _⟩ => ⟨S4x16x64x8192, .f32⟩
  | .hbm, ⟨70, _⟩ => ⟨S4x8192x16x64, .f32⟩
  | .hbm, ⟨71, _⟩ => ⟨S32768x1024, .f32⟩
  | .hbm, ⟨72, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

def κ : String → Option EReal := fun
  | "ln2" => some ((Real.log 2 : ℝ) : EReal)
  | _ => none
-- ==== Band.lean ====
abbrev S32768x1024 : Shape := ⟨2, ![32768, 1024]⟩
abbrev S3x16x768x256 : Shape := ⟨4, ![3, 16, 768, 256]⟩
abbrev S512x1024 : Shape := ⟨2, ![512, 1024]⟩
abbrev S1x16x768x256 : Shape := ⟨4, ![1, 16, 768, 256]⟩
abbrev S2x768x256 : Shape := ⟨3, ![2, 768, 256]⟩
abbrev S256x128 : Shape := ⟨2, ![256, 128]⟩
abbrev S64x128 : Shape := ⟨2, ![64, 128]⟩
abbrev S1x64x128 : Shape := ⟨3, ![1, 64, 128]⟩
abbrev S512x128 : Shape := ⟨2, ![512, 128]⟩
abbrev S768x128 : Shape := ⟨2, ![768, 128]⟩
abbrev S768x256 : Shape := ⟨2, ![768, 256]⟩
abbrev S1x768x256 : Shape := ⟨3, ![1, 768, 256]⟩
abbrev S1x1x64x128 : Shape := ⟨4, ![1, 1, 64, 128]⟩
abbrev S128 : Shape := ⟨1, ![128]⟩
abbrev S1x128 : Shape := ⟨2, ![1, 128]⟩
abbrev S1x256 : Shape := ⟨2, ![1, 256]⟩
abbrev S128x768 : Shape := ⟨2, ![128, 768]⟩
abbrev S64x768 : Shape := ⟨2, ![64, 768]⟩
abbrev S64x256 : Shape := ⟨2, ![64, 256]⟩
abbrev S128x256 : Shape := ⟨2, ![128, 256]⟩

abbrev nBuf : Space → Nat
  | .hbm => 5
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S3x16x768x256, .f32⟩
  | .hbm, ⟨4, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x16x768x256, .f32⟩
  | .local _ .vmem, ⟨11, _⟩ => ⟨S1x16x768x256, .f32⟩
  | .local _ .vmem, ⟨12, _⟩ => ⟨S512x1024, .bf16⟩
  | .local _ .vmem, ⟨13, _⟩ => ⟨S512x1024, .bf16⟩
  | .local _ .vmem, ⟨14, _⟩ => ⟨S2x768x256, .f32⟩
  | .local _ .vmem, ⟨15, _⟩ => ⟨S2x768x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 32 := Scalar.minsi v1 c2_i32_0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 32 := Scalar.minsi v1 c2_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x16x768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x16x768x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== BandRefIdeal.lean ====
abbrev S32768x1024 : Shape := ⟨2, ![32768, 1024]⟩
abbrev S3x16x768x256 : Shape := ⟨4, ![3, 16, 768, 256]⟩
abbrev S2x16x768x256 : Shape := ⟨4, ![2, 16, 768, 256]⟩
abbrev S1x16x768x256 : Shape := ⟨4, ![1, 16, 768, 256]⟩
abbrev S30x16x768x256 : Shape := ⟨4, ![30, 16, 768, 256]⟩
abbrev S32x16x768x256 : Shape := ⟨4, ![32, 16, 768, 256]⟩
abbrev S_ : Shape := ⟨0, ![]⟩
abbrev S4x2x256x16x64 : Shape := ⟨5, ![4, 2, 256, 16, 64]⟩
abbrev S4x32x256x16x64 : Shape := ⟨5, ![4, 32, 256, 16, 64]⟩
abbrev S4x34x256x16x64 : Shape := ⟨5, ![4, 34, 256, 16, 64]⟩
abbrev S4x32x512x16x64 : Shape := ⟨5, ![4, 32, 512, 16, 64]⟩
abbrev S4x32x768x16x64 : Shape := ⟨5, ![4, 32, 768, 16, 64]⟩
abbrev S4x32x16x768x256 : Shape := ⟨5, ![4, 32, 16, 768, 256]⟩
abbrev S1x32x16x768x256 : Shape := ⟨5, ![1, 32, 16, 768, 256]⟩
abbrev S4x32x16x256 : Shape := ⟨4, ![4, 32, 16, 256]⟩
abbrev S4x32x16x1x256 : Shape := ⟨5, ![4, 32, 16, 1, 256]⟩
abbrev S4x32x16x64x256 : Shape := ⟨5, ![4, 32, 16, 64, 256]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S3x16x768x256, .f32⟩
  | .hbm, ⟨4, _⟩ => ⟨S2x16x768x256, .f32⟩
  | .hbm, ⟨5, _⟩ => ⟨S1x16x768x256, .f32⟩
  | .hbm, ⟨6, _⟩ => ⟨S30x16x768x256, .f32⟩
  | .hbm, ⟨7, _⟩ => ⟨S32x16x768x256, .f32⟩
  | .hbm, ⟨8, _⟩ => ⟨S_, .f32⟩
  | .hbm, ⟨9, _⟩ => ⟨S4x2x256x16x64, .f32⟩
  | .hbm, ⟨10, _⟩ => ⟨S32768x1024, .f32⟩
  | .hbm, ⟨11, _⟩ => ⟨S4x32x256x16x64, .f32⟩
  | .hbm, ⟨12, _⟩ => ⟨S4x34x256x16x64, .f32⟩
  | .hbm, ⟨13, _⟩ => ⟨S4x32x256x16x64, .f32⟩
  | .hbm, ⟨14, _⟩ => ⟨S4x32x256x16x64, .f32⟩
  | .hbm, ⟨15, _⟩ => ⟨S4x32x512x16x64, .f32⟩
  | .hbm, ⟨16, _⟩ => ⟨S4x32x256x16x64, .f32⟩
  | .hbm, ⟨17, _⟩ => ⟨S4x32x768x16x64, .f32⟩
  | .hbm, ⟨18, _⟩ => ⟨S32768x1024, .f32⟩
  | .hbm, ⟨19, _⟩ => ⟨S4x32x256x16x64, .f32⟩
  | .hbm, ⟨20, _⟩ => ⟨S4x32x16x768x256, .f32⟩
  | .hbm, ⟨21, _⟩ => ⟨S1x32x16x768x256, .f32⟩
  | .hbm, ⟨22, _⟩ => ⟨S4x32x16x768x256, .f32⟩
  | .hbm, ⟨23, _⟩ => ⟨S4x32x16x768x256, .f32⟩
  | .hbm, ⟨24, _⟩ => ⟨S_, .f32⟩
  | .hbm, ⟨25, _⟩ => ⟨S_, .f32⟩
  | .hbm, ⟨26, _⟩ => ⟨S4x32x16x768x256, .f32⟩
  | .hbm, ⟨27, _⟩ => ⟨S4x32x16x768x256, .f32⟩
  | .hbm, ⟨28, _⟩ => ⟨S_, .f32⟩
  | .hbm, ⟨29, _⟩ => ⟨S4x32x16x256, .f32⟩
  | .hbm, ⟨30, _⟩ => ⟨S4x32x16x1x256, .f32⟩
  | .hbm, ⟨31, _⟩ => ⟨S4x32x16x768x256, .f32⟩
  | .hbm, ⟨32, _⟩ => ⟨S4x32x16x768x256, .f32⟩
  | .hbm, ⟨33, _⟩ => ⟨S4x32x16x768x256, .f32⟩
  | .hbm, ⟨34, _⟩ => ⟨S_, .f32⟩
  | .hbm, ⟨35, _⟩ => ⟨S4x32x16x256, .f32⟩
  | .hbm, ⟨36, _⟩ => ⟨S4x32x16x1x256, .f32⟩
  | .hbm, ⟨37, _⟩ => ⟨S4x32x16x768x256, .f32⟩
  | .hbm, ⟨38, _⟩ => ⟨S4x32x16x768x256, .f32⟩
  | .hbm, ⟨39, _⟩ => ⟨S_, .f32⟩
  | .hbm, ⟨40, _⟩ => ⟨S4x2x256x16x64, .f32⟩
  | .hbm, ⟨41, _⟩ => ⟨S32768x1024, .f32⟩
  | .hbm, ⟨42, _⟩ => ⟨S4x32x256x16x64, .f32⟩
  | .hbm, ⟨43, _⟩ => ⟨S4x34x256x16x64, .f32⟩
  | .hbm, ⟨44, _⟩ => ⟨S4x32x256x16x64, .f32⟩
  | .hbm, ⟨45, _⟩ => ⟨S4x32x256x16x64, .f32⟩
  | .hbm, ⟨46, _⟩ => ⟨S4x32x512x16x64, .f32⟩
  | .hbm, ⟨47, _⟩ => ⟨S4x32x256x16x64, .f32⟩
  | .hbm, ⟨48, _⟩ => ⟨S4x32x768x16x64, .f32⟩
  | .hbm, ⟨49, _⟩ => ⟨S4x32x16x64x256, .f32⟩
  | .hbm, ⟨50, _⟩ => ⟨S4x32x256x16x64, .f32⟩
  | .hbm, ⟨51, _⟩ => ⟨S32768x1024, .f32⟩
  | .hbm, ⟨52, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Ffn1.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn1RefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S1024x1 : Shape := ⟨2, ![1024, 1]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x2048, .bf16⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x2048, .bf16⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== InProj.lean ====
abbrev S32768x1024 : Shape := ⟨2, ![32768, 1024]⟩
abbrev S1024 : Shape := ⟨1, ![1024]⟩
abbrev S1024x7696 : Shape := ⟨2, ![1024, 7696]⟩
abbrev S1024x2560 : Shape := ⟨2, ![1024, 2560]⟩
abbrev S1024x5120 : Shape := ⟨2, ![1024, 5120]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S1x1024 : Shape := ⟨2, ![1, 1024]⟩
abbrev S32768x1536 : Shape := ⟨2, ![32768, 1536]⟩
abbrev S32768x2048 : Shape := ⟨2, ![32768, 2048]⟩
abbrev S32768x48 : Shape := ⟨2, ![32768, 48]⟩
abbrev S512x1024 : Shape := ⟨2, ![512, 1024]⟩
abbrev S512x1536 : Shape := ⟨2, ![512, 1536]⟩
abbrev S512x2048 : Shape := ⟨2, ![512, 2048]⟩
abbrev S512x48 : Shape := ⟨2, ![512, 48]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 20
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7696, .f32⟩
  | .hbm, ⟨3, _⟩ => ⟨S1024x2560, .f32⟩
  | .hbm, ⟨4, _⟩ => ⟨S1024x2560, .bf16⟩
  | .hbm, ⟨5, _⟩ => ⟨S1024x5120, .f32⟩
  | .hbm, ⟨6, _⟩ => ⟨S1024x5120, .bf16⟩
  | .hbm, ⟨7, _⟩ => ⟨S1024x16, .f32⟩
  | .hbm, ⟨8, _⟩ => ⟨S1x1024x1x16, .f32⟩
  | .hbm, ⟨9, _⟩ => ⟨S1x1024x3x16, .f32⟩
  | .hbm, ⟨10, _⟩ => ⟨S1024x48, .f32⟩
  | .hbm, ⟨11, _⟩ => ⟨S1024x48, .bf16⟩
  | .hbm, ⟨12, _⟩ => ⟨S1x1024, .f32⟩
  | .hbm, ⟨13, _⟩ => ⟨S32768x1024, .bf16⟩
  | .hbm, ⟨14, _⟩ => ⟨S32768x1536, .bf16⟩
  | .hbm, ⟨15, _⟩ => ⟨S32768x1024, .bf16⟩
  | .hbm, ⟨16, _⟩ => ⟨S32768x1024, .bf16⟩
  | .hbm, ⟨17, _⟩ => ⟨S32768x1024, .bf16⟩
  | .hbm, ⟨18, _⟩ => ⟨S32768x2048, .bf16⟩
  | .hbm, ⟨19, _⟩ => ⟨S32768x48, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x5120, .bf16⟩
  | .local _ .vmem, ⟨5, _⟩ => ⟨S1024x48, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x48, .f32⟩
  | .local _ .vmem, ⟨19, _⟩ => ⟨S512x48, .f32⟩
  | .local _ .vmem, ⟨20, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev main_v10_4 : Ref sig .tc := ⟨.hbm, 17, rfl⟩
abbrev main_v10_5 : Ref sig .tc := ⟨.hbm, 18, rfl⟩
abbrev main_v10_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S32768x1024 : Shape := ⟨2, ![32768, 1024]⟩
abbrev S1024 : Shape := ⟨1, ![1024]⟩
abbrev S1024x7696 : Shape := ⟨2, ![1024, 7696]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7696 : Shape := ⟨2, ![32768, 7696]⟩
abbrev S32768x1536 : Shape := ⟨2, ![32768, 1536]⟩
abbrev S32768x16 : Shape := ⟨2, ![32768, 16]⟩
abbrev S32768x2048 : Shape := ⟨2, ![32768, 2048]⟩
abbrev S1x32768x1x16 : Shape := ⟨4, ![1, 32768, 1, 16]⟩
abbrev S1x32768x3x16 : Shape := ⟨4, ![1, 32768, 3, 16]⟩
abbrev S32768x48 : Shape := ⟨2, ![32768, 48]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7696, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7696, .f32⟩
  | .hbm, ⟨20, _⟩ => ⟨S32768x1024, .f32⟩
  | .hbm, ⟨21, _⟩ => ⟨S32768x1536, .f32⟩
  | .hbm, ⟨22, _⟩ => ⟨S32768x16, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x2048, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .bf16⟩
  | .hbm, ⟨40, _⟩ => ⟨S32768x1536, .bf16⟩
  | .hbm, ⟨41, _⟩ => ⟨S1x32768x1x16, .f32⟩
  | .hbm, ⟨42, _⟩ => ⟨S1x32768x3x16, .f32⟩
  | .hbm, ⟨43, _⟩ => ⟨S32768x48, .f32⟩
  | .hbm, ⟨44, _⟩ => ⟨S32768x1024, .bf16⟩
  | .hbm, ⟨45, _⟩ => ⟨S32768x1024, .bf16⟩
  | .hbm, ⟨46, _⟩ => ⟨S32768x1024, .bf16⟩
  | .hbm, ⟨47, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.Common.lean ====
/- Scalar facts over the extended reals that several of the calls need: the sigmoid written with tanh, the SwiGLU gate, the
   constants read from their bits. -/
module

public import Idealize.ShloMosaic.Lib.Pointwise.Tactic
public import Idealize.ShloMosaic.Lib.Pointwise.Contract
public import Idealize.ShloMosaic.Lib.Pointwise.Reduce
public import Idealize.ShloMosaic.Lib.Pointwise.Sums
public import Idealize.ShloMosaic.Lib.Pointwise.Reshape
public import Idealize.ShloMosaic.Lib.MatmulPlain
public import Idealize.ShloMosaic.Lib.ReduceAll
public import Idealize.ShloMosaic.Lib.Pipeline.FrameBody
public import Idealize.ShloMosaic.Lib.Pipeline.Value

@[expose] public section

noncomputable section

namespace Cert.Proof.Common

open Idealize.ShloMosaic

theorem bits_half : Ideal.ofBits .f32 0x3F000000#32 = ((1 / 2 : ℝ) : EReal) := by
  simp [Ideal.ofBits, Ideal.ieee, -EReal.coe_mul]; norm_num

/-- The identity over the reals. -/
theorem half_tanh_real (r : ℝ) : 1 / 2 + 1 / 2 * Real.tanh (1 / 2 * r) = (1 + Real.exp (-r))⁻¹ := by
  have ha : 0 < Real.exp (1 / 2 * r) := Real.exp_pos _
  have hb : 0 < Real.exp (-(1 / 2 * r)) := Real.exp_pos _
  have hab : Real.exp (1 / 2 * r) * Real.exp (-(1 / 2 * r)) = 1 := by rw [← Real.exp_add]; simp
  have hr : Real.exp (-r) = Real.exp (-(1 / 2 * r)) * Real.exp (-(1 / 2 * r)) := by rw [← Real.exp_add]; congr 1; ring
  rw [Real.tanh_eq_sinh_div_cosh, Real.sinh_eq, Real.cosh_eq, hr]
  generalize Real.exp (1 / 2 * r) = a at *
  generalize Real.exp (-(1 / 2 * r)) = b at *
  have : (1 + b * b) * a = a + b := by linear_combination b * hab
  field_simp
  nlinarith

/-- `1/2 + 1/2 tanh (x/2)` is the logistic function, at the infinities too. -/
theorem half_tanh (x : EReal) :
    ((1 / 2 : ℝ) : EReal) + ((1 / 2 : ℝ) : EReal) * Ideal.tanh (((1 / 2 : ℝ) : EReal) * x) = Ideal.logistic x := by
  induction x using EReal.rec with
  | bot =>
    rw [EReal.coe_mul_bot_of_pos (by norm_num), Ideal.tanh_bot, Ideal.logistic_bot, ← EReal.coe_one, ← EReal.coe_neg,
      ← EReal.coe_mul, ← EReal.coe_add]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, half_tanh_real]

/-! ## Finite values -/

/-- The value is a real number. -/
def IsReal (x : EReal) : Prop := ∃ r : ℝ, x = (r : EReal)

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose r hr using h
  exact ⟨∑ i, r i, by rw [coe_sum]; exact Finset.sum_congr rfl fun i _ => hr i⟩

theorem bits_1024 : Ideal.ofBits .f32 1149239296#32 = ((1024 : ℝ) : EReal) := by
  simp [Ideal.ofBits, Ideal.ieee, -EReal.coe_mul]; norm_num

theorem bits_eps : ∃ e : ℝ, 0 < e ∧ Ideal.ofBits .f32 897988541#32 = (e : EReal) :=
  ⟨((8796093 : ℝ) / 2 ^ 43), by norm_num, by simp [Ideal.ofBits, Ideal.ieee, -EReal.coe_mul]; norm_num⟩

/-- An element below the top in magnitude is a real number: what a precondition's comparison against infinity says. -/
theorem isReal_of_cmp {x : EReal}
    (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => exact absurd h (by simp [Ideal.cmp])
  | top => exact absurd h (by simp [Ideal.cmp])
  | coe r => exact ⟨r, rfl⟩

/-! ## Root-mean-square normalisation of a row of 1024, and the gate -/

/-- One element of a normalised row. -/
def rms (x w : Fin 1024 → EReal) (k : Fin 1024) : EReal :=
  x k * Ideal.rsqrt (Ideal.div (∑ j, x j * x j) (Ideal.ofBits .f32 1149239296#32) + Ideal.ofBits .f32 897988541#32) * w k

theorem rms_real {x w : Fin 1024 → EReal} (hx : ∀ k, IsReal (x k)) (hw : ∀ k, IsReal (w k)) (k : Fin 1024) :
    IsReal (rms x w k) := by
  obtain ⟨e, he, hb⟩ := bits_eps
  refine ((hx k).mul ?_).mul (hw k)
  choose r hr using hx
  have hs : ∑ j, x j * x j = ((∑ j, r j * r j : ℝ) : EReal) := by
    rw [coe_sum]; exact Finset.sum_congr rfl fun j _ => by rw [hr j, EReal.coe_mul]
  have hn : 0 ≤ ∑ j, r j * r j := Finset.sum_nonneg fun j _ => mul_self_nonneg _
  rw [hs, hb, bits_1024, Ideal.div_coe (by norm_num), ← EReal.coe_mul, ← EReal.coe_add, Ideal.rsqrt_coe]
  have hp : 0 < (∑ j, r j * r j) * (1 / 1024) + e := by positivity
  rw [if_neg (not_lt.mpr hp.le), if_neg hp.ne']
  exact ⟨_, rfl⟩

/-- The gate as the kernel writes it. -/
def gateT (g : EReal) : EReal :=
  Ideal.ofBits .f32 0x3F000000#32 * g + Ideal.ofBits .f32 0x3F000000#32 * g * Ideal.tanh (Ideal.ofBits .f32 0x3F000000#32 * g)

theorem gateT_real {g : EReal} (h : IsReal g) : gateT g = g * Ideal.logistic g := by
  obtain ⟨r, rfl⟩ := h
  unfold gateT
  rw [bits_half, ← EReal.coe_mul, Ideal.tanh_coe, Ideal.logistic_coe, ← EReal.coe_mul, ← EReal.coe_add, ← EReal.coe_mul,
    ← half_tanh_real]
  congr 1; ring

/-! ## Reading a scratch buffer back -/

/-- The index a rectangle of a matrix puts its own index `x` at. -/
theorem emb_unit (n0 n1 k0 k1 a b : Nat)
    (h : ∀ d, (![a, b] : Fin 2 → Nat) d + (![k0, k1] : Fin 2 → Nat) d ≤ (⟨2, ![n0, n1]⟩ : Shape).size d)
    (x : (⟨2, ![k0, k1]⟩ : Shape).Idx) :
    (Rect.unit (s := ⟨2, ![n0, n1]⟩) ![a, b] ![k0, k1] h).emb x
      = ix2 (n0 := n0) (n1 := n1)
          ⟨a + (x 0).val, by have h0 : a + k0 ≤ n0 := h 0; have hx : (x 0).val < k0 := (x 0).isLt; omega⟩
          ⟨b + (x 1).val, by have h1 : b + k1 ≤ n1 := h 1; have hx : (x 1).val < k1 := (x 1).isLt; omega⟩ := by
  funext d; apply Fin.ext
  match d with
  | ⟨0, _⟩ => show a + 1 * (x 0).val = a + (x 0).val; omega
  | ⟨1, _⟩ => show b + 1 * (x 1).val = b + (x 1).val; omega

/-- Which indices of a matrix a rectangle holds. -/
theorem mem_unit {n0 n1 k0 k1 a b : Nat}
    {h : ∀ d, (![a, b] : Fin 2 → Nat) d + (![k0, k1] : Fin 2 → Nat) d ≤ (⟨2, ![n0, n1]⟩ : Shape).size d}
    {y : (⟨2, ![n0, n1]⟩ : Shape).Idx} (h0 : a ≤ (y 0).val ∧ (y 0).val < a + k0) (h1 : b ≤ (y 1).val ∧ (y 1).val < b + k1) :
    y ∈ (Rect.unit (s := ⟨2, ![n0, n1]⟩) ![a, b] ![k0, k1] h).set := by
  rw [Rect.mem_set_unit]
  intro d
  match d with
  | ⟨0, _⟩ => exact h0
  | ⟨1, _⟩ => exact h1

/-- A load of a buffer covered by the pieces stored in it reads the array the pieces are parts of. -/
theorem readCov_eq_ld {sig : RefSig} {κ : Kind} {sp : Space} {S : Shape} {e : EltTy} {Val : EltTy → Type}
    [∀ e, Nonempty (Val e)] (v : View sig κ sp S e) (L : List (View.Piece Val S e)) (G : S.Idx → Val e) (r : Rect S)
    (hG : ∀ p ∈ L, ∀ x, p.2 x = G (p.1.emb x)) (hc : ∀ j, ∃ p ∈ L, r.emb j ∈ p.1.set) :
    v.readCov L r.toLoadRect = View.ld G r := by
  rw [View.readCov_eq_canon']
  funext j
  exact View.canon_apply_of_pieces G L hG _ (hc j)

end Cert.Proof.Common

end
-- ==== Proof.Merge.lean ====
/- The merge of the two mixers: what the kernel's run leaves in its result array, and what the reference's leaves there, as
   one function of the argument arrays. -/
module

public import proofs.«01_k».proof.Proof.Common
public import proofs.«01_k».proof.Proof.Gen.MergeIdeal.Value
public import proofs.«01_k».proof.Proof.Gen.MergeRefIdeal.Read

@[expose] public section

noncomputable section

namespace Cert.Proof.Merge

open Cert.MergeIdeal Cert.MergeIdeal.Gen Idealize.ShloMosaic Idealize.ShloMosaic.TcCoe Idealize.SL.Sem
open Cert.Proof.Common

/-- One element of the result: of the row's residual, the two branches' rows, the row of gates and the weights. -/
def elt (x : EReal) (ys ya : Fin 1024 → EReal) (g : Fin 2048 → EReal) (ws wa : Fin 1024 → Fin 1024 → EReal)
    (wo : Fin 1024 → EReal) : EReal :=
  x + ∑ k : Fin 1024, (Ideal.logistic (g ⟨k.val, by omega⟩) * (∑ j : Fin 1024, ys j * ws j k)
    + Ideal.logistic (g ⟨1024 + k.val, by omega⟩) * (∑ j : Fin 1024, ya j * wa j k)) * wo k

/-- One grid point's block of the result, from the blocks of the arguments. -/
def blockOf (x0 : Vec Ideal S1024x1024 .f32) (x1 : Vec Ideal S1024x1024 .bf16) (x2 : Vec Ideal S1024x1024 .bf16)
    (x3 : Vec Ideal S1024x2048 .bf16) (x4 : Vec Ideal S1024x1024 .bf16) (x5 : Vec Ideal S1024x1024 .bf16)
    (x6 : Vec Ideal S1024x1024 .bf16) : Vec Ideal S1024x1024 .f32 := fun i =>
  elt (x0 i) (fun j => x1 (ix2 (i 0) j)) (fun j => x2 (ix2 (i 0) j)) (fun j => x3 (ix2 (i 0) j))
    (fun j k => x4 (ix2 j k)) (fun j k => x5 (ix2 j k)) (fun k => x6 (ix2 k (i 1)))

theorem zeros : (![0, 0] : Fin 2 → Nat) = fun _ => 0 := funext fun a => by fin_cases a <;> rfl

/-- A load of a whole weight block is the block. -/
theorem whole_ld {e : EltTy} (X : Vec Ideal S1024x1024 e) : View.ld X r0_1 = X := View.ld_unit_zero zeros _ X

theorem cast_self {α : Type} (X : S1024x1024.Idx → α) :
    shapeCast S1024x1024 X shapeCasts_S1024x1024_S1024x1024 = X := shapeCast_self X _

theorem elt_congr {x x' : EReal} {ys ys' ya ya' : Fin 1024 → EReal} {g g' : Fin 2048 → EReal}
    {ws ws' wa wa' : Fin 1024 → Fin 1024 → EReal} {wo wo' : Fin 1024 → EReal} (hx : x = x') (hys : ∀ j, ys j = ys' j)
    (hya : ∀ j, ya j = ya' j) (hg : ∀ j, g j = g' j) (hws : ∀ j k, ws j k = ws' j k) (hwa : ∀ j k, wa j k = wa' j k)
    (hwo : ∀ k, wo k = wo' k) : elt x ys ya g ws wa wo = elt x' ys' ya' g' ws' wa' wo' := by
  obtain rfl := hx; obtain rfl := funext hys; obtain rfl := funext hya; obtain rfl := funext hg
  obtain rfl := funext₂ hws; obtain rfl := funext₂ hwa; obtain rfl := funext hwo; rfl

theorem emb_lower (x : r0_0.shape.Idx) :
    r0_0.emb x = ix2 (n0 := 1024) (n1 := 1024) ⟨(x 0).val, by have h : (x 0).val < 512 := (x 0).isLt; omega⟩ (x 1) := by
  funext a; apply Fin.ext
  match a with
  | ⟨0, _⟩ => show 0 + 1 * (x 0).val = (x 0).val; omega
  | ⟨1, _⟩ => show 0 + 1 * (x 1).val = (x 1).val; omega

theorem emb_upper (x : r0_2.shape.Idx) :
    r0_2.emb x = ix2 (n0 := 1024) (n1 := 1024) ⟨512 + (x 0).val, by have h : (x 0).val < 512 := (x 0).isLt; omega⟩ (x 1) := by
  funext a; apply Fin.ext
  match a with
  | ⟨0, _⟩ => show 512 + 1 * (x 0).val = 512 + (x 0).val; omega
  | ⟨1, _⟩ => show 0 + 1 * (x 1).val = (x 1).val; omega

theorem out_eq (x0 : Vec Ideal S1024x1024 .f32) (x1 : Vec Ideal S1024x1024 .bf16) (x2 : Vec Ideal S1024x1024 .bf16)
    (x3 : Vec Ideal S1024x2048 .bf16) (x4 : Vec Ideal S1024x1024 .bf16) (x5 : Vec Ideal S1024x1024 .bf16)
    (x6 : Vec Ideal S1024x1024 .bf16) : out0_7 x0 x1 x2 x3 x4 x5 x6 = blockOf x0 x1 x2 x3 x4 x5 x6 := by
  funext y
  unfold out0_7
  rw [whole_ld x4, whole_ld x5, whole_ld x6]
  refine View.canon_apply_of_pieces (blockOf x0 x1 x2 x3 x4 x5 x6) _ ?_ y (cover0_7 _ _ y)
  simp only [List.forall_mem_cons, List.not_mem_nil, false_imp_iff, implies_true, and_true]
  refine ⟨fun x => ?_, fun x => ?_⟩
  · rw [emb_upper]
    unfold_payloads
    pointwise
    simp only [bits_half, half_tanh, cast_self, blockOf, elt]
    rfl
  · rw [emb_lower]
    unfold_payloads
    pointwise
    simp only [bits_half, half_tanh, cast_self, blockOf, elt]
    rfl

/-! ## The array -/

variable (m : (ℓ : Loc nD τ sig) → Buf (Elt Ideal) ℓ) (c : Dev nD)

/-- The result array of the argument arrays. -/
def result (a0 : Vec Ideal S32768x1024 .f32) (a1 a2 : Vec Ideal S32768x1024 .bf16) (a3 : Vec Ideal S32768x2048 .bf16)
    (a4 : Vec Ideal S1024 .f32) (a5 a6 a7 : Vec Ideal S1024x1024 .f32) : Vec Ideal S32768x1024 .f32 := fun i =>
  elt (a0 i) (fun j => a1 (ix2 (i 0) j)) (fun j => a2 (ix2 (i 0) j)) (fun j => a3 (ix2 (i 0) j))
    (fun j k => a4 (ix1 j) * a5 (ix2 j k)) (fun j k => a6 (ix2 j k)) (fun k => a7 (ix2 k (i 1)))

/-- The arguments as launched. -/
abbrev A0 : Vec Ideal S32768x1024 .f32 := m ((c : Thread nD τ).loc main_arg0)
abbrev A1 : Vec Ideal S32768x1024 .bf16 := m ((c : Thread nD τ).loc main_arg1)
abbrev A2 : Vec Ideal S32768x1024 .bf16 := m ((c : Thread nD τ).loc main_arg2)
abbrev A3 : Vec Ideal S32768x2048 .bf16 := m ((c : Thread nD τ).loc main_arg3)
abbrev A4 : Vec Ideal S1024 .f32 := m ((c : Thread nD τ).loc main_arg4)
abbrev A5 : Vec Ideal S1024x1024 .f32 := m ((c : Thread nD τ).loc main_arg5)
abbrev A6 : Vec Ideal S1024x1024 .f32 := m ((c : Thread nD τ).loc main_arg6)
abbrev A7 : Vec Ideal S1024x1024 .f32 := m ((c : Thread nD τ).loc main_arg7)

theorem V_v3 (j k : Fin 1024) : (V m c main_v3 : Vec Ideal S1024x1024 .bf16) (ix2 j k) = A4 m c (ix1 j) * A5 m c (ix2 j k) := by
  have h : (V m c main_v3 : Vec Ideal S1024x1024 .bf16)
      = truncf (F := Ideal) .bf16 (mulf (broadcastInDim S1024x1024 ![0, 1] bcast_S1024x1_S1024x1024_0_1
        (broadcastInDim S1024x1 ![0] bcast_S1024_S1024x1_0 (A4 m c))) (A5 m c)) bitsLt_bf16_f32 := by
    unfold V; after_results
  rw [h]
  pointwise

theorem V_v4 : (V m c main_v4 : Vec Ideal S1024x1024 .bf16) = A6 m c := by
  have h : (V m c main_v4 : Vec Ideal S1024x1024 .bf16) = truncf (F := Ideal) .bf16 (A6 m c) bitsLt_bf16_f32 := by
    unfold V; after_results
  rw [h]; rfl

theorem V_v5 : (V m c main_v5 : Vec Ideal S1024x1024 .bf16) = A7 m c := by
  have h : (V m c main_v5 : Vec Ideal S1024x1024 .bf16) = truncf (F := Ideal) .bf16 (A7 m c) bitsLt_bf16_f32 := by
    unfold V; after_results
  rw [h]; rfl

/-- Which block each window is on at a grid point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row `r` of block `t`. -/
def row (t : Fin cfg0.N) (r : Fin 1024) : Fin 32768 :=
  ⟨1024 * t.val + r.val, by have h : t.val < 32 := t.isLt; omega⟩

theorem iblk0 (t : Fin cfg0.N) (j : S1024x1024.Idx) :
    iblk m c 0 t j = A0 m c (ix2 (row t (j 0)) (j 1)) := by
  refine Eq.trans ?_ (congrFun (V_main_arg0 m c) _)
  refine congrArg (V m c main_arg0) (funext fun a => Fin.ext ?_)
  obtain ⟨⟨e0, e1⟩, -⟩ := idx_facts t
  match a with
  | ⟨0, _⟩ => show win0_0.index t (0 : Fin 2) * 1024 + 1 * (j 0).val = 1024 * t.val + (j 0).val; omega
  | ⟨1, _⟩ => show win0_0.index t (1 : Fin 2) * 1024 + 1 * (j 1).val = (j 1).val; omega

theorem iblk1 (t : Fin cfg0.N) (j : S1024x1024.Idx) :
    iblk m c 1 t j = A1 m c (ix2 (row t (j 0)) (j 1)) := by
  refine Eq.trans ?_ (congrFun (V_main_arg1 m c) _)
  refine congrArg (V m c main_arg1) (funext fun a => Fin.ext ?_)
  obtain ⟨-, ⟨e0, e1⟩, -⟩ := idx_facts t
  match a with
  | ⟨0, _⟩ => show win0_1.index t (0 : Fin 2) * 1024 + 1 * (j 0).val = 1024 * t.val + (j 0).val; omega
  | ⟨1, _⟩ => show win0_1.index t (1 : Fin 2) * 1024 + 1 * (j 1).val = (j 1).val; omega

theorem iblk2 (t : Fin cfg0.N) (j : S1024x1024.Idx) :
    iblk m c 2 t j = A2 m c (ix2 (row t (j 0)) (j 1)) := by
  refine Eq.trans ?_ (congrFun (V_main_arg2 m c) _)
  refine congrArg (V m c main_arg2) (funext fun a => Fin.ext ?_)
  obtain ⟨-, -, ⟨e0, e1⟩, -⟩ := idx_facts t
  match a with
  | ⟨0, _⟩ => show win0_2.index t (0 : Fin 2) * 1024 + 1 * (j 0).val = 1024 * t.val + (j 0).val; omega
  | ⟨1, _⟩ => show win0_2.index t (1 : Fin 2) * 1024 + 1 * (j 1).val = (j 1).val; omega

theorem iblk3 (t : Fin cfg0.N) (j : S1024x2048.Idx) :
    iblk m c 3 t j = A3 m c (ix2 (row t (j 0)) (j 1)) := by
  refine Eq.trans ?_ (congrFun (V_main_arg3 m c) _)
  refine congrArg (V m c main_arg3) (funext fun a => Fin.ext ?_)
  obtain ⟨-, -, -, ⟨e0, e1⟩, -⟩ := idx_facts t
  match a with
  | ⟨0, _⟩ => show win0_3.index t (0 : Fin 2) * 1024 + 1 * (j 0).val = 1024 * t.val + (j 0).val; omega
  | ⟨1, _⟩ => show win0_3.index t (1 : Fin 2) * 2048 + 1 * (j 1).val = (j 1).val; omega

theorem iblk4 (t : Fin cfg0.N) (j : S1024x1024.Idx) : iblk m c 4 t j = V m c main_v3 j := by
  refine congrArg (V m c main_v3) (funext fun a => Fin.ext ?_)
  obtain ⟨-, -, -, -, ⟨e0, e1⟩, -⟩ := idx_facts t
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem iblk5 (t : Fin cfg0.N) (j : S1024x1024.Idx) : iblk m c 5 t j = V m c main_v4 j := by
  refine congrArg (V m c main_v4) (funext fun a => Fin.ext ?_)
  obtain ⟨-, -, -, -, -, ⟨e0, e1⟩, -⟩ := idx_facts t
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem iblk6 (t : Fin cfg0.N) (j : S1024x1024.Idx) : iblk m c 6 t j = V m c main_v5 j := by
  refine congrArg (V m c main_v5) (funext fun a => Fin.ext ?_)
  obtain ⟨-, -, -, -, -, -, ⟨e0, e1⟩, -⟩ := idx_facts t
  match a with
  | ⟨0, _⟩ => show win0_6.index t (0 : Fin 2) * 1024 + 1 * (j 0).val = (j 0).val; omega
  | ⟨1, _⟩ => show win0_6.index t (1 : Fin 2) * 1024 + 1 * (j 1).val = (j 1).val; omega

theorem emb7 (t : Fin cfg0.N) (j : S1024x1024.Idx) : ((cfg0.win 7).blk t).view.emb j = ix2 (row t (j 0)) (j 1) := by
  funext a; apply Fin.ext
  obtain ⟨-, -, -, -, -, -, -, e0, e1⟩ := idx_facts t
  match a with
  | ⟨0, _⟩ => show win0_7.index t (0 : Fin 2) * 1024 + 1 * (j 0).val = 1024 * t.val + (j 0).val; omega
  | ⟨1, _⟩ => show win0_7.index t (1 : Fin 2) * 1024 + 1 * (j 1).val = (j 1).val; omega

/-- The kernel's result array is `result` of its arguments. -/
theorem array : (dats m 0 c).arrAt 7 cfg0.N = result (A0 m c) (A1 m c) (A2 m c) (A3 m c)
    (A4 m c) (A5 m c) (A6 m c) (A7 m c) := by
  refine (dats m 0 c).arrAt_eq_of_cover 7 _ (fun t _ => ?_) (fun i => ?_)
  · rw [Value.flushed7, out_eq]
    funext j
    show blockOf _ _ _ _ _ _ _ j = result _ _ _ _ _ _ _ _ (((cfg0.win 7).blk t).view.emb j)
    rw [emb7]
    exact elt_congr (iblk0 m c t j) (fun k => iblk1 m c t (ix2 (j 0) k)) (fun k => iblk2 m c t (ix2 (j 0) k))
      (fun k => iblk3 m c t (ix2 (j 0) k)) (fun k l => (iblk4 m c t (ix2 k l)).trans (V_v3 m c k l))
      (fun k l => (iblk5 m c t (ix2 k l)).trans (congrFun (V_v4 m c) _))
      (fun k => (iblk6 m c t (ix2 k (j 1))).trans (congrFun (V_v5 m c) _))
  · have h0 : (i 0).val < 32768 := (i 0).isLt
    obtain ⟨t, r, hi⟩ : ∃ (t : Fin cfg0.N) (r : Fin 1024), ix2 (row t r) (i 1) = i :=
      ⟨⟨(i 0).val / 1024, by show _ < 32; omega⟩, ⟨(i 0).val % 1024, by omega⟩, by
        funext a; apply Fin.ext
        match a with
        | ⟨0, _⟩ => show 1024 * ((i 0).val / 1024) + (i 0).val % 1024 = (i 0).val; omega
        | ⟨1, _⟩ => rfl⟩
    refine ⟨t, flush0_7 t, ?_⟩
    have h := ((cfg0.win 7).blk t).view.emb_mem_set (ix2 (n0 := 1024) (n1 := 1024) r (i 1))
    exact (congrArg (fun z => z ∈ ((cfg0.win 7).blk t).view.set) ((emb7 t _).trans hi)).mp h

/-! ## The reference -/

open Cert.MergeRefIdeal.Read in
theorem ref_eq (a0 : Vec Ideal S32768x1024 .f32) (a1 a2 : Vec Ideal S32768x1024 .bf16) (a3 : Vec Ideal S32768x2048 .bf16)
    (a4 : Vec Ideal S1024 .f32) (a5 a6 a7 : Vec Ideal S1024x1024 .f32) :
    val_main_v20 (F := Ideal) a0 a1 a2 a3 a4 a5 a6 a7 = result a0 a1 a2 a3 a4 a5 a6 a7 := by
  funext i
  rw [← val_main_v20_eq]
  pointwise
  unfold result elt
  simp only [mul_assoc]
  rfl

end Cert.Proof.Merge

end
-- ==== Proof.Ffn.lean ====
/- The feed-forward call with the closing normalisation: what the kernel's run leaves in its result array, and what the
   reference's leaves there, as one function of the argument arrays. -/
module

public import proofs.«01_k».proof.Proof.Common
public import proofs.«01_k».proof.Proof.Gen.FfnIdeal.Value
public import proofs.«01_k».proof.Proof.Gen.FfnRefIdeal.Read
public import proofs.«01_k».proof.Pre_finite_gate

@[expose] public section

noncomputable section

namespace Cert.Proof.Ffn

open Cert.FfnIdeal Cert.FfnIdeal.Gen Idealize.ShloMosaic Idealize.ShloMosaic.TcCoe Idealize.SL.Sem
open Cert.Proof.Common

/-! ## One grid point's block -/

/-- The normalised rows of a block. -/
def H (x0 : Vec Ideal S1024x1024 .f32) (x1 : Vec Ideal S1x1024 .f32) : Vec Ideal S1024x1024 .bf16 := fun i =>
  rms (fun k => x0 (ix2 (i 0) k)) (fun k => x1 (ix2 0 k)) (i 1)

/-- The gated hidden rows of normalised rows `h`. -/
def A (h : Vec Ideal S1024x1024 .bf16) (x2 : Vec Ideal S1024x5632 .bf16) : Vec Ideal S1024x2816 .bf16 := fun i =>
  gateT (∑ k : Fin 1024, h (ix2 (i 0) k) * x2 (ix2 k ⟨(i 1).val, lt_trans (i 1).isLt (by decide)⟩))
    * ∑ k : Fin 1024, h (ix2 (i 0) k) * x2 (ix2 k ⟨2816 + (i 1).val, by have h : (i 1).val < 2816 := (i 1).isLt; omega⟩)

/-- The residual rows of gated rows `a`. -/
def Y (x0 : Vec Ideal S1024x1024 .f32) (a : Vec Ideal S1024x2816 .bf16) (x3 : Vec Ideal S2816x1024 .bf16) (r k : Fin 1024) : EReal :=
  x0 (ix2 r k) + Ideal.ofBits .f32 0x3F000000#32 * ∑ j : Fin 2816, a (ix2 r j) * x3 (ix2 j k)

/-- One grid point's block of the result, from the blocks of the arguments. -/
def blockOf (x0 : Vec Ideal S1024x1024 .f32) (x1 : Vec Ideal S1x1024 .f32) (x2 : Vec Ideal S1024x5632 .bf16)
    (x3 : Vec Ideal S2816x1024 .bf16) (x4 : Vec Ideal S1x1024 .f32) : Vec Ideal S1024x1024 .f32 := fun i =>
  rms (fun k => Y x0 (A (H x0 x1) x2) x3 (i 0) k) (fun k => x4 (ix2 0 k)) (i 1)

/-- A block's normalised half, as stored. -/
theorem h_piece (x0 : Vec Ideal S1024x1024 .f32) (x1 : Vec Ideal S1x1024 .f32) (a : Nat)
    (h : ∀ d, (![a, 0] : Fin 2 → Nat) d + S512x1024.size d ≤ S1024x1024.size d) (h1) (x : S512x1024.Idx) :
    k0_pay2 (View.ld x0 (Rect.unit ![a, 0] S512x1024.size h)) (View.ld x1 (Rect.unit ![0, 0] S1x1024.size h1)) x
      = H x0 x1 ((Rect.unit ![a, 0] S512x1024.size h : Rect S1024x1024).emb x) := by
  refine Eq.trans ?_ (congrArg (H x0 x1) (emb_unit 1024 1024 512 1024 a 0 h x).symm)
  unfold_payloads
  pointwise
  simp only [H, rms, Nat.zero_add]
  rfl

/-- A block's gated tile, as stored. -/
theorem a_piece (h : Vec Ideal S1024x1024 .bf16) (x2 : Vec Ideal S1024x5632 .bf16) (a c d : Nat) (hd : d = 2816 + c)
    (h1 : ∀ i, (![a, c] : Fin 2 → Nat) i + S512x256.size i ≤ S1024x2816.size i) (h2) (h3) (h4) (x : S512x256.Idx) :
    k0_pay3 (View.ld h (Rect.unit ![a, 0] S512x1024.size h2)) (View.ld x2 (Rect.unit ![0, c] S1024x256.size h3))
        (View.ld x2 (Rect.unit ![0, d] S1024x256.size h4)) x
      = A h x2 ((Rect.unit ![a, c] S512x256.size h1 : Rect S1024x2816).emb x) := by
  subst hd
  refine Eq.trans ?_ (congrArg (A h x2) (emb_unit 1024 2816 512 256 a c h1 x).symm)
  unfold_payloads
  pointwise
  simp only [A, gateT, Nat.add_assoc]
  rfl

/-- A block's half of the result, as stored. -/
theorem y_piece (x0 : Vec Ideal S1024x1024 .f32) (g : Vec Ideal S1024x2816 .bf16) (x3 : Vec Ideal S2816x1024 .bf16)
    (x4 : Vec Ideal S1x1024 .f32) (a : Nat)
    (h : ∀ i, (![a, 0] : Fin 2 → Nat) i + S512x1024.size i ≤ S1024x1024.size i) (h1) (h2) (h3) (x : S512x1024.Idx) :
    k0_pay20 (k0_pay18 (View.ld g (Rect.unit ![a, 0] S512x2816.size h1)) (View.ld x3 (Rect.unit ![0, 0] S2816x1024.size h2)))
        (View.ld x0 (Rect.unit ![a, 0] S512x1024.size h)) (Scalar.ofBits .f32 0x3F000000#32)
        (View.ld x4 (Rect.unit ![0, 0] S1x1024.size h3)) x
      = (fun i : S1024x1024.Idx => rms (fun k => Y x0 g x3 (i 0) k) (fun k => x4 (ix2 0 k)) (i 1))
          ((Rect.unit ![a, 0] S512x1024.size h : Rect S1024x1024).emb x) := by
  refine Eq.trans ?_ (congrArg (fun i : S1024x1024.Idx => rms (fun k => Y x0 g x3 (i 0) k) (fun k => x4 (ix2 0 k)) (i 1))
    (emb_unit 1024 1024 512 1024 a 0 h x).symm)
  unfold_payloads
  pointwise
  simp only [Y, rms, Nat.zero_add]

/-! ## The scratch buffers read back -/

abbrev top : Rect S1024x1024 := Rect.unit ![0, 0] S512x1024.size inb_S1024x1024_S512x1024_0_0
abbrev low : Rect S1024x1024 := Rect.unit ![512, 0] S512x1024.size inb_S1024x1024_S512x1024_512_0

abbrev one : Rect S1x1024 := Rect.unit ![0, 0] S1x1024.size inb_S1x1024_S1x1024_0_0

variable {sg : RefSig}

theorem h_top {κ κ' κ'' : Kind} {sp sp' sp'' : Space} (v : View sg κ sp S1024x1024 .bf16) (v1 : View sg κ' sp' S1024x1024 .f32)
    (v2 : View sg κ'' sp'' S1x1024 .f32) (f1 : v1.ty.Contents (Elt Ideal)) (f2 : v2.ty.Contents (Elt Ideal)) :
    v.readCov (Val := Elt Ideal) [⟨top, k0_pay2 (View.readAt (Elt Ideal) v1 (Rect.toLoadRect top) f1)
      (View.readAt (Elt Ideal) v2 (Rect.toLoadRect one) f2)⟩] top.toLoadRect
      = View.ld (H (v1.read (Elt Ideal) f1) (v2.read (Elt Ideal) f2)) top := by
  rw [View.readCov_cons_toLoadRect v top _ []]
  funext x
  exact h_piece (v1.read (Elt Ideal) f1) (v2.read (Elt Ideal) f2) 0 _ _ x

theorem h_low {κ κ' κ'' : Kind} {sp sp' sp'' : Space} (v : View sg κ sp S1024x1024 .bf16) (v1 : View sg κ' sp' S1024x1024 .f32)
    (v2 : View sg κ'' sp'' S1x1024 .f32) (f1 : v1.ty.Contents (Elt Ideal)) (f2 : v2.ty.Contents (Elt Ideal)) (L) :
    v.readCov (Val := Elt Ideal) (⟨low, k0_pay4 (View.readAt (Elt Ideal) v1 (Rect.toLoadRect low) f1)
      (View.readAt (Elt Ideal) v2 (Rect.toLoadRect one) f2)⟩ :: L) low.toLoadRect
      = View.ld (H (v1.read (Elt Ideal) f1) (v2.read (Elt Ideal) f2)) low := by
  rw [View.readCov_cons_toLoadRect]
  funext x
  exact h_piece (v1.read (Elt Ideal) f1) (v2.read (Elt Ideal) f2) 512 _ _ x

theorem disj : Disjoint low.set top.set := by
  rw [Finset.disjoint_left]
  intro y h1 h2
  have e1 : 512 ≤ (y 0).val := (Rect.mem_set_unit.1 h1 0).1
  have e2 : (y 0).val < 0 + 512 := (Rect.mem_set_unit.1 h2 0).2
  omega

/-- The upper half read back after the lower one is stored. -/
theorem h_top' {κ κ' κ'' : Kind} {sp sp' sp'' : Space} (v : View sg κ sp S1024x1024 .bf16) (v1 : View sg κ' sp' S1024x1024 .f32)
    (v2 : View sg κ'' sp'' S1x1024 .f32) (f1 : v1.ty.Contents (Elt Ideal)) (f2 : v2.ty.Contents (Elt Ideal)) (w : low.shape.Idx → Elt Ideal .bf16) :
    v.readCov (Val := Elt Ideal) [⟨low, w⟩, ⟨top, k0_pay2 (View.readAt (Elt Ideal) v1 (Rect.toLoadRect top) f1)
      (View.readAt (Elt Ideal) v2 (Rect.toLoadRect one) f2)⟩] top.toLoadRect
      = View.ld (H (v1.read (Elt Ideal) f1) (v2.read (Elt Ideal) f2)) top :=
  (View.readCov_cons_of_disjoint v ⟨low, w⟩ _ top.toLoadRect disj).trans (h_top v v1 v2 f1 f2)

/-! The gated tiles are one function of a normalised half and two tiles of weights. -/

section
variable (R : Vec Ideal S512x1024 .bf16) (W U : Vec Ideal S1024x256 .bf16)

theorem p5 : k0_pay5 R W U = k0_pay3 R W U := rfl
theorem p6 : k0_pay6 R W U = k0_pay3 R W U := rfl
theorem p7 : k0_pay7 R W U = k0_pay3 R W U := rfl
theorem p8 : k0_pay8 R W U = k0_pay3 R W U := rfl
theorem p9 : k0_pay9 R W U = k0_pay3 R W U := rfl
theorem p11 : k0_pay11 R (k0_pay10 W) U = k0_pay3 R W U := rfl
theorem p12 : k0_pay12 R W U = k0_pay3 R W U := rfl
theorem p14 : k0_pay14 R (k0_pay13 R W) U = k0_pay3 R W U := rfl
theorem p15 : k0_pay15 R W U = k0_pay3 R W U := rfl
theorem p17 : k0_pay17 R (k0_pay16 R W) U = k0_pay3 R W U := rfl
theorem p19 : k0_pay19 R W U = k0_pay3 R W U := rfl
theorem p21 : k0_pay21 R W U = k0_pay3 R W U := rfl
theorem p22 : k0_pay22 R W U = k0_pay3 R W U := rfl
theorem p23 : k0_pay23 R W U = k0_pay3 R W U := rfl
theorem p25 : k0_pay25 R (k0_pay24 W) U = k0_pay3 R W U := rfl
theorem p26 : k0_pay26 R W U = k0_pay3 R W U := rfl
theorem p28 : k0_pay28 R (k0_pay27 R W) U = k0_pay3 R W U := rfl
theorem p29 : k0_pay29 R W U = k0_pay3 R W U := rfl
theorem p31 : k0_pay31 R (k0_pay30 R W) U = k0_pay3 R W U := rfl
theorem p32 : k0_pay32 R W U = k0_pay3 R W U := rfl
theorem p35 : k0_pay35 R (k0_pay33 R W) (k0_pay34 U) = k0_pay3 R W U := rfl

end

/-- A gated tile of the upper half, from the normalised half read back. -/
theorem gate_top {κ κ' : Kind} {sp sp' : Space} (v : View sg κ sp S1024x1024 .bf16) (L) (x0 : Vec Ideal S1024x1024 .f32)
    (x1 : Vec Ideal S1x1024 .f32) (v3 : View sg κ' sp' S1024x5632 .bf16) (f : v3.ty.Contents (Elt Ideal))
    (hL : v.readCov (Val := Elt Ideal) L top.toLoadRect = View.ld (H x0 x1) top)
    (c d : Nat) (hd : d = 2816 + c) (h1) (h3) (h4) (P : Vec Ideal S512x256 .bf16)
    (hP : P = k0_pay3 (v.readCov (Val := Elt Ideal) L top.toLoadRect) (View.readAt (Elt Ideal) v3 (Rect.unit ![0, c] S1024x256.size h3 : Rect S1024x5632).toLoadRect f)
        (View.readAt (Elt Ideal) v3 (Rect.unit ![0, d] S1024x256.size h4 : Rect S1024x5632).toLoadRect f)) (x : S512x256.Idx) :
    P x = A (H x0 x1) (v3.read (Elt Ideal) f) ((Rect.unit ![0, c] S512x256.size h1 : Rect S1024x2816).emb x) := by
  rw [hP, hL]; exact a_piece _ _ 0 c d hd _ _ _ _ x

/-- A gated tile of the lower half, from the normalised half read back. -/
theorem gate_low {κ κ' : Kind} {sp sp' : Space} (v : View sg κ sp S1024x1024 .bf16) (L) (x0 : Vec Ideal S1024x1024 .f32)
    (x1 : Vec Ideal S1x1024 .f32) (v3 : View sg κ' sp' S1024x5632 .bf16) (f : v3.ty.Contents (Elt Ideal))
    (hL : v.readCov (Val := Elt Ideal) L low.toLoadRect = View.ld (H x0 x1) low)
    (c d : Nat) (hd : d = 2816 + c) (h1) (h3) (h4) (P : Vec Ideal S512x256 .bf16)
    (hP : P = k0_pay3 (v.readCov (Val := Elt Ideal) L low.toLoadRect) (View.readAt (Elt Ideal) v3 (Rect.unit ![0, c] S1024x256.size h3 : Rect S1024x5632).toLoadRect f)
        (View.readAt (Elt Ideal) v3 (Rect.unit ![0, d] S1024x256.size h4 : Rect S1024x5632).toLoadRect f)) (x : S512x256.Idx) :
    P x = A (H x0 x1) (v3.read (Elt Ideal) f) ((Rect.unit ![512, c] S512x256.size h1 : Rect S1024x2816).emb x) := by
  rw [hP, hL]; exact a_piece _ _ 512 c d hd _ _ _ _ x

/-- A half of the result, from the gated rows read back. -/
theorem y_half (R : Vec Ideal S512x2816 .bf16) (x0 : Vec Ideal S1024x1024 .f32) (g : Vec Ideal S1024x2816 .bf16) (x3 : Vec Ideal S2816x1024 .bf16)
    (x4 : Vec Ideal S1x1024 .f32) (a : Nat)
    (h : ∀ i, (![a, 0] : Fin 2 → Nat) i + S512x1024.size i ≤ S1024x1024.size i) (h1) (h2) (h3) (x : S512x1024.Idx)
    (hR : R = View.ld g (Rect.unit ![a, 0] S512x2816.size h1)) :
    k0_pay20 (k0_pay18 R (View.ld x3 (Rect.unit ![0, 0] S2816x1024.size h2)))
        (View.ld x0 (Rect.unit ![a, 0] S512x1024.size h)) (Scalar.ofBits .f32 0x3F000000#32)
        (View.ld x4 (Rect.unit ![0, 0] S1x1024.size h3)) x
      = (fun i : S1024x1024.Idx => rms (fun k => Y x0 g x3 (i 0) k) (fun k => x4 (ix2 0 k)) (i 1))
          ((Rect.unit ![a, 0] S512x1024.size h : Rect S1024x1024).emb x) := by
  rw [hR]; exact y_piece x0 g x3 x4 a h h1 h2 h3 x

theorem cover_step {a b : Nat} {h : ∀ i, (![a, b] : Fin 2 → Nat) i + S512x256.size i ≤ S1024x2816.size i}
    {w : S512x256.Idx → Elt Ideal .bf16} {L : List (View.Piece (Elt Ideal) S1024x2816 .bf16)} {y : S1024x2816.Idx}
    (h0 : a ≤ (y 0).val ∧ (y 0).val < a + 512) (h1 : (y 1).val < b + 256)
    (rest : (y 1).val < b → ∃ p ∈ L, y ∈ p.1.set) :
    ∃ p ∈ ((⟨(Rect.unit ![a, b] S512x256.size h : Rect S1024x2816), w⟩ : View.Piece (Elt Ideal) S1024x2816 .bf16) :: L), y ∈ p.1.set := by
  by_cases hb : b ≤ (y 1).val
  · exact ⟨_, List.mem_cons_self, mem_unit (h := h) h0 ⟨hb, h1⟩⟩
  · obtain ⟨p, hp, hy⟩ := rest (by omega)
    exact ⟨p, List.mem_cons_of_mem _ hp, hy⟩

set_option maxHeartbeats 1000000 in
theorem body_eq (c : Dev nD) (i : grid0.Coords) (arg1 : Memref sig .tc .vmem S1024x1024 .f32) (harg1 : arg1.IsWhole)
    (arg2 : Memref sig .tc .vmem S1x1024 .f32) (harg2 : arg2.IsWhole) (arg3 : Memref sig .tc .vmem S1024x5632 .bf16) (harg3 : arg3.IsWhole)
    (arg4 : Memref sig .tc .vmem S2816x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .bf16) (harg7 : arg7.IsWhole)
    (arg8 : Memref sig .tc .vmem S1024x2816 .bf16) (harg8 : arg8.IsWhole)
    (x0 : Vec Ideal S1024x1024 .f32) (x1 : Vec Ideal S1x1024 .f32) (x2 : Vec Ideal S1024x5632 .bf16) (x3 : Vec Ideal S2816x1024 .bf16)
    (x4 : Vec Ideal S1x1024 .f32) :
    out0_A_5 c i arg1 harg1 arg2 harg2 arg3 harg3 arg4 harg4 arg5 harg5 arg6 harg6 arg7 harg7 arg8 harg8 x0 x1 x2 x3 x4
      = blockOf x0 x1 x2 x3 x4 := by
  refine Eq.trans (?_ : _ = blockOf (arg1.view.read (Elt Ideal) (harg1.unread x0)) (arg2.view.read (Elt Ideal) (harg2.unread x1))
    (arg3.view.read (Elt Ideal) (harg3.unread x2)) (arg4.view.read (Elt Ideal) (harg4.unread x3))
    (arg5.view.read (Elt Ideal) (harg5.unread x4))) (by
      rw [harg1.read_unread, harg2.read_unread, harg3.read_unread, harg4.read_unread, harg5.read_unread])
  unfold out0_A_5
  rw [View.read_writes_junk_eq_canon]
  unfold kernelRun0_A; dsimp only; sl_unfold_words
  funext y
  have hl := h_low arg7.view arg1.view arg2.view (harg1.unread x0) (harg2.unread x1)
    [⟨top, k0_pay2 (View.readAt (Elt Ideal) arg1.view (Rect.toLoadRect top) (harg1.unread x0))
      (View.readAt (Elt Ideal) arg2.view (Rect.toLoadRect one) (harg2.unread x1))⟩]
  have ht := h_top arg7.view arg1.view arg2.view (harg1.unread x0) (harg2.unread x1)
  have ht' := h_top' arg7.view arg1.view arg2.view (harg1.unread x0) (harg2.unread x1)
    (k0_pay4 (View.readAt (Elt Ideal) arg1.view (Rect.toLoadRect low) (harg1.unread x0))
      (View.readAt (Elt Ideal) arg2.view (Rect.toLoadRect one) (harg2.unread x1)))
  have gl := gate_low arg7.view _ _ _ arg3.view (harg3.unread x2) hl
  have gt := gate_top arg7.view _ _ _ arg3.view (harg3.unread x2) ht
  have gt' := gate_top arg7.view _ _ _ arg3.view (harg3.unread x2) ht'
  refine View.canon_apply_of_pieces (blockOf _ _ _ _ _) _ ?_ y ?_
  · refine List.forall_mem_cons.2 ⟨fun x => ?_, List.forall_mem_cons.2 ⟨fun x => ?_, fun _ h => absurd h List.not_mem_nil⟩⟩
    · refine y_half _ _ _ _ _ 512 _ inb_S1024x2816_S512x2816_512_0 _ _ x ?_
      refine readCov_eq_ld _ _ _ _ ?_ ?_
      · refine List.forall_mem_cons.2 ⟨gl 2560 5376 rfl inb_S1024x2816_S512x256_512_2560 inb_S1024x5632_S1024x256_0_2560 inb_S1024x5632_S1024x256_0_5376 _ (p35 _ _ _), ?_⟩
        refine List.forall_mem_cons.2 ⟨gl 2304 5120 rfl inb_S1024x2816_S512x256_512_2304 inb_S1024x5632_S1024x256_0_2304 inb_S1024x5632_S1024x256_0_5120 _ (p32 _ _ _), ?_⟩
        refine List.forall_mem_cons.2 ⟨gl 2048 4864 rfl inb_S1024x2816_S512x256_512_2048 inb_S1024x5632_S1024x256_0_2048 inb_S1024x5632_S1024x256_0_4864 _ (p31 _ _ _), ?_⟩
        refine List.forall_mem_cons.2 ⟨gl 1792 4608 rfl inb_S1024x2816_S512x256_512_1792 inb_S1024x5632_S1024x256_0_1792 inb_S1024x5632_S1024x256_0_4608 _ (p29 _ _ _), ?_⟩
        refine List.forall_mem_cons.2 ⟨gl 1536 4352 rfl inb_S1024x2816_S512x256_512_1536 inb_S1024x5632_S1024x256_0_1536 inb_S1024x5632_S1024x256_0_4352 _ (p28 _ _ _), ?_⟩
        refine List.forall_mem_cons.2 ⟨gl 1280 4096 rfl inb_S1024x2816_S512x256_512_1280 inb_S1024x5632_S1024x256_0_1280 inb_S1024x5632_S1024x256_0_4096 _ (p26 _ _ _), ?_⟩
        refine List.forall_mem_cons.2 ⟨gl 1024 3840 rfl inb_S1024x2816_S512x256_512_1024 inb_S1024x5632_S1024x256_0_1024 inb_S1024x5632_S1024x256_0_3840 _ (p25 _ _ _), ?_⟩
        refine List.forall_mem_cons.2 ⟨gl 768 3584 rfl inb_S1024x2816_S512x256_512_768 inb_S1024x5632_S1024x256_0_768 inb_S1024x5632_S1024x256_0_3584 _ (p23 _ _ _), ?_⟩
        refine List.forall_mem_cons.2 ⟨gl 512 3328 rfl inb_S1024x2816_S512x256_512_512 inb_S1024x5632_S1024x256_0_512 inb_S1024x5632_S1024x256_0_3328 _ (p22 _ _ _), ?_⟩
        refine List.forall_mem_cons.2 ⟨gl 256 3072 rfl inb_S1024x2816_S512x256_512_256 inb_S1024x5632_S1024x256_0_256 inb_S1024x5632_S1024x256_0_3072 _ (p21 _ _ _), ?_⟩
        refine List.forall_mem_cons.2 ⟨gl 0 2816 rfl inb_S1024x2816_S512x256_512_0 inb_S1024x5632_S1024x256_0_0 inb_S1024x5632_S1024x256_0_2816 _ (p19 _ _ _), ?_⟩
        refine List.forall_mem_cons.2 ⟨gt' 2560 5376 rfl inb_S1024x2816_S512x256_0_2560 inb_S1024x5632_S1024x256_0_2560 inb_S1024x5632_S1024x256_0_5376 _ (p17 _ _ _), ?_⟩
        refine List.forall_mem_cons.2 ⟨gt' 2304 5120 rfl inb_S1024x2816_S512x256_0_2304 inb_S1024x5632_S1024x256_0_2304 inb_S1024x5632_S1024x256_0_5120 _ (p15 _ _ _), ?_⟩
        refine List.forall_mem_cons.2 ⟨gt' 2048 4864 rfl inb_S1024x2816_S512x256_0_2048 inb_S1024x5632_S1024x256_0_2048 inb_S1024x5632_S1024x256_0_4864 _ (p14 _ _ _), ?_⟩
        refine List.forall_mem_cons.2 ⟨gt' 1792 4608 rfl inb_S1024x2816_S512x256_0_1792 inb_S1024x5632_S1024x256_0_1792 inb_S1024x5632_S1024x256_0_4608 _ (p12 _ _ _), ?_⟩
        refine List.forall_mem_cons.2 ⟨gt' 1536 4352 rfl inb_S1024x2816_S512x256_0_1536 inb_S1024x5632_S1024x256_0_1536 inb_S1024x5632_S1024x256_0_4352 _ (p11 _ _ _), ?_⟩
        refine List.forall_mem_cons.2 ⟨gt' 1280 4096 rfl inb_S1024x2816_S512x256_0_1280 inb_S1024x5632_S1024x256_0_1280 inb_S1024x5632_S1024x256_0_4096 _ (p9 _ _ _), ?_⟩
        refine List.forall_mem_cons.2 ⟨gt' 1024 3840 rfl inb_S1024x2816_S512x256_0_1024 inb_S1024x5632_S1024x256_0_1024 inb_S1024x5632_S1024x256_0_3840 _ (p8 _ _ _), ?_⟩
        refine List.forall_mem_cons.2 ⟨gt' 768 3584 rfl inb_S1024x2816_S512x256_0_768 inb_S1024x5632_S1024x256_0_768 inb_S1024x5632_S1024x256_0_3584 _ (p7 _ _ _), ?_⟩
        refine List.forall_mem_cons.2 ⟨gt' 512 3328 rfl inb_S1024x2816_S512x256_0_512 inb_S1024x5632_S1024x256_0_512 inb_S1024x5632_S1024x256_0_3328 _ (p6 _ _ _), ?_⟩
        refine List.forall_mem_cons.2 ⟨gt' 256 3072 rfl inb_S1024x2816_S512x256_0_256 inb_S1024x5632_S1024x256_0_256 inb_S1024x5632_S1024x256_0_3072 _ (p5 _ _ _), ?_⟩
        refine List.forall_mem_cons.2 ⟨gt 0 2816 rfl inb_S1024x2816_S512x256_0_0 inb_S1024x5632_S1024x256_0_0 inb_S1024x5632_S1024x256_0_2816 _ rfl, ?_⟩
        exact fun _ h => absurd h List.not_mem_nil
      · intro j
        have hm := Rect.mem_set_unit.1 (LoadRect.idx_mem (Rect.toLoadRect (Rect.unit ![512, 0] S512x2816.size inb_S1024x2816_S512x2816_512_0 : Rect S1024x2816)) j)
        have hr := hm 0
        refine cover_step hr (Nat.lt_of_lt_of_eq (hm 1).2 rfl) <| fun h => cover_step hr h fun h => cover_step hr h fun h => cover_step hr h fun h => cover_step hr h fun h => cover_step hr h fun h => cover_step hr h fun h => cover_step hr h fun h => cover_step hr h fun h => cover_step hr h fun h => cover_step hr h <| fun h => absurd h (Nat.not_lt_zero _)
    · refine y_half _ _ _ _ _ 0 _ inb_S1024x2816_S512x2816_0_0 _ _ x ?_
      refine readCov_eq_ld _ _ _ _ ?_ ?_
      · refine List.forall_mem_cons.2 ⟨gt' 2560 5376 rfl inb_S1024x2816_S512x256_0_2560 inb_S1024x5632_S1024x256_0_2560 inb_S1024x5632_S1024x256_0_5376 _ (p17 _ _ _), ?_⟩
        refine List.forall_mem_cons.2 ⟨gt' 2304 5120 rfl inb_S1024x2816_S512x256_0_2304 inb_S1024x5632_S1024x256_0_2304 inb_S1024x5632_S1024x256_0_5120 _ (p15 _ _ _), ?_⟩
        refine List.forall_mem_cons.2 ⟨gt' 2048 4864 rfl inb_S1024x2816_S512x256_0_2048 inb_S1024x5632_S1024x256_0_2048 inb_S1024x5632_S1024x256_0_4864 _ (p14 _ _ _), ?_⟩
        refine List.forall_mem_cons.2 ⟨gt' 1792 4608 rfl inb_S1024x2816_S512x256_0_1792 inb_S1024x5632_S1024x256_0_1792 inb_S1024x5632_S1024x256_0_4608 _ (p12 _ _ _), ?_⟩
        refine List.forall_mem_cons.2 ⟨gt' 1536 4352 rfl inb_S1024x2816_S512x256_0_1536 inb_S1024x5632_S1024x256_0_1536 inb_S1024x5632_S1024x256_0_4352 _ (p11 _ _ _), ?_⟩
        refine List.forall_mem_cons.2 ⟨gt' 1280 4096 rfl inb_S1024x2816_S512x256_0_1280 inb_S1024x5632_S1024x256_0_1280 inb_S1024x5632_S1024x256_0_4096 _ (p9 _ _ _), ?_⟩
        refine List.forall_mem_cons.2 ⟨gt' 1024 3840 rfl inb_S1024x2816_S512x256_0_1024 inb_S1024x5632_S1024x256_0_1024 inb_S1024x5632_S1024x256_0_3840 _ (p8 _ _ _), ?_⟩
        refine List.forall_mem_cons.2 ⟨gt' 768 3584 rfl inb_S1024x2816_S512x256_0_768 inb_S1024x5632_S1024x256_0_768 inb_S1024x5632_S1024x256_0_3584 _ (p7 _ _ _), ?_⟩
        refine List.forall_mem_cons.2 ⟨gt' 512 3328 rfl inb_S1024x2816_S512x256_0_512 inb_S1024x5632_S1024x256_0_512 inb_S1024x5632_S1024x256_0_3328 _ (p6 _ _ _), ?_⟩
        refine List.forall_mem_cons.2 ⟨gt' 256 3072 rfl inb_S1024x2816_S512x256_0_256 inb_S1024x5632_S1024x256_0_256 inb_S1024x5632_S1024x256_0_3072 _ (p5 _ _ _), ?_⟩
        refine List.forall_mem_cons.2 ⟨gt 0 2816 rfl inb_S1024x2816_S512x256_0_0 inb_S1024x5632_S1024x256_0_0 inb_S1024x5632_S1024x256_0_2816 _ rfl, ?_⟩
        exact fun _ h => absurd h List.not_mem_nil
      · intro j
        have hm := Rect.mem_set_unit.1 (LoadRect.idx_mem (Rect.toLoadRect (Rect.unit ![0, 0] S512x2816.size inb_S1024x2816_S512x2816_0_0 : Rect S1024x2816)) j)
        have hr := hm 0
        refine cover_step hr (Nat.lt_of_lt_of_eq (hm 1).2 rfl) <| fun h => cover_step hr h fun h => cover_step hr h fun h => cover_step hr h fun h => cover_step hr h fun h => cover_step hr h fun h => cover_step hr h fun h => cover_step hr h fun h => cover_step hr h fun h => cover_step hr h fun h => cover_step hr h <| fun h => absurd h (Nat.not_lt_zero _)
  · by_cases hy : (y 0).val < 512
    · exact ⟨_, List.mem_cons_of_mem _ List.mem_cons_self, mem_unit (h := inb_S1024x1024_S512x1024_0_0) ⟨Nat.zero_le _, by omega⟩ ⟨Nat.zero_le _, (y 1).isLt⟩⟩
    · exact ⟨_, List.mem_cons_self, mem_unit (h := inb_S1024x1024_S512x1024_512_0) ⟨by omega, (y 0).isLt⟩ ⟨Nat.zero_le _, (y 1).isLt⟩⟩

/-! ## The array -/

/-- One element of the result: of the row, the weights and the gate `φ`. -/
def elt (φ : EReal → EReal) (x w : Fin 1024 → EReal) (wg wu : Fin 1024 → Fin 2816 → EReal) (wd : Fin 2816 → Fin 1024 → EReal)
    (fw : Fin 1024 → EReal) (k : Fin 1024) : EReal :=
  rms (fun k => x k + Ideal.ofBits .f32 0x3F000000#32 * ∑ j : Fin 2816,
    φ (∑ l : Fin 1024, rms x w l * wg l j) * (∑ l : Fin 1024, rms x w l * wu l j) * wd j k) fw k

theorem elt_congr {φ : EReal → EReal} {x x' w w' : Fin 1024 → EReal} {wg wg' wu wu' : Fin 1024 → Fin 2816 → EReal}
    {wd wd' : Fin 2816 → Fin 1024 → EReal} {fw fw' : Fin 1024 → EReal} (k : Fin 1024) (hx : ∀ j, x j = x' j) (hw : ∀ j, w j = w' j)
    (hg : ∀ l j, wg l j = wg' l j) (hu : ∀ l j, wu l j = wu' l j) (hd : ∀ j k, wd j k = wd' j k) (hf : ∀ j, fw j = fw' j) :
    elt φ x w wg wu wd fw k = elt φ x' w' wg' wu' wd' fw' k := by
  obtain rfl := funext hx; obtain rfl := funext hw; obtain rfl := funext₂ hg; obtain rfl := funext₂ hu
  obtain rfl := funext₂ hd; obtain rfl := funext hf; rfl

/-- The result array of the argument arrays. -/
def result (φ : EReal → EReal) (a0 : Vec Ideal S32768x1024 .f32) (a1 : Vec Ideal S1024 .f32) (a2 : Vec Ideal S1024x5632 .f32)
    (a3 : Vec Ideal S2816x1024 .f32) (a4 : Vec Ideal S1024 .f32) : Vec Ideal S32768x1024 .f32 := fun i =>
  elt φ (fun j => a0 (ix2 (i 0) j)) (fun j => a1 (ix1 j)) (fun l j => a2 (ix2 l ⟨j.val, by omega⟩))
    (fun l j => a2 (ix2 l ⟨2816 + j.val, by omega⟩)) (fun j k => a3 (ix2 j k)) (fun j => a4 (ix1 j)) (i 1)

variable (m : (ℓ : Loc nD τ sig) → Buf (Elt Ideal) ℓ) (c : Dev nD)

/-- The arguments as launched. -/
abbrev A0 : Vec Ideal S32768x1024 .f32 := m ((c : Thread nD τ).loc main_arg0)
abbrev A1 : Vec Ideal S1024 .f32 := m ((c : Thread nD τ).loc main_arg1)
abbrev A2 : Vec Ideal S1024x5632 .f32 := m ((c : Thread nD τ).loc main_arg2)
abbrev A3 : Vec Ideal S2816x1024 .f32 := m ((c : Thread nD τ).loc main_arg3)
abbrev A4 : Vec Ideal S1024 .f32 := m ((c : Thread nD τ).loc main_arg4)

theorem V_v0 (j : Fin 1024) : (V m c main_v0 : Vec Ideal S1x1024 .f32) (ix2 0 j) = A1 m c (ix1 j) := by
  have h : (V m c main_v0 : Vec Ideal S1x1024 .f32) = shapeCast S1x1024 (A1 m c) shapeCasts_S1024_S1x1024 := by
    unfold V; after_results; rfl
  rw [h]
  pointwise

theorem V_v1 : (V m c main_v1 : Vec Ideal S1024x5632 .bf16) = A2 m c := by
  have h : (V m c main_v1 : Vec Ideal S1024x5632 .bf16) = truncf (F := Ideal) .bf16 (A2 m c) bitsLt_bf16_f32 := by
    unfold V; after_results
  rw [h]; rfl

theorem V_v2 : (V m c main_v2 : Vec Ideal S2816x1024 .bf16) = A3 m c := by
  have h : (V m c main_v2 : Vec Ideal S2816x1024 .bf16) = truncf (F := Ideal) .bf16 (A3 m c) bitsLt_bf16_f32 := by
    unfold V; after_results
  rw [h]; rfl

theorem V_v3 (j : Fin 1024) : (V m c main_v3 : Vec Ideal S1x1024 .f32) (ix2 0 j) = A4 m c (ix1 j) := by
  have h : (V m c main_v3 : Vec Ideal S1x1024 .f32) = shapeCast S1x1024 (A4 m c) shapeCasts_S1024_S1x1024 := by
    unfold V; after_results; rfl
  rw [h]
  pointwise

/-- Which block each window is on at a grid point. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `r` of block `t`. -/
def row (t : Fin cfg0.N) (r : Fin 1024) : Fin 32768 :=
  ⟨1024 * t.val + r.val, by have h : t.val < 32 := t.isLt; omega⟩

theorem iblk0 (t : Fin cfg0.N) (j : S1024x1024.Idx) :
    iblk m c 0 t j = A0 m c (ix2 (row t (j 0)) (j 1)) := by
  refine Eq.trans ?_ (congrFun (V_main_arg0 m c) _)
  refine congrArg (V m c main_arg0) (funext fun a => Fin.ext ?_)
  obtain ⟨⟨e0, e1⟩, -⟩ := idx_facts t
  match a with
  | ⟨0, _⟩ => show win0_0.index t (0 : Fin 2) * 1024 + 1 * (j 0).val = 1024 * t.val + (j 0).val; omega
  | ⟨1, _⟩ => show win0_0.index t (1 : Fin 2) * 1024 + 1 * (j 1).val = (j 1).val; omega

theorem iblk1 (t : Fin cfg0.N) (j : S1x1024.Idx) : iblk m c 1 t j = V m c main_v0 j := by
  refine congrArg (V m c main_v0) (funext fun a => Fin.ext ?_)
  obtain ⟨-, ⟨e0, e1⟩, -⟩ := idx_facts t
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2 (t : Fin cfg0.N) (j : S1024x5632.Idx) : iblk m c 2 t j = V m c main_v1 j := by
  refine congrArg (V m c main_v1) (funext fun a => Fin.ext ?_)
  obtain ⟨-, -, ⟨e0, e1⟩, -⟩ := idx_facts t
  match a with
  | ⟨0, _⟩ => show win0_2.index t (0 : Fin 2) * 1024 + 1 * (j 0).val = (j 0).val; omega
  | ⟨1, _⟩ => show win0_2.index t (1 : Fin 2) * 5632 + 1 * (j 1).val = (j 1).val; omega

theorem iblk3 (t : Fin cfg0.N) (j : S2816x1024.Idx) : iblk m c 3 t j = V m c main_v2 j := by
  refine congrArg (V m c main_v2) (funext fun a => Fin.ext ?_)
  obtain ⟨-, -, -, ⟨e0, e1⟩, -⟩ := idx_facts t
  match a with
  | ⟨0, _⟩ => show win0_3.index t (0 : Fin 2) * 2816 + 1 * (j 0).val = (j 0).val; omega
  | ⟨1, _⟩ => show win0_3.index t (1 : Fin 2) * 1024 + 1 * (j 1).val = (j 1).val; omega

theorem iblk4 (t : Fin cfg0.N) (j : S1x1024.Idx) : iblk m c 4 t j = V m c main_v3 j := by
  refine congrArg (V m c main_v3) (funext fun a => Fin.ext ?_)
  obtain ⟨-, -, -, -, ⟨e0, e1⟩, -⟩ := idx_facts t
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem emb5 (t : Fin cfg0.N) (j : S1024x1024.Idx) : ((cfg0.win 5).blk t).view.emb j = ix2 (row t (j 0)) (j 1) := by
  funext a; apply Fin.ext
  obtain ⟨-, -, -, -, -, e0, e1⟩ := idx_facts t
  match a with
  | ⟨0, _⟩ => show win0_5.index t (0 : Fin 2) * 1024 + 1 * (j 0).val = 1024 * t.val + (j 0).val; omega
  | ⟨1, _⟩ => show win0_5.index t (1 : Fin 2) * 1024 + 1 * (j 1).val = (j 1).val; omega

/-- The kernel's result array is `result` of its arguments. -/
theorem array : (dats m 0 c).arrAt 5 cfg0.N = result gateT (A0 m c) (A1 m c) (A2 m c) (A3 m c) (A4 m c) := by
  refine (dats m 0 c).arrAt_eq_of_cover 5 _ (fun t _ => ?_) (fun i => ?_)
  · rw [Value.flushed5_A, body_eq]
    funext j
    show blockOf _ _ _ _ _ j = result _ _ _ _ _ _ (((cfg0.win 5).blk t).view.emb j)
    rw [emb5]
    exact elt_congr (j 1) (fun k => iblk0 m c t (ix2 (j 0) k)) (fun k => (iblk1 m c t (ix2 0 k)).trans (V_v0 m c k))
      (fun l k => (iblk2 m c t (ix2 l ⟨k.val, by omega⟩)).trans (congrFun (V_v1 m c) _))
      (fun l k => (iblk2 m c t (ix2 l ⟨2816 + k.val, by omega⟩)).trans (congrFun (V_v1 m c) _))
      (fun k l => (iblk3 m c t (ix2 k l)).trans (congrFun (V_v2 m c) _))
      (fun k => (iblk4 m c t (ix2 0 k)).trans (V_v3 m c k))
  · have h0 : (i 0).val < 32768 := (i 0).isLt
    obtain ⟨t, r, hi⟩ : ∃ (t : Fin cfg0.N) (r : Fin 1024), ix2 (row t r) (i 1) = i :=
      ⟨⟨(i 0).val / 1024, by show _ < 32; omega⟩, ⟨(i 0).val % 1024, by omega⟩, by
        funext a; apply Fin.ext
        match a with
        | ⟨0, _⟩ => show 1024 * ((i 0).val / 1024) + (i 0).val % 1024 = (i 0).val; omega
        | ⟨1, _⟩ => rfl⟩
    refine ⟨t, flush0_5 t, ?_⟩
    have h := ((cfg0.win 5).blk t).view.emb_mem_set (ix2 (n0 := 1024) (n1 := 1024) r (i 1))
    exact (congrArg (fun z => z ∈ ((cfg0.win 5).blk t).view.set) ((emb5 t _).trans hi)).mp h

/-! ## The reference -/

open Cert.FfnRefIdeal.Value in
theorem ref_eq (m : (ℓ : Loc Cert.FfnRefIdeal.nD Cert.FfnRefIdeal.τ Cert.FfnRefIdeal.sig) → Buf (Elt Ideal) ℓ)
    (c : Dev Cert.FfnRefIdeal.nD) :
    res_main_v34 m c = result (fun g => g * Ideal.logistic g) (m ((Dev.tc c).loc Cert.FfnRefIdeal.main_arg0))
      (m ((Dev.tc c).loc Cert.FfnRefIdeal.main_arg1)) (m ((Dev.tc c).loc Cert.FfnRefIdeal.main_arg2))
      (m ((Dev.tc c).loc Cert.FfnRefIdeal.main_arg3)) (m ((Dev.tc c).loc Cert.FfnRefIdeal.main_arg4)) := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  unfold res_main_v34
  pointwise
  simp only [result, elt, rms, Ideal.logistic]
  rfl

/-- The two ways of writing the gate agree on finite rows and weights. -/
theorem result_congr {a0 : Vec Ideal S32768x1024 .f32} {a1 : Vec Ideal S1024 .f32} {a2 : Vec Ideal S1024x5632 .f32}
    (a3 : Vec Ideal S2816x1024 .f32) (a4 : Vec Ideal S1024 .f32) (h0 : ∀ i, IsReal (a0 i)) (h1 : ∀ i, IsReal (a1 i))
    (h2 : ∀ i, IsReal (a2 i)) : result gateT a0 a1 a2 a3 a4 = result (fun g => g * Ideal.logistic g) a0 a1 a2 a3 a4 := by
  funext i
  unfold result elt
  refine congrArg (fun y => rms y _ _) (funext fun k => ?_)
  refine congrArg (fun s => _ + _ * s) (Finset.sum_congr rfl fun j _ => ?_)
  rw [gateT_real (IsReal.sum fun l => (rms_real (fun _ => h0 _) (fun _ => h1 _) l).mul (h2 _))]

/-- What the precondition says of the arguments. -/
theorem finite_args [Cert.Pre_finite_gate.Facts] {a0 : Vec Ideal S32768x1024 .f32} {a1 : Vec Ideal S1024 .f32} {a2 : Vec Ideal S1024x5632 .f32}
    {a3 : Vec Ideal S2816x1024 .f32} {a4 : Vec Ideal S1024 .f32}
    (h : Cert.Pre_finite_gate.fn (F := Ideal) a0 a1 a2 a3 a4 = fun _ => 1#1) :
    (∀ i, IsReal (a0 i)) ∧ (∀ i, IsReal (a1 i)) ∧ (∀ i, IsReal (a2 i)) := by
  have h' := congrFun h ix0
  unfold Cert.Pre_finite_gate.fn at h'
  dsimp only at h'
  obtain ⟨h01, h2⟩ := IntOp.andi_eq_one.1 h'
  obtain ⟨h0, h1⟩ := IntOp.andi_eq_one.1 h01
  exact ⟨fun i => isReal_of_cmp (Host.reduce_andi_all _ _ _ _ _ h0 i), fun i => isReal_of_cmp (Host.reduce_andi_all _ _ _ _ _ h1 i),
    fun i => isReal_of_cmp (Host.reduce_andi_all _ _ _ _ _ h2 i)⟩

end Cert.Proof.Ffn

end
-- ==== Proof.Ffn1.lean ====
/- The first feed-forward call, without the closing normalisation: what the kernel's run leaves in its result array, and
   what the reference's leaves there, as one function of the argument arrays. Its tiles are those of the closing call. -/
module

public import proofs.«01_k».proof.Proof.Ffn
public import proofs.«01_k».proof.Proof.Gen.Ffn1Ideal.Value
public import proofs.«01_k».proof.Proof.Gen.Ffn1RefIdeal.Read

@[expose] public section

noncomputable section

namespace Cert.Proof.Ffn1

open Cert.Ffn1Ideal Cert.Ffn1Ideal.Gen Idealize.ShloMosaic Idealize.ShloMosaic.TcCoe Idealize.SL.Sem
open Cert.Proof.Common
open Cert.Proof.Ffn (H A Y gate_top gate_low h_top h_low h_top' cover_step top low one)

/-! ## One grid point's block -/

/-- One grid point's block of the result, from the blocks of the arguments. -/
def blockOf (x0 : Vec Ideal S1024x1024 .f32) (x1 : Vec Ideal S1x1024 .f32) (x2 : Vec Ideal S1024x5632 .bf16)
    (x3 : Vec Ideal S2816x1024 .bf16) : Vec Ideal S1024x1024 .f32 := fun i =>
  Y x0 (A (H x0 x1) x2) x3 (i 0) (i 1)

/-! The gated tiles are the same function of a normalised half and two tiles of weights as in the closing call. -/

section
variable (R : Vec Ideal S512x1024 .bf16) (W U : Vec Ideal S1024x256 .bf16)

theorem p3 : k0_pay3 R W U = Cert.FfnIdeal.Gen.k0_pay3 R W U := rfl
theorem p5 : k0_pay5 R W U = Cert.FfnIdeal.Gen.k0_pay3 R W U := rfl
theorem p6 : k0_pay6 R W U = Cert.FfnIdeal.Gen.k0_pay3 R W U := rfl
theorem p7 : k0_pay7 R W U = Cert.FfnIdeal.Gen.k0_pay3 R W U := rfl
theorem p8 : k0_pay8 R W U = Cert.FfnIdeal.Gen.k0_pay3 R W U := rfl
theorem p9 : k0_pay9 R W U = Cert.FfnIdeal.Gen.k0_pay3 R W U := rfl
theorem p11 : k0_pay11 R (k0_pay10 W) U = Cert.FfnIdeal.Gen.k0_pay3 R W U := rfl
theorem p12 : k0_pay12 R W U = Cert.FfnIdeal.Gen.k0_pay3 R W U := rfl
theorem p14 : k0_pay14 R (k0_pay13 R W) U = Cert.FfnIdeal.Gen.k0_pay3 R W U := rfl
theorem p15 : k0_pay15 R W U = Cert.FfnIdeal.Gen.k0_pay3 R W U := rfl
theorem p17 : k0_pay17 R (k0_pay16 R W) U = Cert.FfnIdeal.Gen.k0_pay3 R W U := rfl
theorem p19 : k0_pay19 R W U = Cert.FfnIdeal.Gen.k0_pay3 R W U := rfl
theorem p21 : k0_pay21 R W U = Cert.FfnIdeal.Gen.k0_pay3 R W U := rfl
theorem p23 : k0_pay23 (k0_pay22 R W U) = Cert.FfnIdeal.Gen.k0_pay3 R W U := rfl
theorem p24 : k0_pay24 R W U = Cert.FfnIdeal.Gen.k0_pay3 R W U := rfl
theorem p26 : k0_pay26 (k0_pay25 R W U) = Cert.FfnIdeal.Gen.k0_pay3 R W U := rfl
theorem p27 : k0_pay27 R W U = Cert.FfnIdeal.Gen.k0_pay3 R W U := rfl
theorem p28 : k0_pay28 R W U = Cert.FfnIdeal.Gen.k0_pay3 R W U := rfl
theorem p29 : k0_pay29 R W U = Cert.FfnIdeal.Gen.k0_pay3 R W U := rfl
theorem p30 : k0_pay30 R W U = Cert.FfnIdeal.Gen.k0_pay3 R W U := rfl
theorem p31 : k0_pay31 R W U = Cert.FfnIdeal.Gen.k0_pay3 R W U := rfl
theorem p32 : k0_pay32 R W U = Cert.FfnIdeal.Gen.k0_pay3 R W U := rfl

end

/-- A half of the result, from the gated rows read back. -/
theorem y_half (R : Vec Ideal S512x2816 .bf16) (x0 : Vec Ideal S1024x1024 .f32) (g : Vec Ideal S1024x2816 .bf16) (x3 : Vec Ideal S2816x1024 .bf16)
    (a : Nat) (h : ∀ i, (![a, 0] : Fin 2 → Nat) i + S512x1024.size i ≤ S1024x1024.size i) (h1) (h2) (x : S512x1024.Idx)
    (hR : R = View.ld g (Rect.unit ![a, 0] S512x2816.size h1)) :
    k0_pay1 R (View.ld x3 (Rect.unit ![0, 0] S2816x1024.size h2)) (View.ld x0 (Rect.unit ![a, 0] S512x1024.size h)) x
      = (fun i : S1024x1024.Idx => Y x0 g x3 (i 0) (i 1)) ((Rect.unit ![a, 0] S512x1024.size h : Rect S1024x1024).emb x) := by
  rw [hR]
  refine Eq.trans ?_ (congrArg (fun i : S1024x1024.Idx => Y x0 g x3 (i 0) (i 1)) (emb_unit 1024 1024 512 1024 a 0 h x).symm)
  unfold_payloads
  pointwise
  simp only [Y, Nat.zero_add]

theorem p20 (R : Vec Ideal S512x2816 .bf16) (D : Vec Ideal S2816x1024 .bf16) (X : Vec Ideal S512x1024 .f32) :
    k0_pay20 (k0_pay18 R D) X (Scalar.ofBits .f32 0x3F000000#32) = k0_pay1 R D X := rfl

set_option maxHeartbeats 1000000 in
theorem body_eq (c : Dev nD) (i : grid0.Coords) (arg1 : Memref sig .tc .vmem S1024x1024 .f32) (harg1 : arg1.IsWhole)
    (arg2 : Memref sig .tc .vmem S1x1024 .f32) (harg2 : arg2.IsWhole) (arg3 : Memref sig .tc .vmem S1024x5632 .bf16) (harg3 : arg3.IsWhole)
    (arg4 : Memref sig .tc .vmem S2816x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .bf16) (harg7 : arg7.IsWhole)
    (arg8 : Memref sig .tc .vmem S1024x2816 .bf16) (harg8 : arg8.IsWhole)
    (x0 : Vec Ideal S1024x1024 .f32) (x1 : Vec Ideal S1x1024 .f32) (x2 : Vec Ideal S1024x5632 .bf16) (x3 : Vec Ideal S2816x1024 .bf16)
    (x4 : Vec Ideal S1x1024 .f32) :
    out0_A_5 c i arg1 harg1 arg2 harg2 arg3 harg3 arg4 harg4 arg5 harg5 arg6 harg6 arg7 harg7 arg8 harg8 x0 x1 x2 x3 x4
      = blockOf x0 x1 x2 x3 := by
  refine Eq.trans (?_ : _ = blockOf (arg1.view.read (Elt Ideal) (harg1.unread x0)) (arg2.view.read (Elt Ideal) (harg2.unread x1))
    (arg3.view.read (Elt Ideal) (harg3.unread x2)) (arg4.view.read (Elt Ideal) (harg4.unread x3))) (by
      rw [harg1.read_unread, harg2.read_unread, harg3.read_unread, harg4.read_unread])
  unfold out0_A_5
  rw [View.read_writes_junk_eq_canon]
  unfold kernelRun0_A; dsimp only; sl_unfold_words
  funext y
  have hl := h_low arg7.view arg1.view arg2.view (harg1.unread x0) (harg2.unread x1)
    [⟨top, Cert.FfnIdeal.Gen.k0_pay2 (View.readAt (Elt Ideal) arg1.view (Rect.toLoadRect top) (harg1.unread x0))
      (View.readAt (Elt Ideal) arg2.view (Rect.toLoadRect one) (harg2.unread x1))⟩]
  have ht := h_top arg7.view arg1.view arg2.view (harg1.unread x0) (harg2.unread x1)
  have ht' := h_top' arg7.view arg1.view arg2.view (harg1.unread x0) (harg2.unread x1)
    (Cert.FfnIdeal.Gen.k0_pay4 (View.readAt (Elt Ideal) arg1.view (Rect.toLoadRect low) (harg1.unread x0))
      (View.readAt (Elt Ideal) arg2.view (Rect.toLoadRect one) (harg2.unread x1)))
  have gl := gate_low arg7.view _ _ _ arg3.view (harg3.unread x2) hl
  have gt := gate_top arg7.view _ _ _ arg3.view (harg3.unread x2) ht
  have gt' := gate_top arg7.view _ _ _ arg3.view (harg3.unread x2) ht'
  refine View.canon_apply_of_pieces (blockOf _ _ _ _) _ ?_ y ?_
  · refine List.forall_mem_cons.2 ⟨fun x => ?_, List.forall_mem_cons.2 ⟨fun x => ?_, fun _ h => absurd h List.not_mem_nil⟩⟩
    · refine y_half _ _ _ _ 512 _ inb_S1024x2816_S512x2816_512_0 _ x ?_
      refine readCov_eq_ld _ _ _ _ ?_ ?_
      · refine List.forall_mem_cons.2 ⟨gl 2560 5376 rfl inb_S1024x2816_S512x256_512_2560 inb_S1024x5632_S1024x256_0_2560 inb_S1024x5632_S1024x256_0_5376 _ (p32 _ _ _), ?_⟩
        refine List.forall_mem_cons.2 ⟨gl 2304 5120 rfl inb_S1024x2816_S512x256_512_2304 inb_S1024x5632_S1024x256_0_2304 inb_S1024x5632_S1024x256_0_5120 _ (p31 _ _ _), ?_⟩
        refine List.forall_mem_cons.2 ⟨gl 2048 4864 rfl inb_S1024x2816_S512x256_512_2048 inb_S1024x5632_S1024x256_0_2048 inb_S1024x5632_S1024x256_0_4864 _ (p30 _ _ _), ?_⟩
        refine List.forall_mem_cons.2 ⟨gl 1792 4608 rfl inb_S1024x2816_S512x256_512_1792 inb_S1024x5632_S1024x256_0_1792 inb_S1024x5632_S1024x256_0_4608 _ (p29 _ _ _), ?_⟩
        refine List.forall_mem_cons.2 ⟨gl 1536 4352 rfl inb_S1024x2816_S512x256_512_1536 inb_S1024x5632_S1024x256_0_1536 inb_S1024x5632_S1024x256_0_4352 _ (p28 _ _ _), ?_⟩
        refine List.forall_mem_cons.2 ⟨gl 1280 4096 rfl inb_S1024x2816_S512x256_512_1280 inb_S1024x5632_S1024x256_0_1280 inb_S1024x5632_S1024x256_0_4096 _ (p27 _ _ _), ?_⟩
        refine List.forall_mem_cons.2 ⟨gl 1024 3840 rfl inb_S1024x2816_S512x256_512_1024 inb_S1024x5632_S1024x256_0_1024 inb_S1024x5632_S1024x256_0_3840 _ (p26 _ _ _), ?_⟩
        refine List.forall_mem_cons.2 ⟨gl 768 3584 rfl inb_S1024x2816_S512x256_512_768 inb_S1024x5632_S1024x256_0_768 inb_S1024x5632_S1024x256_0_3584 _ (p24 _ _ _), ?_⟩
        refine List.forall_mem_cons.2 ⟨gl 512 3328 rfl inb_S1024x2816_S512x256_512_512 inb_S1024x5632_S1024x256_0_512 inb_S1024x5632_S1024x256_0_3328 _ (p23 _ _ _), ?_⟩
        refine List.forall_mem_cons.2 ⟨gl 256 3072 rfl inb_S1024x2816_S512x256_512_256 inb_S1024x5632_S1024x256_0_256 inb_S1024x5632_S1024x256_0_3072 _ (p21 _ _ _), ?_⟩
        refine List.forall_mem_cons.2 ⟨gl 0 2816 rfl inb_S1024x2816_S512x256_512_0 inb_S1024x5632_S1024x256_0_0 inb_S1024x5632_S1024x256_0_2816 _ (p19 _ _ _), ?_⟩
        refine List.forall_mem_cons.2 ⟨gt' 2560 5376 rfl inb_S1024x2816_S512x256_0_2560 inb_S1024x5632_S1024x256_0_2560 inb_S1024x5632_S1024x256_0_5376 _ (p17 _ _ _), ?_⟩
        refine List.forall_mem_cons.2 ⟨gt' 2304 5120 rfl inb_S1024x2816_S512x256_0_2304 inb_S1024x5632_S1024x256_0_2304 inb_S1024x5632_S1024x256_0_5120 _ (p15 _ _ _), ?_⟩
        refine List.forall_mem_cons.2 ⟨gt' 2048 4864 rfl inb_S1024x2816_S512x256_0_2048 inb_S1024x5632_S1024x256_0_2048 inb_S1024x5632_S1024x256_0_4864 _ (p14 _ _ _), ?_⟩
        refine List.forall_mem_cons.2 ⟨gt' 1792 4608 rfl inb_S1024x2816_S512x256_0_1792 inb_S1024x5632_S1024x256_0_1792 inb_S1024x5632_S1024x256_0_4608 _ (p12 _ _ _), ?_⟩
        refine List.forall_mem_cons.2 ⟨gt' 1536 4352 rfl inb_S1024x2816_S512x256_0_1536 inb_S1024x5632_S1024x256_0_1536 inb_S1024x5632_S1024x256_0_4352 _ (p11 _ _ _), ?_⟩
        refine List.forall_mem_cons.2 ⟨gt' 1280 4096 rfl inb_S1024x2816_S512x256_0_1280 inb_S1024x5632_S1024x256_0_1280 inb_S1024x5632_S1024x256_0_4096 _ (p9 _ _ _), ?_⟩
        refine List.forall_mem_cons.2 ⟨gt' 1024 3840 rfl inb_S1024x2816_S512x256_0_1024 inb_S1024x5632_S1024x256_0_1024 inb_S1024x5632_S1024x256_0_3840 _ (p8 _ _ _), ?_⟩
        refine List.forall_mem_cons.2 ⟨gt' 768 3584 rfl inb_S1024x2816_S512x256_0_768 inb_S1024x5632_S1024x256_0_768 inb_S1024x5632_S1024x256_0_3584 _ (p7 _ _ _), ?_⟩
        refine List.forall_mem_cons.2 ⟨gt' 512 3328 rfl inb_S1024x2816_S512x256_0_512 inb_S1024x5632_S1024x256_0_512 inb_S1024x5632_S1024x256_0_3328 _ (p6 _ _ _), ?_⟩
        refine List.forall_mem_cons.2 ⟨gt' 256 3072 rfl inb_S1024x2816_S512x256_0_256 inb_S1024x5632_S1024x256_0_256 inb_S1024x5632_S1024x256_0_3072 _ (p5 _ _ _), ?_⟩
        refine List.forall_mem_cons.2 ⟨gt 0 2816 rfl inb_S1024x2816_S512x256_0_0 inb_S1024x5632_S1024x256_0_0 inb_S1024x5632_S1024x256_0_2816 _ (p3 _ _ _), ?_⟩
        exact fun _ h => absurd h List.not_mem_nil
      · intro j
        have hm := Rect.mem_set_unit.1 (LoadRect.idx_mem (Rect.toLoadRect (Rect.unit ![512, 0] S512x2816.size inb_S1024x2816_S512x2816_512_0 : Rect S1024x2816)) j)
        have hr := hm 0
        refine cover_step hr (Nat.lt_of_lt_of_eq (hm 1).2 rfl) <| fun h => cover_step hr h fun h => cover_step hr h fun h => cover_step hr h fun h => cover_step hr h fun h => cover_step hr h fun h => cover_step hr h fun h => cover_step hr h fun h => cover_step hr h fun h => cover_step hr h fun h => cover_step hr h <| fun h => absurd h (Nat.not_lt_zero _)
    · refine (congrFun (p20 _ _ _) x).trans (y_half _ _ _ _ 0 _ inb_S1024x2816_S512x2816_0_0 _ x ?_)
      refine readCov_eq_ld _ _ _ _ ?_ ?_
      · refine List.forall_mem_cons.2 ⟨gt' 2560 5376 rfl inb_S1024x2816_S512x256_0_2560 inb_S1024x5632_S1024x256_0_2560 inb_S1024x5632_S1024x256_0_5376 _ (p17 _ _ _), ?_⟩
        refine List.forall_mem_cons.2 ⟨gt' 2304 5120 rfl inb_S1024x2816_S512x256_0_2304 inb_S1024x5632_S1024x256_0_2304 inb_S1024x5632_S1024x256_0_5120 _ (p15 _ _ _), ?_⟩
        refine List.forall_mem_cons.2 ⟨gt' 2048 4864 rfl inb_S1024x2816_S512x256_0_2048 inb_S1024x5632_S1024x256_0_2048 inb_S1024x5632_S1024x256_0_4864 _ (p14 _ _ _), ?_⟩
        refine List.forall_mem_cons.2 ⟨gt' 1792 4608 rfl inb_S1024x2816_S512x256_0_1792 inb_S1024x5632_S1024x256_0_1792 inb_S1024x5632_S1024x256_0_4608 _ (p12 _ _ _), ?_⟩
        refine List.forall_mem_cons.2 ⟨gt' 1536 4352 rfl inb_S1024x2816_S512x256_0_1536 inb_S1024x5632_S1024x256_0_1536 inb_S1024x5632_S1024x256_0_4352 _ (p11 _ _ _), ?_⟩
        refine List.forall_mem_cons.2 ⟨gt' 1280 4096 rfl inb_S1024x2816_S512x256_0_1280 inb_S1024x5632_S1024x256_0_1280 inb_S1024x5632_S1024x256_0_4096 _ (p9 _ _ _), ?_⟩
        refine List.forall_mem_cons.2 ⟨gt' 1024 3840 rfl inb_S1024x2816_S512x256_0_1024 inb_S1024x5632_S1024x256_0_1024 inb_S1024x5632_S1024x256_0_3840 _ (p8 _ _ _), ?_⟩
        refine List.forall_mem_cons.2 ⟨gt' 768 3584 rfl inb_S1024x2816_S512x256_0_768 inb_S1024x5632_S1024x256_0_768 inb_S1024x5632_S1024x256_0_3584 _ (p7 _ _ _), ?_⟩
        refine List.forall_mem_cons.2 ⟨gt' 512 3328 rfl inb_S1024x2816_S512x256_0_512 inb_S1024x5632_S1024x256_0_512 inb_S1024x5632_S1024x256_0_3328 _ (p6 _ _ _), ?_⟩
        refine List.forall_mem_cons.2 ⟨gt' 256 3072 rfl inb_S1024x2816_S512x256_0_256 inb_S1024x5632_S1024x256_0_256 inb_S1024x5632_S1024x256_0_3072 _ (p5 _ _ _), ?_⟩
        refine List.forall_mem_cons.2 ⟨gt 0 2816 rfl inb_S1024x2816_S512x256_0_0 inb_S1024x5632_S1024x256_0_0 inb_S1024x5632_S1024x256_0_2816 _ (p3 _ _ _), ?_⟩
        exact fun _ h => absurd h List.not_mem_nil
      · intro j
        have hm := Rect.mem_set_unit.1 (LoadRect.idx_mem (Rect.toLoadRect (Rect.unit ![0, 0] S512x2816.size inb_S1024x2816_S512x2816_0_0 : Rect S1024x2816)) j)
        have hr := hm 0
        refine cover_step hr (Nat.lt_of_lt_of_eq (hm 1).2 rfl) <| fun h => cover_step hr h fun h => cover_step hr h fun h => cover_step hr h fun h => cover_step hr h fun h => cover_step hr h fun h => cover_step hr h fun h => cover_step hr h fun h => cover_step hr h fun h => cover_step hr h fun h => cover_step hr h <| fun h => absurd h (Nat.not_lt_zero _)
  · by_cases hy : (y 0).val < 512
    · exact ⟨_, List.mem_cons_of_mem _ List.mem_cons_self, mem_unit (h := inb_S1024x1024_S512x1024_0_0) ⟨Nat.zero_le _, by omega⟩ ⟨Nat.zero_le _, (y 1).isLt⟩⟩
    · exact ⟨_, List.mem_cons_self, mem_unit (h := inb_S1024x1024_S512x1024_512_0) ⟨by omega, (y 0).isLt⟩ ⟨Nat.zero_le _, (y 1).isLt⟩⟩

/-! ## The array -/

/-- One element of the result: of the row, the weights and the gate `φ`. -/
def elt (φ : EReal → EReal) (x w : Fin 1024 → EReal) (wg wu : Fin 1024 → Fin 2816 → EReal) (wd : Fin 2816 → Fin 1024 → EReal)
    (k : Fin 1024) : EReal :=
  x k + Ideal.ofBits .f32 0x3F000000#32 * ∑ j : Fin 2816,
    φ (∑ l : Fin 1024, rms x w l * wg l j) * (∑ l : Fin 1024, rms x w l * wu l j) * wd j k

theorem elt_congr {φ : EReal → EReal} {x x' w w' : Fin 1024 → EReal} {wg wg' wu wu' : Fin 1024 → Fin 2816 → EReal}
    {wd wd' : Fin 2816 → Fin 1024 → EReal} (k : Fin 1024) (hx : ∀ j, x j = x' j) (hw : ∀ j, w j = w' j)
    (hg : ∀ l j, wg l j = wg' l j) (hu : ∀ l j, wu l j = wu' l j) (hd : ∀ j k, wd j k = wd' j k) :
    elt φ x w wg wu wd k = elt φ x' w' wg' wu' wd' k := by
  obtain rfl := funext hx; obtain rfl := funext hw; obtain rfl := funext₂ hg; obtain rfl := funext₂ hu
  obtain rfl := funext₂ hd; rfl

theorem blockOf_eq (x0 : Vec Ideal S1024x1024 .f32) (x1 : Vec Ideal S1x1024 .f32) (x2 : Vec Ideal S1024x5632 .bf16)
    (x3 : Vec Ideal S2816x1024 .bf16) (j : S1024x1024.Idx) :
    blockOf x0 x1 x2 x3 j = elt gateT (fun k => x0 (ix2 (j 0) k)) (fun k => x1 (ix2 0 k)) (fun l k => x2 (ix2 l ⟨k.val, by omega⟩))
      (fun l k => x2 (ix2 l ⟨2816 + k.val, by omega⟩)) (fun k l => x3 (ix2 k l)) (j 1) := by
  unfold blockOf Y A H elt; rfl

/-- The result array of the argument arrays. -/
def result (φ : EReal → EReal) (a0 : Vec Ideal S32768x1024 .f32) (a1 : Vec Ideal S1024 .f32) (a2 : Vec Ideal S1024x5632 .f32)
    (a3 : Vec Ideal S2816x1024 .f32) : Vec Ideal S32768x1024 .f32 := fun i =>
  elt φ (fun j => a0 (ix2 (i 0) j)) (fun j => a1 (ix1 j)) (fun l j => a2 (ix2 l ⟨j.val, by omega⟩))
    (fun l j => a2 (ix2 l ⟨2816 + j.val, by omega⟩)) (fun j k => a3 (ix2 j k)) (i 1)

theorem result_eq (a0 : Vec Ideal S32768x1024 .f32) (a1 : Vec Ideal S1024 .f32) (a2 : Vec Ideal S1024x5632 .f32)
    (a3 : Vec Ideal S2816x1024 .f32) (r : Fin 32768) (k : Fin 1024) :
    result gateT a0 a1 a2 a3 (ix2 r k) = elt gateT (fun j => a0 (ix2 r j)) (fun j => a1 (ix1 j)) (fun l j => a2 (ix2 l ⟨j.val, by omega⟩))
      (fun l j => a2 (ix2 l ⟨2816 + j.val, by omega⟩)) (fun j k => a3 (ix2 j k)) k := rfl

variable (m : (ℓ : Loc nD τ sig) → Buf (Elt Ideal) ℓ) (c : Dev nD)

/-- The arguments as launched. -/
abbrev A0 : Vec Ideal S32768x1024 .f32 := m ((c : Thread nD τ).loc main_arg0)
abbrev A1 : Vec Ideal S1024 .f32 := m ((c : Thread nD τ).loc main_arg1)
abbrev A2 : Vec Ideal S1024x5632 .f32 := m ((c : Thread nD τ).loc main_arg2)
abbrev A3 : Vec Ideal S2816x1024 .f32 := m ((c : Thread nD τ).loc main_arg3)

theorem V_v0 (j : Fin 1024) : (V m c main_v0 : Vec Ideal S1x1024 .f32) (ix2 0 j) = A1 m c (ix1 j) := by
  have h : (V m c main_v0 : Vec Ideal S1x1024 .f32) = shapeCast S1x1024 (A1 m c) shapeCasts_S1024_S1x1024 := by
    unfold V; after_results; rfl
  rw [h]
  pointwise

theorem V_v1 : (V m c main_v1 : Vec Ideal S1024x5632 .bf16) = A2 m c := by
  have h : (V m c main_v1 : Vec Ideal S1024x5632 .bf16) = truncf (F := Ideal) .bf16 (A2 m c) bitsLt_bf16_f32 := by
    unfold V; after_results
  rw [h]; rfl

theorem V_v2 : (V m c main_v2 : Vec Ideal S2816x1024 .bf16) = A3 m c := by
  have h : (V m c main_v2 : Vec Ideal S2816x1024 .bf16) = truncf (F := Ideal) .bf16 (A3 m c) bitsLt_bf16_f32 := by
    unfold V; after_results
  rw [h]; rfl

/-- Which block each window is on at a grid point. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `r` of block `t`. -/
def row (t : Fin cfg0.N) (r : Fin 1024) : Fin 32768 :=
  ⟨1024 * t.val + r.val, by have h : t.val < 32 := t.isLt; omega⟩

theorem iblk0 (t : Fin cfg0.N) (j : S1024x1024.Idx) :
    iblk m c 0 t j = A0 m c (ix2 (row t (j 0)) (j 1)) := by
  refine Eq.trans ?_ (congrFun (V_main_arg0 m c) _)
  refine congrArg (V m c main_arg0) (funext fun a => Fin.ext ?_)
  obtain ⟨⟨e0, e1⟩, -⟩ := idx_facts t
  match a with
  | ⟨0, _⟩ => show win0_0.index t (0 : Fin 2) * 1024 + 1 * (j 0).val = 1024 * t.val + (j 0).val; omega
  | ⟨1, _⟩ => show win0_0.index t (1 : Fin 2) * 1024 + 1 * (j 1).val = (j 1).val; omega

theorem iblk1 (t : Fin cfg0.N) (j : S1x1024.Idx) : iblk m c 1 t j = V m c main_v0 j := by
  refine congrArg (V m c main_v0) (funext fun a => Fin.ext ?_)
  obtain ⟨-, ⟨e0, e1⟩, -⟩ := idx_facts t
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2 (t : Fin cfg0.N) (j : S1024x5632.Idx) : iblk m c 2 t j = V m c main_v1 j := by
  refine congrArg (V m c main_v1) (funext fun a => Fin.ext ?_)
  obtain ⟨-, -, ⟨e0, e1⟩, -⟩ := idx_facts t
  match a with
  | ⟨0, _⟩ => show win0_2.index t (0 : Fin 2) * 1024 + 1 * (j 0).val = (j 0).val; omega
  | ⟨1, _⟩ => show win0_2.index t (1 : Fin 2) * 5632 + 1 * (j 1).val = (j 1).val; omega

theorem iblk3 (t : Fin cfg0.N) (j : S2816x1024.Idx) : iblk m c 3 t j = V m c main_v2 j := by
  refine congrArg (V m c main_v2) (funext fun a => Fin.ext ?_)
  obtain ⟨-, -, -, ⟨e0, e1⟩, -⟩ := idx_facts t
  match a with
  | ⟨0, _⟩ => show win0_3.index t (0 : Fin 2) * 2816 + 1 * (j 0).val = (j 0).val; omega
  | ⟨1, _⟩ => show win0_3.index t (1 : Fin 2) * 1024 + 1 * (j 1).val = (j 1).val; omega

theorem emb5 (t : Fin cfg0.N) (j : S1024x1024.Idx) : ((cfg0.win 5).blk t).view.emb j = ix2 (row t (j 0)) (j 1) := by
  funext a; apply Fin.ext
  obtain ⟨-, -, -, -, -, e0, e1⟩ := idx_facts t
  match a with
  | ⟨0, _⟩ => show win0_5.index t (0 : Fin 2) * 1024 + 1 * (j 0).val = 1024 * t.val + (j 0).val; omega
  | ⟨1, _⟩ => show win0_5.index t (1 : Fin 2) * 1024 + 1 * (j 1).val = (j 1).val; omega

/-- The kernel's result array is `result` of its arguments. -/
theorem array : (dats m 0 c).arrAt 5 cfg0.N = result gateT (A0 m c) (A1 m c) (A2 m c) (A3 m c) := by
  refine (dats m 0 c).arrAt_eq_of_cover 5 _ (fun t _ => ?_) (fun i => ?_)
  · rw [Value.flushed5_A, body_eq]
    funext j
    show blockOf _ _ _ _ j = result _ _ _ _ _ (((cfg0.win 5).blk t).view.emb j)
    rw [emb5, blockOf_eq]
    refine Eq.trans ?_ (result_eq _ _ _ _ _ _).symm
    exact elt_congr (j 1) (fun k => iblk0 m c t (ix2 (j 0) k)) (fun k => (iblk1 m c t (ix2 0 k)).trans (V_v0 m c k))
      (fun l k => (iblk2 m c t (ix2 l ⟨k.val, by omega⟩)).trans (congrFun (V_v1 m c) _))
      (fun l k => (iblk2 m c t (ix2 l ⟨2816 + k.val, by omega⟩)).trans (congrFun (V_v1 m c) _))
      (fun k l => (iblk3 m c t (ix2 k l)).trans (congrFun (V_v2 m c) _))
  · have h0 : (i 0).val < 32768 := (i 0).isLt
    obtain ⟨t, r, hi⟩ : ∃ (t : Fin cfg0.N) (r : Fin 1024), ix2 (row t r) (i 1) = i :=
      ⟨⟨(i 0).val / 1024, by show _ < 32; omega⟩, ⟨(i 0).val % 1024, by omega⟩, by
        funext a; apply Fin.ext
        match a with
        | ⟨0, _⟩ => show 1024 * ((i 0).val / 1024) + (i 0).val % 1024 = (i 0).val; omega
        | ⟨1, _⟩ => rfl⟩
    refine ⟨t, flush0_5 t, ?_⟩
    have h := ((cfg0.win 5).blk t).view.emb_mem_set (ix2 (n0 := 1024) (n1 := 1024) r (i 1))
    exact (congrArg (fun z => z ∈ ((cfg0.win 5).blk t).view.set) ((emb5 t _).trans hi)).mp h

/-! ## The reference -/

open Cert.Ffn1RefIdeal.Read in
theorem ref_eq (a0 : Vec Ideal S32768x1024 .f32) (a1 : Vec Ideal S1024 .f32) (a2 : Vec Ideal S1024x5632 .f32)
    (a3 : Vec Ideal S2816x1024 .f32) :
    val_main_v21 (F := Ideal) a0 a1 a2 a3 = result (fun g => g * Ideal.logistic g) a0 a1 a2 a3 := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  rw [← val_main_v21_eq]
  pointwise
  simp only [result, elt, rms, Ideal.logistic]
  rfl

/-- The two ways of writing the gate agree on finite rows and weights. -/
theorem result_congr {a0 : Vec Ideal S32768x1024 .f32} {a1 : Vec Ideal S1024 .f32} {a2 : Vec Ideal S1024x5632 .f32}
    (a3 : Vec Ideal S2816x1024 .f32) (h0 : ∀ i, IsReal (a0 i)) (h1 : ∀ i, IsReal (a1 i))
    (h2 : ∀ i, IsReal (a2 i)) : result gateT a0 a1 a2 a3 = result (fun g => g * Ideal.logistic g) a0 a1 a2 a3 := by
  funext i
  unfold result elt
  refine congrArg (fun s => _ + _ * s) (Finset.sum_congr rfl fun j _ => ?_)
  rw [gateT_real (IsReal.sum fun l => (rms_real (fun _ => h0 _) (fun _ => h1 _) l).mul (h2 _))]

end Cert.Proof.Ffn1

end
-- ==== Proof.InProj.lean ====
/- The combined input projection: the blocks one grid point leaves in the seven result windows, as functions of the
   argument blocks. -/
module

public import proofs.«01_k».proof.Proof.Common
public import proofs.«01_k».proof.Proof.Gen.InProjIdeal.Value

@[expose] public section

noncomputable section

namespace Cert.Proof.InProj

open Cert.InProjIdeal Cert.InProjIdeal.Gen Idealize.ShloMosaic Idealize.ShloMosaic.TcCoe Idealize.SL.Sem
open Cert.Proof.Common

/-- The normalised rows of a block. -/
def H (x0 : Vec Ideal S512x1024 .f32) (x1 : Vec Ideal S1x1024 .f32) : Vec Ideal S512x1024 .bf16 := fun i =>
  rms (fun k => x0 (ix2 (i 0) k)) (fun k => x1 (ix2 0 k)) (i 1)

/-- A block of one result: the normalised rows times `n` columns of the weights from column `o`, each through `φ`. -/
def blk (φ : EReal → EReal) (n o : Nat) {N : Nat} (ho : o + n ≤ N) (x0 : Vec Ideal S512x1024 .f32) (x1 : Vec Ideal S1x1024 .f32)
    (w : Vec Ideal ⟨2, ![1024, N]⟩ .bf16) : (⟨2, ![512, n]⟩ : Shape).Idx → EReal := fun i =>
  φ (∑ k : Fin 1024, rms (fun k => x0 (ix2 (i 0) k)) (fun k => x1 (ix2 0 k)) k
    * w (ix2 k ⟨o + (i 1).val, by have h : (i 1).val < n := (i 1).isLt; omega⟩))

/-- The scale of the queries. -/
def qscale (x : EReal) : EReal := x * Ideal.ofBits .f32 0x3E38AA3B#32

theorem h_eq (x0 : Vec Ideal S512x1024 .f32) (x1 : Vec Ideal S1x1024 .f32) (h) (h1) :
    k0_pay3 (View.ld x0 (Rect.unit ![0, 0] S512x1024.size h)) (View.ld x1 (Rect.unit ![0, 0] S1x1024.size h1)) = H x0 x1 := by
  funext i
  obtain ⟨r, k, rfl⟩ : ∃ (r : Fin 512) (k : Fin 1024), i = ix2 r k := ⟨i 0, i 1, funext fun a => by
    match a with
    | ⟨0, _⟩ => rfl
    | ⟨1, _⟩ => rfl⟩
  unfold_payloads
  pointwise
  simp only [H, rms, Nat.zero_add]
  rfl

theorem lin_a (W : Vec Ideal S1024x512 .bf16) (R : Vec Ideal S512x1024 .bf16) (x : S512x512.Idx) :
    k0_pay19 R W x = ∑ k : Fin 1024, R (ix2 (x 0) k) * W (ix2 k (x 1)) := by
  obtain ⟨r, k, rfl⟩ : ∃ (r : Fin 512) (k : Fin 512), x = ix2 r k := ⟨x 0, x 1, funext fun a => by
    match a with
    | ⟨0, _⟩ => rfl
    | ⟨1, _⟩ => rfl⟩
  unfold_payloads
  pointwise

theorem lin_z (W : Vec Ideal S1024x512 .bf16) (R : Vec Ideal S512x1024 .bf16) (x : S512x512.Idx) :
    k0_pay4 R W x = gateT (k0_pay19 R W x) := rfl

theorem lin_q (W : Vec Ideal S1024x512 .bf16) (R : Vec Ideal S512x1024 .bf16) (x : S512x512.Idx) :
    k0_pay12 R W x = qscale (k0_pay19 R W x) := rfl

abbrev whole : Rect S512x1024 := Rect.unit ![0, 0] S512x1024.size inb_S512x1024_S512x1024_0_0
abbrev one : Rect S1x1024 := Rect.unit ![0, 0] S1x1024.size inb_S1x1024_S1x1024_0_0

/-- The normalised rows, as stored and read back. -/
theorem h_read {κ κ' κ'' : Kind} {sp sp' sp'' : Space} (v : View sig κ sp S512x1024 .bf16) (v1 : View sig κ' sp' S512x1024 .f32)
    (v2 : View sig κ'' sp'' S1x1024 .f32) (f1 : v1.ty.Contents (Elt Ideal)) (f2 : v2.ty.Contents (Elt Ideal)) :
    v.readCov (Val := Elt Ideal) [⟨whole, k0_pay3 (View.readAt (Elt Ideal) v1 (Rect.toLoadRect whole) f1)
      (View.readAt (Elt Ideal) v2 (Rect.toLoadRect one) f2)⟩] whole.toLoadRect
      = H (v1.read (Elt Ideal) f1) (v2.read (Elt Ideal) f2) := by
  rw [View.readCov_cons_toLoadRect v whole _ []]
  exact h_eq (v1.read (Elt Ideal) f1) (v2.read (Elt Ideal) f2) _ _

/-- A tile of a result, as stored. -/
theorem tile {κ κ' : Kind} {sp sp' : Space} (v : View sig κ sp S512x1024 .bf16) (L) (x0 : Vec Ideal S512x1024 .f32)
    (x1 : Vec Ideal S1x1024 .f32) {N : Nat} (v3 : View sig κ' sp' ⟨2, ![1024, N]⟩ .bf16) (f : v3.ty.Contents (Elt Ideal))
    (hL : v.readCov (Val := Elt Ideal) L whole.toLoadRect = H x0 x1) (φ : EReal → EReal)
    (n o : Nat) (ho : o + n ≤ N) (c d : Nat) (hd : d = o + c)
    (h1 : ∀ a, (![0, c] : Fin 2 → Nat) a + S512x512.size a ≤ (⟨2, ![512, n]⟩ : Shape).size a)
    (h3 : ∀ a, (![0, d] : Fin 2 → Nat) a + S1024x512.size a ≤ (⟨2, ![1024, N]⟩ : Shape).size a) (P : S512x512.Idx → EReal)
    (hP : ∀ x, P x = φ (k0_pay19 (v.readCov (Val := Elt Ideal) L whole.toLoadRect)
      (View.readAt (Elt Ideal) v3 (Rect.unit ![0, d] S1024x512.size h3 : Rect ⟨2, ![1024, N]⟩).toLoadRect f) x)) (x : S512x512.Idx) :
    P x = blk φ n o ho x0 x1 (v3.read (Elt Ideal) f) ((Rect.unit ![0, c] S512x512.size h1 : Rect ⟨2, ![512, n]⟩).emb x) := by
  subst hd
  rw [hP, hL, lin_a]
  refine Eq.trans ?_ (congrArg (blk φ n o ho x0 x1 (v3.read (Elt Ideal) f)) (emb_unit 512 n 512 512 0 c h1 x).symm)
  refine congrArg φ (Finset.sum_congr rfl fun k _ => congrArg₂ _ ?_ ?_)
  · simp only [H, Nat.zero_add]; rfl
  · refine congrArg (v3.read (Elt Ideal) f) ((emb_unit 1024 N 1024 512 0 (o + c) h3 (ix2 k (x 1))).trans ?_)
    funext a; apply Fin.ext
    match a with
    | ⟨0, _⟩ => show 0 + k.val = k.val; omega
    | ⟨1, _⟩ => show o + c + (x 1).val = o + (c + (x 1).val); omega

/-- The tile of the step sizes, as stored. -/
theorem tile_dt {κ κ' : Kind} {sp sp' : Space} (v : View sig κ sp S512x1024 .bf16) (L) (x0 : Vec Ideal S512x1024 .f32)
    (x1 : Vec Ideal S1x1024 .f32) (v3 : View sig κ' sp' S1024x48 .bf16) (f : v3.ty.Contents (Elt Ideal))
    (hL : v.readCov (Val := Elt Ideal) L whole.toLoadRect = H x0 x1) (h1) (h3) (P : S512x48.Idx → EReal)
    (hP : P = k0_pay2 (v.readCov (Val := Elt Ideal) L whole.toLoadRect)
      (View.readAt (Elt Ideal) v3 (Rect.unit ![0, 0] S1024x48.size h3 : Rect S1024x48).toLoadRect f)) (x : S512x48.Idx) :
    P x = blk id 48 0 (by decide) x0 x1 (v3.read (Elt Ideal) f) ((Rect.unit ![0, 0] S512x48.size h1 : Rect S512x48).emb x) := by
  rw [hP, hL]
  refine Eq.trans ?_ (congrArg (blk id 48 0 (by decide) x0 x1 (v3.read (Elt Ideal) f)) (emb_unit 512 48 512 48 0 0 h1 x).symm)
  show k0_pay2 (H x0 x1) (View.ld (v3.read (Elt Ideal) f) (Rect.unit ![0, 0] S1024x48.size h3 : Rect S1024x48)) x = _
  generalize v3.read (Elt Ideal) f = w
  obtain ⟨r, k, rfl⟩ : ∃ (r : Fin 512) (k : Fin 48), x = ix2 r k := ⟨x 0, x 1, funext fun a => by
    match a with
    | ⟨0, _⟩ => rfl
    | ⟨1, _⟩ => rfl⟩
  unfold_payloads
  pointwise
  simp only [H, blk, id, Nat.zero_add]
  rfl

theorem cover_step {n b : Nat} {h : ∀ i, (![0, b] : Fin 2 → Nat) i + S512x512.size i ≤ (⟨2, ![512, n]⟩ : Shape).size i}
    {w : S512x512.Idx → Elt Ideal .bf16} {L : List (View.Piece (Elt Ideal) ⟨2, ![512, n]⟩ .bf16)} {y : (⟨2, ![512, n]⟩ : Shape).Idx}
    (h1 : (y 1).val < b + 512)
    (rest : (y 1).val < b → ∃ p ∈ L, y ∈ p.1.set) :
    ∃ p ∈ ((⟨(Rect.unit ![0, b] S512x512.size h : Rect ⟨2, ![512, n]⟩), w⟩ : View.Piece (Elt Ideal) ⟨2, ![512, n]⟩ .bf16) :: L), y ∈ p.1.set := by
  by_cases hb : b ≤ (y 1).val
  · exact ⟨_, List.mem_cons_self, mem_unit (h := h) ⟨Nat.zero_le _, by have h : (y 0).val < 512 := (y 0).isLt; omega⟩ ⟨hb, h1⟩⟩
  · obtain ⟨p, hp, hy⟩ := rest (by omega)
    exact ⟨p, List.mem_cons_of_mem _ hp, hy⟩

section
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1024x2560 .bf16) (harg3 : arg3.IsWhole)
  (arg4 : Memref sig .tc .vmem S1024x5120 .bf16) (harg4 : arg4.IsWhole) (arg5 : Memref sig .tc .vmem S1024x48 .bf16) (harg5 : arg5.IsWhole)
  (arg6 : Memref sig .tc .vmem S512x1024 .bf16) (harg6 : arg6.IsWhole) (arg7 : Memref sig .tc .vmem S512x1536 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x2048 .bf16) (harg11 : arg11.IsWhole)
  (arg12 : Memref sig .tc .vmem S512x48 .f32) (harg12 : arg12.IsWhole) (arg13 : Memref sig .tc .vmem S512x1024 .bf16) (harg13 : arg13.IsWhole)
  (x0 : Vec Ideal S512x1024 .f32) (x1 : Vec Ideal S1x1024 .f32) (x2 : Vec Ideal S1024x2560 .bf16) (x3 : Vec Ideal S1024x5120 .bf16)
  (x4 : Vec Ideal S1024x48 .bf16)

theorem body_z :
    out0_A_5 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk gateT 1024 0 (by decide) x0 x1 x2 := by
  refine Eq.trans (?_ : _ = blk gateT 1024 0 (by decide) (arg1.view.read (Elt Ideal) (harg1.unread x0)) (arg2.view.read (Elt Ideal) (harg2.unread x1))
    (arg3.view.read (Elt Ideal) (harg3.unread x2))) (by rw [harg1.read_unread, harg2.read_unread, harg3.read_unread])
  unfold out0_A_5
  rw [View.read_writes_junk_eq_canon]
  unfold kernelRun0_A; dsimp only; sl_unfold_words
  funext y
  have t := tile arg13.view _ _ _ arg3.view (harg3.unread x2) (h_read arg13.view arg1.view arg2.view (harg1.unread x0) (harg2.unread x1)) gateT 1024 0 (by decide)
  refine View.canon_apply_of_pieces (Val := Elt Ideal) (e := .bf16) (blk gateT 1024 0 _ _ _ _) _ ?_ y ?_
  · refine List.forall_mem_cons.2 ⟨t 512 512 rfl inb_S512x1024_S512x512_0_512 inb_S1024x2560_S1024x512_0_512 _ (fun _ => rfl), ?_⟩
    refine List.forall_mem_cons.2 ⟨t 0 0 rfl inb_S512x1024_S512x512_0_0 inb_S1024x2560_S1024x512_0_0 _ (fun _ => rfl), ?_⟩
    exact fun _ h => absurd h List.not_mem_nil
  · exact cover_step (Nat.lt_of_lt_of_eq (y 1).isLt rfl) fun h => cover_step h fun h => absurd h (Nat.not_lt_zero _)

theorem body_xbc :
    out0_A_6 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk id 1536 1024 (by decide) x0 x1 x2 := by
  refine Eq.trans (?_ : _ = blk id 1536 1024 (by decide) (arg1.view.read (Elt Ideal) (harg1.unread x0)) (arg2.view.read (Elt Ideal) (harg2.unread x1))
    (arg3.view.read (Elt Ideal) (harg3.unread x2))) (by rw [harg1.read_unread, harg2.read_unread, harg3.read_unread])
  unfold out0_A_6
  rw [View.read_writes_junk_eq_canon]
  unfold kernelRun0_A; dsimp only; sl_unfold_words
  funext y
  have t := tile arg13.view _ _ _ arg3.view (harg3.unread x2) (h_read arg13.view arg1.view arg2.view (harg1.unread x0) (harg2.unread x1)) id 1536 1024 (by decide)
  refine View.canon_apply_of_pieces (Val := Elt Ideal) (e := .bf16) (blk id 1536 1024 _ _ _ _) _ ?_ y ?_
  · refine List.forall_mem_cons.2 ⟨t 1024 2048 rfl inb_S512x1536_S512x512_0_1024 inb_S1024x2560_S1024x512_0_2048 _ (fun _ => rfl), ?_⟩
    refine List.forall_mem_cons.2 ⟨t 512 1536 rfl inb_S512x1536_S512x512_0_512 inb_S1024x2560_S1024x512_0_1536 _ (fun _ => rfl), ?_⟩
    refine List.forall_mem_cons.2 ⟨t 0 1024 rfl inb_S512x1536_S512x512_0_0 inb_S1024x2560_S1024x512_0_1024 _ (fun _ => rfl), ?_⟩
    exact fun _ h => absurd h List.not_mem_nil
  · exact cover_step (Nat.lt_of_lt_of_eq (y 1).isLt rfl) fun h => cover_step h fun h => cover_step h fun h => absurd h (Nat.not_lt_zero _)

theorem body_q :
    out0_A_7 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk qscale 1024 0 (by decide) x0 x1 x3 := by
  refine Eq.trans (?_ : _ = blk qscale 1024 0 (by decide) (arg1.view.read (Elt Ideal) (harg1.unread x0)) (arg2.view.read (Elt Ideal) (harg2.unread x1))
    (arg4.view.read (Elt Ideal) (harg4.unread x3))) (by rw [harg1.read_unread, harg2.read_unread, harg4.read_unread])
  unfold out0_A_7
  rw [View.read_writes_junk_eq_canon]
  unfold kernelRun0_A; dsimp only; sl_unfold_words
  funext y
  have t := tile arg13.view _ _ _ arg4.view (harg4.unread x3) (h_read arg13.view arg1.view arg2.view (harg1.unread x0) (harg2.unread x1)) qscale 1024 0 (by decide)
  refine View.canon_apply_of_pieces (Val := Elt Ideal) (e := .bf16) (blk qscale 1024 0 _ _ _ _) _ ?_ y ?_
  · refine List.forall_mem_cons.2 ⟨t 512 512 rfl inb_S512x1024_S512x512_0_512 inb_S1024x5120_S1024x512_0_512 _ (fun _ => rfl), ?_⟩
    refine List.forall_mem_cons.2 ⟨t 0 0 rfl inb_S512x1024_S512x512_0_0 inb_S1024x5120_S1024x512_0_0 _ (fun _ => rfl), ?_⟩
    exact fun _ h => absurd h List.not_mem_nil
  · exact cover_step (Nat.lt_of_lt_of_eq (y 1).isLt rfl) fun h => cover_step h fun h => absurd h (Nat.not_lt_zero _)

theorem body_k :
    out0_A_8 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk id 1024 1024 (by decide) x0 x1 x3 := by
  refine Eq.trans (?_ : _ = blk id 1024 1024 (by decide) (arg1.view.read (Elt Ideal) (harg1.unread x0)) (arg2.view.read (Elt Ideal) (harg2.unread x1))
    (arg4.view.read (Elt Ideal) (harg4.unread x3))) (by rw [harg1.read_unread, harg2.read_unread, harg4.read_unread])
  unfold out0_A_8
  rw [View.read_writes_junk_eq_canon]
  unfold kernelRun0_A; dsimp only; sl_unfold_words
  funext y
  have t := tile arg13.view _ _ _ arg4.view (harg4.unread x3) (h_read arg13.view arg1.view arg2.view (harg1.unread x0) (harg2.unread x1)) id 1024 1024 (by decide)
  refine View.canon_apply_of_pieces (Val := Elt Ideal) (e := .bf16) (blk id 1024 1024 _ _ _ _) _ ?_ y ?_
  · refine List.forall_mem_cons.2 ⟨t 512 1536 rfl inb_S512x1024_S512x512_0_512 inb_S1024x5120_S1024x512_0_1536 _ (fun _ => rfl), ?_⟩
    refine List.forall_mem_cons.2 ⟨t 0 1024 rfl inb_S512x1024_S512x512_0_0 inb_S1024x5120_S1024x512_0_1024 _ (fun _ => rfl), ?_⟩
    exact fun _ h => absurd h List.not_mem_nil
  · exact cover_step (Nat.lt_of_lt_of_eq (y 1).isLt rfl) fun h => cover_step h fun h => absurd h (Nat.not_lt_zero _)

theorem body_v :
    out0_A_9 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk id 1024 2048 (by decide) x0 x1 x3 := by
  refine Eq.trans (?_ : _ = blk id 1024 2048 (by decide) (arg1.view.read (Elt Ideal) (harg1.unread x0)) (arg2.view.read (Elt Ideal) (harg2.unread x1))
    (arg4.view.read (Elt Ideal) (harg4.unread x3))) (by rw [harg1.read_unread, harg2.read_unread, harg4.read_unread])
  unfold out0_A_9
  rw [View.read_writes_junk_eq_canon]
  unfold kernelRun0_A; dsimp only; sl_unfold_words
  funext y
  have t := tile arg13.view _ _ _ arg4.view (harg4.unread x3) (h_read arg13.view arg1.view arg2.view (harg1.unread x0) (harg2.unread x1)) id 1024 2048 (by decide)
  refine View.canon_apply_of_pieces (Val := Elt Ideal) (e := .bf16) (blk id 1024 2048 _ _ _ _) _ ?_ y ?_
  · refine List.forall_mem_cons.2 ⟨t 512 2560 rfl inb_S512x1024_S512x512_0_512 inb_S1024x5120_S1024x512_0_2560 _ (fun _ => rfl), ?_⟩
    refine List.forall_mem_cons.2 ⟨t 0 2048 rfl inb_S512x1024_S512x512_0_0 inb_S1024x5120_S1024x512_0_2048 _ (fun _ => rfl), ?_⟩
    exact fun _ h => absurd h List.not_mem_nil
  · exact cover_step (Nat.lt_of_lt_of_eq (y 1).isLt rfl) fun h => cover_step h fun h => absurd h (Nat.not_lt_zero _)

theorem body_g :
    out0_A_10 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk id 2048 3072 (by decide) x0 x1 x3 := by
  refine Eq.trans (?_ : _ = blk id 2048 3072 (by decide) (arg1.view.read (Elt Ideal) (harg1.unread x0)) (arg2.view.read (Elt Ideal) (harg2.unread x1))
    (arg4.view.read (Elt Ideal) (harg4.unread x3))) (by rw [harg1.read_unread, harg2.read_unread, harg4.read_unread])
  unfold out0_A_10
  rw [View.read_writes_junk_eq_canon]
  unfold kernelRun0_A; dsimp only; sl_unfold_words
  funext y
  have t := tile arg13.view _ _ _ arg4.view (harg4.unread x3) (h_read arg13.view arg1.view arg2.view (harg1.unread x0) (harg2.unread x1)) id 2048 3072 (by decide)
  refine View.canon_apply_of_pieces (Val := Elt Ideal) (e := .bf16) (blk id 2048 3072 _ _ _ _) _ ?_ y ?_
  · refine List.forall_mem_cons.2 ⟨t 1536 4608 rfl inb_S512x2048_S512x512_0_1536 inb_S1024x5120_S1024x512_0_4608 _ (fun _ => rfl), ?_⟩
    refine List.forall_mem_cons.2 ⟨t 1024 4096 rfl inb_S512x2048_S512x512_0_1024 inb_S1024x5120_S1024x512_0_4096 _ (fun _ => rfl), ?_⟩
    refine List.forall_mem_cons.2 ⟨t 512 3584 rfl inb_S512x2048_S512x512_0_512 inb_S1024x5120_S1024x512_0_3584 _ (fun _ => rfl), ?_⟩
    refine List.forall_mem_cons.2 ⟨t 0 3072 rfl inb_S512x2048_S512x512_0_0 inb_S1024x5120_S1024x512_0_3072 _ (fun _ => rfl), ?_⟩
    exact fun _ h => absurd h List.not_mem_nil
  · exact cover_step (Nat.lt_of_lt_of_eq (y 1).isLt rfl) fun h => cover_step h fun h => cover_step h fun h => cover_step h fun h => absurd h (Nat.not_lt_zero _)

theorem body_dt :
    out0_A_11 c i arg1 harg1 arg2 harg2 arg3 harg3 arg4 harg4 arg5 harg5 arg6 harg6 arg7 harg7 arg8 harg8 arg9 harg9 arg10 harg10 arg11 harg11
      arg12 harg12 arg13 harg13 x0 x1 x2 x3 x4 = blk id 48 0 (by decide) x0 x1 x4 := by
  refine Eq.trans (?_ : _ = blk id 48 0 (by decide) (arg1.view.read (Elt Ideal) (harg1.unread x0)) (arg2.view.read (Elt Ideal) (harg2.unread x1))
    (arg5.view.read (Elt Ideal) (harg5.unread x4))) (by rw [harg1.read_unread, harg2.read_unread, harg5.read_unread])
  unfold out0_A_11
  rw [View.read_writes_junk_eq_canon]
  unfold kernelRun0_A; dsimp only; sl_unfold_words
  funext y
  have t := tile_dt arg13.view _ _ _ arg5.view (harg5.unread x4) (h_read arg13.view arg1.view arg2.view (harg1.unread x0) (harg2.unread x1))
  refine View.canon_apply_of_pieces (Val := Elt Ideal) (e := .f32) (blk id 48 0 _ _ _ _) _ ?_ y ?_
  · refine List.forall_mem_cons.2 ⟨t inb_S512x48_S512x48_0_0 inb_S1024x48_S1024x48_0_0 _ rfl, ?_⟩
    exact fun _ h => absurd h List.not_mem_nil
  · exact ⟨_, List.mem_cons_self, mem_unit (h := inb_S512x48_S512x48_0_0) ⟨Nat.zero_le _, Nat.lt_of_lt_of_eq (y 0).isLt rfl⟩ ⟨Nat.zero_le _, Nat.lt_of_lt_of_eq (y 1).isLt rfl⟩⟩

end

end Cert.Proof.InProj

end
-- ==== Proof.InProjValue.lean ====
/- The combined input projection: what the kernel's run leaves in its seven result arrays, and what the reference's leaves in
   its own, as one function of the argument arrays. -/
module

public import proofs.«01_k».proof.Proof.InProj
public import proofs.«01_k».proof.Proof.Gen.InProjRefIdeal.Read
public import proofs.«01_k».proof.Pre_finite_proj

@[expose] public section

noncomputable section

namespace Cert.Proof.InProj

open Cert.InProjIdeal Cert.InProjIdeal.Gen Idealize.ShloMosaic Idealize.ShloMosaic.TcCoe Idealize.SL.Sem
open Cert.Proof.Common

/-- One element of the projection: a normalised row times a column of the weights. -/
def proj (a0 : Vec Ideal S32768x1024 .f32) (a1 : Vec Ideal S1024 .f32) (a2 : Vec Ideal S1024x7696 .f32) (r : Fin 32768) (j : Fin 7696) : EReal :=
  ∑ k : Fin 1024, rms (fun k => a0 (ix2 r k)) (fun k => a1 (ix1 k)) k * a2 (ix2 k j)

/-- A result: `n` columns of the projection from column `o`, each through `φ`. -/
def result (φ : EReal → EReal) (n o : Nat) (ho : o + n ≤ 7696) (a0 : Vec Ideal S32768x1024 .f32) (a1 : Vec Ideal S1024 .f32)
    (a2 : Vec Ideal S1024x7696 .f32) : (⟨2, ![32768, n]⟩ : Shape).Idx → EReal := fun i =>
  φ (proj a0 a1 a2 (i 0) ⟨o + (i 1).val, by have h : (i 1).val < n := (i 1).isLt; omega⟩)

/-- The step sizes: sixteen columns of the projection, three times over. -/
def steps (a0 : Vec Ideal S32768x1024 .f32) (a1 : Vec Ideal S1024 .f32) (a2 : Vec Ideal S1024x7696 .f32) : Vec Ideal S32768x48 .f32 := fun i =>
  proj a0 a1 a2 (i 0) ⟨2560 + (i 1).val % 16, by omega⟩

variable (m : (ℓ : Loc nD τ sig) → Buf (Elt Ideal) ℓ) (c : Dev nD)

abbrev A0 : Vec Ideal S32768x1024 .f32 := m ((c : Thread nD τ).loc main_arg0)
abbrev A1 : Vec Ideal S1024 .f32 := m ((c : Thread nD τ).loc main_arg1)
abbrev A2 : Vec Ideal S1024x7696 .f32 := m ((c : Thread nD τ).loc main_arg2)

/-! ## The prepared weights -/

theorem V_v1 (k : Fin 1024) (j : Fin 2560) : (V m c main_v1 : Vec Ideal S1024x2560 .bf16) (ix2 k j) = A2 m c (ix2 k ⟨j.val, by omega⟩) := by
  have h : (V m c main_v1 : Vec Ideal S1024x2560 .bf16)
      = truncf (F := Ideal) .bf16 (extractStridedSlice S1024x2560 ![0, 0] (A2 m c) slices_S1024x7696_S1024x2560_0_0) bitsLt_bf16_f32 := by
    unfold V; after_results; try rfl
  rw [h]
  pointwise

theorem V_v3 (k : Fin 1024) (j : Fin 5120) : (V m c main_v3 : Vec Ideal S1024x5120 .bf16) (ix2 k j) = A2 m c (ix2 k ⟨2576 + j.val, by omega⟩) := by
  have h : (V m c main_v3 : Vec Ideal S1024x5120 .bf16)
      = truncf (F := Ideal) .bf16 (extractStridedSlice S1024x5120 ![0, 2576] (A2 m c) slices_S1024x7696_S1024x5120_0_2576) bitsLt_bf16_f32 := by
    unfold V; after_results; try rfl
  rw [h]
  pointwise

theorem V_v8 (k : Fin 1024) (j : Fin 48) : (V m c main_v8 : Vec Ideal S1024x48 .bf16) (ix2 k j) = A2 m c (ix2 k ⟨2560 + j.val % 16, by omega⟩) := by
  have h : (V m c main_v8 : Vec Ideal S1024x48 .bf16)
      = truncf (F := Ideal) .bf16 (shapeCast S1024x48 (broadcastInDim S1x1024x3x16 ![0, 1, 2, 3] bcast_S1x1024x1x16_S1x1024x3x16_0_1_2_3
          (shapeCast S1x1024x1x16 (extractStridedSlice S1024x16 ![0, 2560] (A2 m c) slices_S1024x7696_S1024x16_0_2560) shapeCasts_S1024x16_S1x1024x1x16))
          shapeCasts_S1x1024x3x16_S1024x48) bitsLt_bf16_f32 := by
    unfold V; after_results; try rfl
  rw [h]
  pointwise

theorem V_v9 (j : Fin 1024) : (V m c main_v9 : Vec Ideal S1x1024 .f32) (ix2 0 j) = A1 m c (ix1 j) := by
  have h : (V m c main_v9 : Vec Ideal S1x1024 .f32) = shapeCast S1x1024 (A1 m c) shapeCasts_S1024_S1x1024 := by
    unfold V; after_results; try rfl
  rw [h]
  pointwise

/-! ## The blocks -/

/-- Which block each window is on at a grid point. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Row `r` of block `t`. -/
def row (t : Fin cfg0.N) (r : Fin 512) : Fin 32768 :=
  ⟨512 * t.val + r.val, by have h : t.val < 64 := t.isLt; omega⟩

theorem exists_row {n : Nat} (i : (⟨2, ![32768, n]⟩ : Shape).Idx) : ∃ (t : Fin cfg0.N) (r : Fin 512), ix2 (row t r) (i 1) = i := by
  have h0 : (i 0).val < 32768 := (i 0).isLt
  refine ⟨⟨(i 0).val / 512, by show _ < 64; omega⟩, ⟨(i 0).val % 512, by omega⟩, ?_⟩
  funext a; apply Fin.ext
  match a with
  | ⟨0, _⟩ => show 512 * ((i 0).val / 512) + (i 0).val % 512 = (i 0).val; omega
  | ⟨1, _⟩ => rfl

theorem iblk0 (t : Fin cfg0.N) (j : S512x1024.Idx) :
    iblk m c 0 t j = A0 m c (ix2 (row t (j 0)) (j 1)) := by
  refine Eq.trans ?_ (congrFun (V_main_arg0 m c) _)
  refine congrArg (V m c main_arg0) (funext fun a => Fin.ext ?_)
  obtain ⟨⟨e0, e1⟩, -⟩ := idx_facts t
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega

theorem iblk1 (t : Fin cfg0.N) (j : S1x1024.Idx) : iblk m c 1 t j = V m c main_v9 j := by
  refine congrArg (V m c main_v9) (funext fun a => Fin.ext ?_)
  obtain ⟨-, ⟨e0, e1⟩, -⟩ := idx_facts t
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem iblk2 (t : Fin cfg0.N) (j : S1024x2560.Idx) : iblk m c 2 t j = V m c main_v1 j := by
  refine congrArg (V m c main_v1) (funext fun a => Fin.ext ?_)
  obtain ⟨-, -, ⟨e0, e1⟩, -⟩ := idx_facts t
  match a with
  | ⟨0, _⟩ => show win0_2.index t (0 : Fin 2) * 1024 + 1 * (j 0).val = (j 0).val; omega
  | ⟨1, _⟩ => show win0_2.index t (1 : Fin 2) * 2560 + 1 * (j 1).val = (j 1).val; omega

theorem iblk3 (t : Fin cfg0.N) (j : S1024x5120.Idx) : iblk m c 3 t j = V m c main_v3 j := by
  refine congrArg (V m c main_v3) (funext fun a => Fin.ext ?_)
  obtain ⟨-, -, -, ⟨e0, e1⟩, -⟩ := idx_facts t
  match a with
  | ⟨0, _⟩ => show win0_3.index t (0 : Fin 2) * 1024 + 1 * (j 0).val = (j 0).val; omega
  | ⟨1, _⟩ => show win0_3.index t (1 : Fin 2) * 5120 + 1 * (j 1).val = (j 1).val; omega

theorem iblk4 (t : Fin cfg0.N) (j : S1024x48.Idx) : iblk m c 4 t j = V m c main_v8 j := by
  refine congrArg (V m c main_v8) (funext fun a => Fin.ext ?_)
  obtain ⟨-, -, -, -, ⟨e0, e1⟩⟩ := idx_facts t
  match a with
  | ⟨0, _⟩ => show win0_4.index t (0 : Fin 2) * 1024 + 1 * (j 0).val = (j 0).val; omega
  | ⟨1, _⟩ => show win0_4.index t (1 : Fin 2) * 48 + 1 * (j 1).val = (j 1).val; omega

/-- A block of one result at a grid point is the result's, where the weight block's columns are the weights'. -/
theorem blk_eq (φ : EReal → EReal) (n o : Nat) {N : Nat} (ho : o + n ≤ N) (t : Fin cfg0.N) (w : Vec Ideal ⟨2, ![1024, N]⟩ .bf16)
    (j : (⟨2, ![512, n]⟩ : Shape).Idx) (p : Fin 7696)
    (hw : ∀ k : Fin 1024, w (ix2 k ⟨o + (j 1).val, by have h : (j 1).val < n := (j 1).isLt; omega⟩) = A2 m c (ix2 k p)) :
    blk φ n o ho (iblk m c 0 t) (iblk m c 1 t) w j = φ (proj (A0 m c) (A1 m c) (A2 m c) (row t (j 0)) p) := by
  refine congrArg φ (Finset.sum_congr rfl fun k _ => congrArg₂ _ ?_ (hw k))
  exact congrArg₂ (fun x y => rms x y k) (funext fun k => iblk0 m c t (ix2 (j 0) k))
    (funext fun k => (iblk1 m c t (ix2 0 k)).trans (V_v9 m c k))

theorem emb_z (t : Fin cfg0.N) (j : S512x1024.Idx) : ((cfg0.win 5).blk t).view.emb j = ix2 (row t (j 0)) (j 1) := by
  funext a; apply Fin.ext
  obtain ⟨e0, e1⟩ := (by decide +kernel : ∀ t : Fin grid0.N, win0_5.index t (0 : Fin 2) = t.val ∧ win0_5.index t (1 : Fin 2) = 0) t
  match a with
  | ⟨0, _⟩ => show win0_5.index t (0 : Fin 2) * 512 + 1 * (j 0).val = 512 * t.val + (j 0).val; omega
  | ⟨1, _⟩ => show win0_5.index t (1 : Fin 2) * 1024 + 1 * (j 1).val = (j 1).val; omega

theorem array_z : (dats m 0 c).arrAt 5 cfg0.N = result gateT 1024 0 (by decide) (A0 m c) (A1 m c) (A2 m c) := by
  refine (dats m 0 c).arrAt_eq_of_cover 5 _ (fun t _ => ?_) (fun i => ?_)
  · rw [Value.flushed5_A, body_z]
    funext j
    show blk gateT 1024 _ _ _ _ _ j = (result gateT 1024 0 (by decide) (A0 m c) (A1 m c) (A2 m c)) (((cfg0.win 5).blk t).view.emb j)
    rw [emb_z]
    exact blk_eq m c gateT 1024 _ _ t _ j ⟨0 + (j 1).val, by have h : (j 1).val < 1024 := (j 1).isLt; omega⟩
      (fun k => (iblk2 m c t (ix2 k ⟨0 + (j 1).val, by have h : (j 1).val < 1024 := (j 1).isLt; omega⟩)).trans (V_v1 m c k _))
  · obtain ⟨t, r, hi⟩ := exists_row i
    refine ⟨t, flush0_5 t, ?_⟩
    have h := ((cfg0.win 5).blk t).view.emb_mem_set (ix2 (n0 := 512) (n1 := 1024) r (i 1))
    exact (congrArg (fun z => z ∈ ((cfg0.win 5).blk t).view.set) ((emb_z t _).trans hi)).mp h

theorem emb_xbc (t : Fin cfg0.N) (j : S512x1536.Idx) : ((cfg0.win 6).blk t).view.emb j = ix2 (row t (j 0)) (j 1) := by
  funext a; apply Fin.ext
  obtain ⟨e0, e1⟩ := (by decide +kernel : ∀ t : Fin grid0.N, win0_6.index t (0 : Fin 2) = t.val ∧ win0_6.index t (1 : Fin 2) = 0) t
  match a with
  | ⟨0, _⟩ => show win0_6.index t (0 : Fin 2) * 512 + 1 * (j 0).val = 512 * t.val + (j 0).val; omega
  | ⟨1, _⟩ => show win0_6.index t (1 : Fin 2) * 1536 + 1 * (j 1).val = (j 1).val; omega

theorem array_xbc : (dats m 0 c).arrAt 6 cfg0.N = result id 1536 1024 (by decide) (A0 m c) (A1 m c) (A2 m c) := by
  refine (dats m 0 c).arrAt_eq_of_cover 6 _ (fun t _ => ?_) (fun i => ?_)
  · rw [Value.flushed6_A, body_xbc]
    funext j
    show blk id 1536 _ _ _ _ _ j = (result id 1536 1024 (by decide) (A0 m c) (A1 m c) (A2 m c)) (((cfg0.win 6).blk t).view.emb j)
    rw [emb_xbc]
    exact blk_eq m c id 1536 _ _ t _ j ⟨1024 + (j 1).val, by have h : (j 1).val < 1536 := (j 1).isLt; omega⟩
      (fun k => (iblk2 m c t (ix2 k ⟨1024 + (j 1).val, by have h : (j 1).val < 1536 := (j 1).isLt; omega⟩)).trans (V_v1 m c k _))
  · obtain ⟨t, r, hi⟩ := exists_row i
    refine ⟨t, flush0_6 t, ?_⟩
    have h := ((cfg0.win 6).blk t).view.emb_mem_set (ix2 (n0 := 512) (n1 := 1536) r (i 1))
    exact (congrArg (fun z => z ∈ ((cfg0.win 6).blk t).view.set) ((emb_xbc t _).trans hi)).mp h

theorem emb_q (t : Fin cfg0.N) (j : S512x1024.Idx) : ((cfg0.win 7).blk t).view.emb j = ix2 (row t (j 0)) (j 1) := by
  funext a; apply Fin.ext
  obtain ⟨e0, e1⟩ := (by decide +kernel : ∀ t : Fin grid0.N, win0_7.index t (0 : Fin 2) = t.val ∧ win0_7.index t (1 : Fin 2) = 0) t
  match a with
  | ⟨0, _⟩ => show win0_7.index t (0 : Fin 2) * 512 + 1 * (j 0).val = 512 * t.val + (j 0).val; omega
  | ⟨1, _⟩ => show win0_7.index t (1 : Fin 2) * 1024 + 1 * (j 1).val = (j 1).val; omega

theorem array_q : (dats m 0 c).arrAt 7 cfg0.N = result qscale 1024 2576 (by decide) (A0 m c) (A1 m c) (A2 m c) := by
  refine (dats m 0 c).arrAt_eq_of_cover 7 _ (fun t _ => ?_) (fun i => ?_)
  · rw [Value.flushed7_A, body_q]
    funext j
    show blk qscale 1024 _ _ _ _ _ j = (result qscale 1024 2576 (by decide) (A0 m c) (A1 m c) (A2 m c)) (((cfg0.win 7).blk t).view.emb j)
    rw [emb_q]
    exact blk_eq m c qscale 1024 _ _ t _ j ⟨2576 + (j 1).val, by have h : (j 1).val < 1024 := (j 1).isLt; omega⟩
      (fun k => (iblk3 m c t (ix2 k ⟨0 + (j 1).val, by have h : (j 1).val < 1024 := (j 1).isLt; omega⟩)).trans ((V_v3 m c k _).trans (congrArg (fun p => A2 m c (ix2 k p)) (Fin.ext (by show 2576 + (0 + (j 1).val) = 2576 + (j 1).val; omega)))))
  · obtain ⟨t, r, hi⟩ := exists_row i
    refine ⟨t, flush0_7 t, ?_⟩
    have h := ((cfg0.win 7).blk t).view.emb_mem_set (ix2 (n0 := 512) (n1 := 1024) r (i 1))
    exact (congrArg (fun z => z ∈ ((cfg0.win 7).blk t).view.set) ((emb_q t _).trans hi)).mp h

theorem emb_k (t : Fin cfg0.N) (j : S512x1024.Idx) : ((cfg0.win 8).blk t).view.emb j = ix2 (row t (j 0)) (j 1) := by
  funext a; apply Fin.ext
  obtain ⟨e0, e1⟩ := (by decide +kernel : ∀ t : Fin grid0.N, win0_8.index t (0 : Fin 2) = t.val ∧ win0_8.index t (1 : Fin 2) = 0) t
  match a with
  | ⟨0, _⟩ => show win0_8.index t (0 : Fin 2) * 512 + 1 * (j 0).val = 512 * t.val + (j 0).val; omega
  | ⟨1, _⟩ => show win0_8.index t (1 : Fin 2) * 1024 + 1 * (j 1).val = (j 1).val; omega

theorem array_k : (dats m 0 c).arrAt 8 cfg0.N = result id 1024 3600 (by decide) (A0 m c) (A1 m c) (A2 m c) := by
  refine (dats m 0 c).arrAt_eq_of_cover 8 _ (fun t _ => ?_) (fun i => ?_)
  · rw [Value.flushed8_A, body_k]
    funext j
    show blk id 1024 _ _ _ _ _ j = (result id 1024 3600 (by decide) (A0 m c) (A1 m c) (A2 m c)) (((cfg0.win 8).blk t).view.emb j)
    rw [emb_k]
    exact blk_eq m c id 1024 _ _ t _ j ⟨3600 + (j 1).val, by have h : (j 1).val < 1024 := (j 1).isLt; omega⟩
      (fun k => (iblk3 m c t (ix2 k ⟨1024 + (j 1).val, by have h : (j 1).val < 1024 := (j 1).isLt; omega⟩)).trans ((V_v3 m c k _).trans (congrArg (fun p => A2 m c (ix2 k p)) (Fin.ext (by show 2576 + (1024 + (j 1).val) = 3600 + (j 1).val; omega)))))
  · obtain ⟨t, r, hi⟩ := exists_row i
    refine ⟨t, flush0_8 t, ?_⟩
    have h := ((cfg0.win 8).blk t).view.emb_mem_set (ix2 (n0 := 512) (n1 := 1024) r (i 1))
    exact (congrArg (fun z => z ∈ ((cfg0.win 8).blk t).view.set) ((emb_k t _).trans hi)).mp h

theorem emb_v (t : Fin cfg0.N) (j : S512x1024.Idx) : ((cfg0.win 9).blk t).view.emb j = ix2 (row t (j 0)) (j 1) := by
  funext a; apply Fin.ext
  obtain ⟨e0, e1⟩ := (by decide +kernel : ∀ t : Fin grid0.N, win0_9.index t (0 : Fin 2) = t.val ∧ win0_9.index t (1 : Fin 2) = 0) t
  match a with
  | ⟨0, _⟩ => show win0_9.index t (0 : Fin 2) * 512 + 1 * (j 0).val = 512 * t.val + (j 0).val; omega
  | ⟨1, _⟩ => show win0_9.index t (1 : Fin 2) * 1024 + 1 * (j 1).val = (j 1).val; omega

theorem array_v : (dats m 0 c).arrAt 9 cfg0.N = result id 1024 4624 (by decide) (A0 m c) (A1 m c) (A2 m c) := by
  refine (dats m 0 c).arrAt_eq_of_cover 9 _ (fun t _ => ?_) (fun i => ?_)
  · rw [Value.flushed9_A, body_v]
    funext j
    show blk id 1024 _ _ _ _ _ j = (result id 1024 4624 (by decide) (A0 m c) (A1 m c) (A2 m c)) (((cfg0.win 9).blk t).view.emb j)
    rw [emb_v]
    exact blk_eq m c id 1024 _ _ t _ j ⟨4624 + (j 1).val, by have h : (j 1).val < 1024 := (j 1).isLt; omega⟩
      (fun k => (iblk3 m c t (ix2 k ⟨2048 + (j 1).val, by have h : (j 1).val < 1024 := (j 1).isLt; omega⟩)).trans ((V_v3 m c k _).trans (congrArg (fun p => A2 m c (ix2 k p)) (Fin.ext (by show 2576 + (2048 + (j 1).val) = 4624 + (j 1).val; omega)))))
  · obtain ⟨t, r, hi⟩ := exists_row i
    refine ⟨t, flush0_9 t, ?_⟩
    have h := ((cfg0.win 9).blk t).view.emb_mem_set (ix2 (n0 := 512) (n1 := 1024) r (i 1))
    exact (congrArg (fun z => z ∈ ((cfg0.win 9).blk t).view.set) ((emb_v t _).trans hi)).mp h

theorem emb_g (t : Fin cfg0.N) (j : S512x2048.Idx) : ((cfg0.win 10).blk t).view.emb j = ix2 (row t (j 0)) (j 1) := by
  funext a; apply Fin.ext
  obtain ⟨e0, e1⟩ := (by decide +kernel : ∀ t : Fin grid0.N, win0_10.index t (0 : Fin 2) = t.val ∧ win0_10.index t (1 : Fin 2) = 0) t
  match a with
  | ⟨0, _⟩ => show win0_10.index t (0 : Fin 2) * 512 + 1 * (j 0).val = 512 * t.val + (j 0).val; omega
  | ⟨1, _⟩ => show win0_10.index t (1 : Fin 2) * 2048 + 1 * (j 1).val = (j 1).val; omega

theorem array_g : (dats m 0 c).arrAt 10 cfg0.N = result id 2048 5648 (by decide) (A0 m c) (A1 m c) (A2 m c) := by
  refine (dats m 0 c).arrAt_eq_of_cover 10 _ (fun t _ => ?_) (fun i => ?_)
  · rw [Value.flushed10_A, body_g]
    funext j
    show blk id 2048 _ _ _ _ _ j = (result id 2048 5648 (by decide) (A0 m c) (A1 m c) (A2 m c)) (((cfg0.win 10).blk t).view.emb j)
    rw [emb_g]
    exact blk_eq m c id 2048 _ _ t _ j ⟨5648 + (j 1).val, by have h : (j 1).val < 2048 := (j 1).isLt; omega⟩
      (fun k => (iblk3 m c t (ix2 k ⟨3072 + (j 1).val, by have h : (j 1).val < 2048 := (j 1).isLt; omega⟩)).trans ((V_v3 m c k _).trans (congrArg (fun p => A2 m c (ix2 k p)) (Fin.ext (by show 2576 + (3072 + (j 1).val) = 5648 + (j 1).val; omega)))))
  · obtain ⟨t, r, hi⟩ := exists_row i
    refine ⟨t, flush0_10 t, ?_⟩
    have h := ((cfg0.win 10).blk t).view.emb_mem_set (ix2 (n0 := 512) (n1 := 2048) r (i 1))
    exact (congrArg (fun z => z ∈ ((cfg0.win 10).blk t).view.set) ((emb_g t _).trans hi)).mp h

theorem emb_dt (t : Fin cfg0.N) (j : S512x48.Idx) : ((cfg0.win 11).blk t).view.emb j = ix2 (row t (j 0)) (j 1) := by
  funext a; apply Fin.ext
  obtain ⟨e0, e1⟩ := (by decide +kernel : ∀ t : Fin grid0.N, win0_11.index t (0 : Fin 2) = t.val ∧ win0_11.index t (1 : Fin 2) = 0) t
  match a with
  | ⟨0, _⟩ => show win0_11.index t (0 : Fin 2) * 512 + 1 * (j 0).val = 512 * t.val + (j 0).val; omega
  | ⟨1, _⟩ => show win0_11.index t (1 : Fin 2) * 48 + 1 * (j 1).val = (j 1).val; omega

theorem array_dt : (dats m 0 c).arrAt 11 cfg0.N = steps (A0 m c) (A1 m c) (A2 m c) := by
  refine (dats m 0 c).arrAt_eq_of_cover 11 _ (fun t _ => ?_) (fun i => ?_)
  · rw [Value.flushed11_A, body_dt]
    funext j
    show blk id 48 _ _ _ _ _ j = (steps (A0 m c) (A1 m c) (A2 m c)) (((cfg0.win 11).blk t).view.emb j)
    rw [emb_dt]
    exact blk_eq m c id 48 _ _ t _ j ⟨2560 + (j 1).val % 16, by omega⟩
      (fun k => (iblk4 m c t (ix2 k ⟨0 + (j 1).val, by have h : (j 1).val < 48 := (j 1).isLt; omega⟩)).trans ((V_v8 m c k _).trans (congrArg (fun p => A2 m c (ix2 k p)) (Fin.ext (by show 2560 + (0 + (j 1).val) % 16 = 2560 + (j 1).val % 16; omega)))))
  · obtain ⟨t, r, hi⟩ := exists_row i
    refine ⟨t, flush0_11 t, ?_⟩
    have h := ((cfg0.win 11).blk t).view.emb_mem_set (ix2 (n0 := 512) (n1 := 48) r (i 1))
    exact (congrArg (fun z => z ∈ ((cfg0.win 11).blk t).view.set) ((emb_dt t _).trans hi)).mp h

/-! ## The reference -/

section
variable (a0 : Vec Ideal S32768x1024 .f32) (a1 : Vec Ideal S1024 .f32) (a2 : Vec Ideal S1024x7696 .f32)
open Cert.InProjRefIdeal.Read

theorem ref_z : val_main_v24 (F := Ideal) a0 a1 a2 = result (fun g => g * Ideal.logistic g) 1024 0 (by decide) a0 a1 a2 := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  rw [← val_main_v24_eq]
  pointwise
  simp only [result, proj, rms, Ideal.logistic, Nat.zero_add]
  rfl

theorem ref_xbc : val_main_v25 (F := Ideal) a0 a1 a2 = result id 1536 1024 (by decide) a0 a1 a2 := by
  funext i
  obtain ⟨r, k, rfl⟩ : ∃ (r : Fin 32768) (k : Fin 1536), i = ix2 r k := ⟨i 0, i 1, funext fun a => by
    match a with
    | ⟨0, _⟩ => rfl
    | ⟨1, _⟩ => rfl⟩
  rw [← val_main_v25_eq]
  pointwise
  simp only [result, proj, rms, id]
  rfl

theorem ref_dt : val_main_v28 (F := Ideal) a0 a1 a2 = steps a0 a1 a2 := by
  funext i
  obtain ⟨r, k, rfl⟩ : ∃ (r : Fin 32768) (k : Fin 48), i = ix2 r k := ⟨i 0, i 1, funext fun a => by
    match a with
    | ⟨0, _⟩ => rfl
    | ⟨1, _⟩ => rfl⟩
  rw [← val_main_v28_eq]
  pointwise
  simp only [steps, proj, rms]
  rfl

theorem ref_q : val_main_v29 (F := Ideal) a0 a1 a2 = result qscale 1024 2576 (by decide) a0 a1 a2 := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  rw [← val_main_v29_eq]
  pointwise
  simp only [result, proj, rms, qscale]
  rfl

theorem ref_k : val_main_v30 (F := Ideal) a0 a1 a2 = result id 1024 3600 (by decide) a0 a1 a2 := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  rw [← val_main_v30_eq]
  pointwise
  simp only [result, proj, rms, id]
  rfl

theorem ref_v : val_main_v31 (F := Ideal) a0 a1 a2 = result id 1024 4624 (by decide) a0 a1 a2 := by
  funext i
  obtain ⟨r, k, rfl⟩ : ∃ (r : Fin 32768) (k : Fin 1024), i = ix2 r k := ⟨i 0, i 1, funext fun a => by
    match a with
    | ⟨0, _⟩ => rfl
    | ⟨1, _⟩ => rfl⟩
  rw [← val_main_v31_eq]
  pointwise
  simp only [result, proj, rms, id]
  rfl

theorem ref_g : val_main_v32 (F := Ideal) a0 a1 a2 = result id 2048 5648 (by decide) a0 a1 a2 := by
  funext i
  obtain ⟨r, k, rfl⟩ : ∃ (r : Fin 32768) (k : Fin 2048), i = ix2 r k := ⟨i 0, i 1, funext fun a => by
    match a with
    | ⟨0, _⟩ => rfl
    | ⟨1, _⟩ => rfl⟩
  rw [← val_main_v32_eq]
  pointwise
  simp only [result, proj, rms, id]
  rfl

end

/-- The two ways of writing the gate agree on finite rows and weights. -/
theorem result_congr {a0 : Vec Ideal S32768x1024 .f32} {a1 : Vec Ideal S1024 .f32} {a2 : Vec Ideal S1024x7696 .f32}
    (h0 : ∀ i, IsReal (a0 i)) (h1 : ∀ i, IsReal (a1 i)) (h2 : ∀ i, IsReal (a2 i)) (n o : Nat) (ho : o + n ≤ 7696) :
    result gateT n o ho a0 a1 a2 = result (fun g => g * Ideal.logistic g) n o ho a0 a1 a2 := by
  funext i
  exact gateT_real (IsReal.sum fun l => (rms_real (fun _ => h0 _) (fun _ => h1 _) l).mul (h2 _))

/-- What the precondition says of the arguments. -/
theorem finite_args [Cert.Pre_finite_proj.Facts] {a0 : Vec Ideal S32768x1024 .f32} {a1 : Vec Ideal S1024 .f32} {a2 : Vec Ideal S1024x7696 .f32}
    (h : Cert.Pre_finite_proj.fn (F := Ideal) a0 a1 a2 = fun _ => 1#1) :
    (∀ i, IsReal (a0 i)) ∧ (∀ i, IsReal (a1 i)) ∧ (∀ i, IsReal (a2 i)) := by
  have h' := congrFun h ix0
  unfold Cert.Pre_finite_proj.fn at h'
  dsimp only at h'
  obtain ⟨h01, h2⟩ := IntOp.andi_eq_one.1 h'
  obtain ⟨h0, h1⟩ := IntOp.andi_eq_one.1 h01
  exact ⟨fun i => isReal_of_cmp (Host.reduce_andi_all _ _ _ _ _ h0 i), fun i => isReal_of_cmp (Host.reduce_andi_all _ _ _ _ _ h1 i),
    fun i => isReal_of_cmp (Host.reduce_andi_all _ _ _ _ _ h2 i)⟩

end Cert.Proof.InProj

end
-- ==== Proof.BandMath.lean ====
/- Scalar facts of the band attention: a weighted mean with weights that are powers of two of the scores, as the kernel
   and as the reference compute it. A score is a real number, or minus infinity outside of the band. -/
module

public import proofs.«01_k».proof.Proof.Common

@[expose] public section

noncomputable section

namespace Cert.Proof.Band

open Idealize.ShloMosaic Cert.Proof.Common

/-- The weight of a score, before its division by the sum of all. -/
def pw (x : EReal) : ℝ := if x = ⊥ then 0 else Real.rpow 2 x.toReal

theorem pw_nonneg (x : EReal) : 0 ≤ pw x := by
  unfold pw; split
  · exact le_rfl
  · exact (Real.rpow_pos_of_pos (by norm_num) _).le

theorem pw_pos {x : EReal} (h : x ≠ ⊥) : 0 < pw x := by
  rw [pw, if_neg h]; exact Real.rpow_pos_of_pos (by norm_num) _

theorem exp2_shift {x : EReal} (hx : x ≠ ⊤) (m : ℝ) : Ideal.exp2 (x - (m : EReal)) = ((pw x * Real.rpow 2 (-m) : ℝ) : EReal) := by
  induction x using EReal.rec with
  | bot => rw [EReal.bot_sub, Ideal.exp2_bot, pw, if_pos rfl, zero_mul, EReal.coe_zero]
  | top => exact absurd rfl hx
  | coe r =>
    rw [← EReal.coe_sub, Ideal.exp2_coe, pw, if_neg (EReal.coe_ne_bot r), EReal.toReal_coe]
    congr 1
    exact (congrArg (Real.rpow 2) (sub_eq_add_neg r m)).trans (Real.rpow_add (by norm_num) r (-m))

theorem exp_shift {x : EReal} (hx : x ≠ ⊤) (m : ℝ) :
    Ideal.exp (x * ((Real.log 2 : ℝ) : EReal) - (m : EReal)) = ((pw x * Real.exp (-m) : ℝ) : EReal) := by
  have hl : 0 < Real.log 2 := Real.log_pos (by norm_num)
  induction x using EReal.rec with
  | bot => rw [EReal.bot_mul_coe_of_pos hl, EReal.bot_sub, Ideal.exp_bot, pw, if_pos rfl, zero_mul, EReal.coe_zero]
  | top => exact absurd rfl hx
  | coe r =>
    rw [← EReal.coe_mul, ← EReal.coe_sub, Ideal.exp_coe, pw, if_neg (EReal.coe_ne_bot r), EReal.toReal_coe]
    congr 1
    rw [sub_eq_add_neg, Real.exp_add]
    congr 1
    rw [mul_comm]
    exact (Real.rpow_def_of_pos (by norm_num : (0 : ℝ) < 2) r).symm

theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The weighted mean of the values `V` with the scores `T`. -/
def mean (T V : Fin 768 → EReal) : EReal := ∑ k, ((pw (T k) / ∑ j, pw (T j) : ℝ) : EReal) * V k

theorem sum_pos {T : Fin 768 → EReal} (h : ∃ k, T k ≠ ⊥) : 0 < ∑ j, pw (T j) := by
  obtain ⟨k, hk⟩ := h
  exact Finset.sum_pos' (fun j _ => pw_nonneg _) ⟨k, Finset.mem_univ k, pw_pos hk⟩

/-- The mean as the kernel computes it: the weights' sum divides last. -/
theorem mean_kernel {T V P : Fin 768 → EReal} {D : EReal} {m : ℝ} (hP : ∀ k, P k = ((pw (T k) * Real.rpow 2 (-m) : ℝ) : EReal))
    (hD : D = ∑ k, P k) (h : ∃ k, T k ≠ ⊥) : (∑ k, V k * P k) * Ideal.div 1 D = mean T V := by
  have hZ := sum_pos h
  have hm : (0 : ℝ) < Real.rpow 2 (-m) := Real.rpow_pos_of_pos (by norm_num) _
  have hD' : D = (((∑ k, pw (T k)) * Real.rpow 2 (-m) : ℝ) : EReal) := by
    rw [hD, Finset.sum_mul, coe_sum]; exact Finset.sum_congr rfl fun k _ => hP k
  have hr : (0 : ℝ) < (∑ k, pw (T k)) * Real.rpow 2 (-m) := mul_pos hZ hm
  rw [hD', Ideal.div_coe hr.ne', one_mul, sum_mul_coe _ _ (by positivity)]
  refine Finset.sum_congr rfl fun k _ => ?_
  rw [hP k, mul_assoc, ← EReal.coe_mul, mul_comm]
  congr 2
  field_simp

/-- The mean as the reference computes it: each weight is divided first. -/
theorem mean_reference {T V E : Fin 768 → EReal} {m : ℝ} (hE : ∀ k, E k = ((pw (T k) * Real.exp (-m) : ℝ) : EReal))
    (h : ∃ k, T k ≠ ⊥) : ∑ k, Ideal.div (E k) (∑ j, E j) * V k = mean T V := by
  have hZ := sum_pos h
  have hm : (0 : ℝ) < Real.exp (-m) := Real.exp_pos _
  have hD' : ∑ j, E j = (((∑ k, pw (T k)) * Real.exp (-m) : ℝ) : EReal) := by
    rw [Finset.sum_mul, coe_sum]; exact Finset.sum_congr rfl fun k _ => hE k
  have hr : (0 : ℝ) < (∑ k, pw (T k)) * Real.exp (-m) := mul_pos hZ hm
  rw [hD']
  refine Finset.sum_congr rfl fun k _ => ?_
  rw [hE k, Ideal.div_coe hr.ne', ← EReal.coe_mul]
  congr 2
  field_simp

/-- A maximum over scores, not all of them minus infinity and none plus infinity, is a real number. -/
theorem fold_max_real {ι : Type} {s : Finset ι} {f : ι → EReal} (h : ∀ i ∈ s, f i ≠ ⊤) (h' : ∃ i ∈ s, f i ≠ ⊥) :
    IsReal (s.fold max ⊥ f) := by
  have ht : s.fold max ⊥ f < ⊤ := (Finset.fold_max_lt _).2 ⟨bot_lt_top, fun i hi => lt_top_iff_ne_top.2 (h i hi)⟩
  have hb : ⊥ < s.fold max ⊥ f := by
    obtain ⟨i, hi, hne⟩ := h'
    exact (Finset.lt_fold_max _).2 (Or.inr ⟨i, hi, bot_lt_iff_ne_bot.2 hne⟩)
  exact ⟨_, (EReal.coe_toReal ht.ne hb.ne').symm⟩

theorem bits_neg_inf : Ideal.ofBits .f32 4286578688#32 = ⊥ := by simp [Ideal.ofBits, Ideal.ieee]
theorem bits_one : Ideal.ofBits .f32 1065353216#32 = 1 := by
  simp [Ideal.ofBits, Ideal.ieee, -EReal.coe_mul]; norm_num

/-- A sum over a window's keys, chunk by chunk. -/
theorem sum_chunks (f : Fin 768 → EReal) :
    ∑ k, f k = ∑ c : Fin 12, ∑ i : Fin 64, f ⟨64 * c.val + i.val, by omega⟩ := by
  rw [← Finset.sum_product', ← (finProdFinEquiv (m := 12) (n := 64)).sum_comp]
  refine Finset.sum_congr rfl fun p _ => congrArg f (Fin.ext ?_)
  show p.2.val + 64 * p.1.val = 64 * p.1.val + p.2.val
  omega

end Cert.Proof.Band

end
-- ==== Proof.BandItem.lean ====
/- One item of the band attention's body, that is one head of one tile of 256 queries: its scores, its weights as they are
   stored and its share of the output. -/
module

public import proofs.«01_k».proof.Proof.BandMath
public import proofs.«01_k».proof.Proof.Gen.BandIdeal

@[expose] public section

noncomputable section

namespace Cert.Proof.Band

open Cert.BandIdeal Cert.BandIdeal.Gen Idealize.ShloMosaic Idealize.ShloMosaic.TcCoe Idealize.SL.Sem
open Cert.Proof.Common

/-! ## The pieces of an item's weights: 64 keys by 128 queries, ten for each half of the tile -/

abbrev prow (n : Nat) : Nat := 64 * (n % 10) + 128 * (n / 10 % 2)
abbrev pcol (n : Nat) : Nat := 128 * (n / 10 % 2)

theorem inb_piece {σ : Nat} (hσ : σ < 2) (n : Nat) : ∀ d, (![σ, prow n, pcol n] : Fin 3 → Nat) d + S1x64x128.size d ≤ S2x768x256.size d
  | ⟨0, _⟩ => by show σ + 1 ≤ 2; omega
  | ⟨1, _⟩ => by show 64 * (n % 10) + 128 * (n / 10 % 2) + 64 ≤ 768; omega
  | ⟨2, _⟩ => by show 128 * (n / 10 % 2) + 128 ≤ 256; omega

theorem inb_bias {h : Nat} (hh : h < 16) (n : Nat) :
    ∀ d, (![0, h, prow n, pcol n] : Fin 4 → Nat) d + S1x1x64x128.size d ≤ S1x16x768x256.size d
  | ⟨0, _⟩ => by show 0 + 1 ≤ 1; omega
  | ⟨1, _⟩ => by show h + 1 ≤ 16; omega
  | ⟨2, _⟩ => by show 64 * (n % 10) + 128 * (n / 10 % 2) + 64 ≤ 768; omega
  | ⟨3, _⟩ => by show 128 * (n / 10 % 2) + 128 ≤ 256; omega

abbrev rS (σ : Nat) (hσ : σ < 2) (n : Nat) : Rect S2x768x256 := Rect.unit ![σ, prow n, pcol n] S1x64x128.size (inb_piece hσ n)
abbrev rB (h : Nat) (hh : h < 16) (n : Nat) : Rect S1x16x768x256 := Rect.unit ![0, h, prow n, pcol n] S1x1x64x128.size (inb_bias hh n)

theorem inb_slot {σ : Nat} (hσ : σ < 2) : ∀ d, (![σ, 0, 0] : Fin 3 → Nat) d + S1x768x256.size d ≤ S2x768x256.size d
  | ⟨0, _⟩ => by show σ + 1 ≤ 2; omega
  | ⟨1, _⟩ => by show 0 + 768 ≤ 768; omega
  | ⟨2, _⟩ => by show 0 + 256 ≤ 256; omega

abbrev slot (σ : Nat) (hσ : σ < 2) : Rect S2x768x256 := Rect.unit ![σ, 0, 0] S1x768x256.size (inb_slot hσ)

/-- The pieces of an item over earlier ones, the first `n` of them. -/
def stk (σ : Nat) (hσ : σ < 2) (w : Nat → S1x64x128.Idx → Elt Ideal .bf16) (L : List (View.Piece (Elt Ideal) S2x768x256 .bf16)) :
    Nat → List (View.Piece (Elt Ideal) S2x768x256 .bf16)
  | 0 => L
  | n + 1 => ⟨rS σ hσ n, w n⟩ :: stk σ hσ w L n

theorem mem_rS {σ : Nat} {hσ : σ < 2} {n : Nat} {y : S2x768x256.Idx} (h : y ∈ (rS σ hσ n).set) :
    (y 0).val = σ ∧ (prow n ≤ (y 1).val ∧ (y 1).val < prow n + 64) ∧ pcol n ≤ (y 2).val ∧ (y 2).val < pcol n + 128 := by
  have h' := Rect.mem_set_unit.1 h
  have h0 : σ ≤ (y 0).val ∧ (y 0).val < σ + 1 := h' 0
  exact ⟨by omega, h' 1, h' 2⟩

theorem stk_succ {σ : Nat} {hσ : σ < 2} {w : Nat → S1x64x128.Idx → Elt Ideal .bf16} {L : List (View.Piece (Elt Ideal) S2x768x256 .bf16)}
    (n : Nat) : stk σ hσ w L (n + 1) = ⟨rS σ hσ n, w n⟩ :: stk σ hσ w L n := rfl

theorem canon_stk_off {σ : Nat} {hσ : σ < 2} {w : Nat → S1x64x128.Idx → Elt Ideal .bf16} {L : List (View.Piece (Elt Ideal) S2x768x256 .bf16)}
    {y : S2x768x256.Idx} (hy : ∀ n, y ∉ (rS σ hσ n).set) : ∀ n, View.canon (stk σ hσ w L n) y = View.canon L y
  | 0 => rfl
  | n + 1 => by rw [stk_succ, View.canon_cons_of_not_mem (⟨rS σ hσ n, w n⟩ : View.Piece (Elt Ideal) S2x768x256 .bf16) _ (hy n)]; exact canon_stk_off hy n

theorem emb_mem {σ : Nat} {hσ : σ < 2} {m : Nat} (x : S1x64x128.Idx) : (rS σ hσ m).emb x ∈ (rS σ hσ m).set :=
  Rect.mem_set_unit.2 fun a =>
    ⟨Nat.le_add_right _ _, by
      show (![σ, prow m, pcol m] : Fin 3 → Nat) a + 1 * (x a).val < (![σ, prow m, pcol m] : Fin 3 → Nat) a + S1x64x128.size a
      rw [Nat.one_mul]; exact Nat.add_lt_add_left (x a).isLt _⟩

theorem rS_disjoint {σ : Nat} {hσ : σ < 2} {m n : Nat} {y : S2x768x256.Idx} (hm : m < 20) (hn : n < 20) (e : m ≠ n)
    (h : y ∈ (rS σ hσ m).set) : y ∉ (rS σ hσ n).set := fun h' => by
  obtain ⟨-, ⟨a1, a2⟩, b1, b2⟩ := mem_rS h
  obtain ⟨-, ⟨c1, c2⟩, d1, d2⟩ := mem_rS h'
  simp only [prow, pcol] at a1 a2 b1 b2 c1 c2 d1 d2
  omega

theorem canon_stk {σ : Nat} {hσ : σ < 2} {w : Nat → S1x64x128.Idx → Elt Ideal .bf16} {L : List (View.Piece (Elt Ideal) S2x768x256 .bf16)}
    (m : Nat) (x : S1x64x128.Idx) : ∀ n, m < n → n ≤ 20 → View.canon (stk σ hσ w L n) ((rS σ hσ m).emb x) = w m x
  | n + 1, h, h20 => by
    by_cases e : m = n
    · rw [← e, stk_succ]
      exact View.canon_cons_emb (Val := Elt Ideal) (e := .bf16) (rS σ hσ m) (w m) (stk σ hσ w L m) x
    · have hd := rS_disjoint (hσ := hσ) (by omega : m < 20) (by omega : n < 20) e (emb_mem x)
      rw [stk_succ, View.canon_cons_of_not_mem (⟨rS σ hσ n, w n⟩ : View.Piece (Elt Ideal) S2x768x256 .bf16) _ hd]
      exact canon_stk m x n (by omega) (by omega)

/-- Where no item stores a weight. -/
def Zone (y : S2x768x256.Idx) : Prop := ((y 2).val < 128 ∧ 640 ≤ (y 1).val) ∨ (128 ≤ (y 2).val ∧ (y 1).val < 128)

theorem zone_off {σ : Nat} {hσ : σ < 2} {y : S2x768x256.Idx} (hy : Zone y) (n : Nat) : y ∉ (rS σ hσ n).set := fun hm => by
  obtain ⟨-, ⟨a1, a2⟩, b1, b2⟩ := mem_rS hm
  simp only [prow, pcol] at a1 a2 b1 b2
  rcases hy with ⟨h1, h2⟩ | ⟨h1, h2⟩ <;> omega

/-- The places no item stores at hold zero. -/
def Zeros (L : List (View.Piece (Elt Ideal) S2x768x256 .bf16)) : Prop := ∀ y, Zone y → View.canon (Val := Elt Ideal) L y = (0 : EReal)

theorem zeros_stk {σ : Nat} {hσ : σ < 2} {w : Nat → S1x64x128.Idx → Elt Ideal .bf16} {L L' : List (View.Piece (Elt Ideal) S2x768x256 .bf16)}
    (hL : L' = stk σ hσ w L 20) (h : Zeros L) : Zeros L' := fun y hy => by
  rw [hL]; exact (canon_stk_off (zone_off hy) 20).trans (h y hy)

/-! ## The weights -/

section weights
variable (t : Nat → FVec Ideal S64x128 .f32)

/-- The largest of a half's scores, by query. -/
def mrow (b : Nat) : FVec Ideal S1x128 .f32 :=
  shapeCast S1x128 (multiReduction .maximumf [0] S128
    (maximumf (maximumf (maximumf (maximumf (maximumf (maximumf (maximumf (maximumf (maximumf (t b) (t (b + 1))) (t (b + 2))) (t (b + 3)))
      (t (b + 4))) (t (b + 5))) (t (b + 6))) (t (b + 7))) (t (b + 8))) (t (b + 9)))
    0xFF800000#32 reduces_S64x128_S128 (.inl rfl) rfl) shapeCasts_S128_S1x128

/-- A chunk's weights. -/
def pc (b n : Nat) : FVec Ideal S64x128 .f32 := exp2 (subf (t n) (broadcastTo S64x128 (mrow t b) broadcasts_S1x128_S64x128))

/-- One over a half's sum of weights, by query. -/
def isum (b : Nat) : FVec Ideal S1x128 .f32 :=
  divf (broadcast S1x128 (FloatOps.ofBits .f32 1065353216#32)) (shapeCast S1x128 (multiReduction .add [0] S128
    (addf (addf (addf (addf (addf (addf (addf (addf (addf (pc t b b) (pc t b (b + 1))) (pc t b (b + 2))) (pc t b (b + 3)))
      (pc t b (b + 4))) (pc t b (b + 5))) (pc t b (b + 6))) (pc t b (b + 7))) (pc t b (b + 8))) (pc t b (b + 9)))
    0x00000000#32 reduces_S64x128_S128 (.inl rfl) rfl) shapeCasts_S128_S1x128)

def inv : FVec Ideal S1x256 .f32 := concatenate S1x256 1 [⟨S1x128, isum t 0⟩, ⟨S1x128, isum t 10⟩] concatenates_S1x128_S1x128_S1x256_d1

/-- A piece as it is stored. -/
def pst (n : Nat) : FVec Ideal S1x64x128 .bf16 :=
  shapeCast S1x64x128 (truncf .bf16 (pc t (10 * (n / 10)) n) bitsLt_bf16_f32) shapeCasts_S64x128_S1x64x128

/-- The value of `mrow`. -/
def mx (b : Nat) (j : Fin 128) : EReal := Finset.univ.fold max ⊥ fun i : Fin 64 =>
  max (max (max (max (max (max (max (max (max (t b (ix2 i j)) (t (b + 1) (ix2 i j))) (t (b + 2) (ix2 i j))) (t (b + 3) (ix2 i j)))
      (t (b + 4) (ix2 i j))) (t (b + 5) (ix2 i j))) (t (b + 6) (ix2 i j))) (t (b + 7) (ix2 i j))) (t (b + 8) (ix2 i j))) (t (b + 9) (ix2 i j))

theorem mrow_apply (b : Nat) (j : Fin 128) : mrow t b (ix2 0 j) = mx t b j := by
  unfold mrow mx
  pointwise
  rw [← bits_neg_inf]

theorem pc_apply (b n : Nat) (i : Fin 64) (j : Fin 128) : pc t b n (ix2 i j) = Ideal.exp2 (t n (ix2 i j) - mx t b j) := by
  rw [← mrow_apply]
  unfold pc
  pointwise
  rfl

theorem isum_apply (b : Nat) (j : Fin 128) : isum t b (ix2 0 j) = Ideal.div 1 (∑ i : Fin 64, ∑ c : Fin 10, pc t b (b + c.val) (ix2 i j)) := by
  rw [← bits_one]
  unfold isum
  pointwise
  refine congrArg _ (Finset.sum_congr rfl fun x _ => ?_)
  simp only [Fin.sum_univ_succ, Fin.sum_univ_zero]
  simp [add_assoc]

theorem inv_apply_lo (j : Fin 128) : inv t (ix2 0 ⟨j.val, by omega⟩) = isum t 0 (ix2 0 j) :=
  concatenate_pair_apply_left (t := S1x256) (s₁ := S1x128) (s₂ := S1x128) 1 (isum t 0) (isum t 10) _ _ rfl (ix2 0 j) fun
    | ⟨0, _⟩ => rfl
    | ⟨1, _⟩ => rfl

theorem inv_apply_hi (j : Fin 128) : inv t (ix2 0 ⟨128 + j.val, by omega⟩) = isum t 10 (ix2 0 j) :=
  concatenate_pair_apply_right (t := S1x256) (s₁ := S1x128) (s₂ := S1x128) 1 (isum t 0) (isum t 10) _ _ rfl rfl (ix2 0 j) (fun
    | ⟨0, _⟩ => fun _ => rfl
    | ⟨1, _⟩ => fun h => absurd rfl h) (by show j.val + 128 = 128 + j.val; omega)

theorem pst_apply (n : Nat) (i : Fin 64) (j : Fin 128) : pst t n (ix3 0 i j) = pc t (10 * (n / 10)) n (ix2 i j) := by
  unfold pst
  pointwise

end weights

/-! ## The weights' values, from the biased scores -/

theorem sum_lo {f : Fin 768 → EReal} (h : ∀ k : Fin 768, 640 ≤ k.val → f k = 0) :
    ∑ k, f k = ∑ i : Fin 64, ∑ c : Fin 10, f ⟨64 * c.val + 128 * 0 + i.val, by omega⟩ := by
  rw [sum_chunks, Finset.sum_comm]
  refine Finset.sum_congr rfl fun i _ => ?_
  rw [Fin.sum_univ_castSucc, Fin.sum_univ_castSucc, h _ (by show 640 ≤ 64 * 10 + i.val; omega), h _ (by show 640 ≤ 64 * 11 + i.val; omega),
    add_zero, add_zero]
  rfl

theorem sum_hi {f : Fin 768 → EReal} (h : ∀ k : Fin 768, k.val < 128 → f k = 0) :
    ∑ k, f k = ∑ i : Fin 64, ∑ c : Fin 10, f ⟨64 * c.val + 128 * 1 + i.val, by omega⟩ := by
  rw [sum_chunks, Finset.sum_comm]
  refine Finset.sum_congr rfl fun i _ => ?_
  rw [Fin.sum_univ_succ, Fin.sum_univ_succ, h _ (by show 64 * 0 + i.val < 128; omega), h _ (by show 64 * 1 + i.val < 128; omega),
    zero_add, zero_add]
  refine Finset.sum_congr rfl fun c _ => congrArg f (Fin.ext ?_)
  show 64 * (c.val + 1 + 1) + i.val = 64 * c.val + 128 * 1 + i.val
  omega

section values
variable {t : Nat → FVec Ideal S64x128 .f32} {T : Fin 768 → Fin 256 → EReal}
  (ht : ∀ b, b < 2 → ∀ c, c < 10 → ∀ (i : Fin 64) (j : Fin 128) (h1 : 64 * c + 128 * b + i.val < 768) (h2 : 128 * b + j.val < 256),
    t (10 * b + c) (ix2 i j) = T ⟨64 * c + 128 * b + i.val, h1⟩ ⟨128 * b + j.val, h2⟩)

include ht

theorem mx_real {b : Nat} (hb : b < 2) (j : Fin 128) (h2 : 128 * b + j.val < 256) (hT : ∀ k, T k ⟨128 * b + j.val, h2⟩ ≠ ⊤)
    (hne : ∃ k : Fin 768, (128 * b ≤ k.val ∧ k.val < 640 + 128 * b) ∧ T k ⟨128 * b + j.val, h2⟩ ≠ ⊥) : IsReal (mx t (10 * b) j) := by
  have e (c : Nat) (hc : c < 10) (i : Fin 64) := ht b hb c hc i j (by omega) h2
  refine fold_max_real (fun i _ => lt_top_iff_ne_top.1 ?_) ?_
  · have l (c : Nat) (hc : c < 10) : t (10 * b + c) (ix2 i j) < ⊤ := by rw [e c hc]; exact lt_top_iff_ne_top.2 (hT _)
    simp only [max_lt_iff]
    exact ⟨⟨⟨⟨⟨⟨⟨⟨⟨l 0 (by omega), l 1 (by omega)⟩, l 2 (by omega)⟩, l 3 (by omega)⟩, l 4 (by omega)⟩, l 5 (by omega)⟩, l 6 (by omega)⟩,
      l 7 (by omega)⟩, l 8 (by omega)⟩, l 9 (by omega)⟩
  · obtain ⟨k, ⟨h3, h4⟩, hk⟩ := hne
    refine ⟨⟨k.val % 64, by omega⟩, Finset.mem_univ _, fun hbot => hk ?_⟩
    have hc : (k.val - 128 * b) / 64 < 10 := by omega
    have ek : T k ⟨128 * b + j.val, h2⟩ = t (10 * b + (k.val - 128 * b) / 64) (ix2 ⟨k.val % 64, by omega⟩ j) := by
      rw [e _ hc]
      exact congrArg (fun k => T k _) (Fin.ext (by show k.val = 64 * ((k.val - 128 * b) / 64) + 128 * b + k.val % 64; omega))
    rw [ek]
    simp only [max_eq_bot] at hbot
    obtain ⟨⟨⟨⟨⟨⟨⟨⟨⟨l0, l1⟩, l2⟩, l3⟩, l4⟩, l5⟩, l6⟩, l7⟩, l8⟩, l9⟩ := hbot
    generalize (k.val - 128 * b) / 64 = c at hc ⊢
    interval_cases c <;> assumption

theorem pc_val {b : Nat} (hb : b < 2) (j : Fin 128) (h2 : 128 * b + j.val < 256) (hT : ∀ k, T k ⟨128 * b + j.val, h2⟩ ≠ ⊤) {m : ℝ}
    (hm : mx t (10 * b) j = (m : EReal)) (c : Nat) (hc : c < 10) (i : Fin 64) :
    pc t (10 * b) (10 * b + c) (ix2 i j)
      = ((pw (T ⟨64 * c + 128 * b + i.val, by omega⟩ ⟨128 * b + j.val, h2⟩) * Real.rpow 2 (-m) : ℝ) : EReal) := by
  rw [pc_apply, hm, ht b hb c hc i j (by omega) h2, exp2_shift (hT _)]

/-- One item's share of the output: its stored weights times the values, divided by the weights' sum. -/
theorem item_mean {b : Nat} (hb : b < 2) (j : Fin 128) (h2 : 128 * b + j.val < 256) (hT : ∀ k, T k ⟨128 * b + j.val, h2⟩ ≠ ⊤)
    (hout : ∀ k : Fin 768, ¬ (128 * b ≤ k.val ∧ k.val < 640 + 128 * b) → T k ⟨128 * b + j.val, h2⟩ = ⊥)
    (hne : ∃ k : Fin 768, T k ⟨128 * b + j.val, h2⟩ ≠ ⊥) {P V : Fin 768 → EReal}
    (hP : ∀ c, c < 10 → ∀ (i : Fin 64) (h1 : 64 * c + 128 * b + i.val < 768),
      P ⟨64 * c + 128 * b + i.val, h1⟩ = pc t (10 * b) (10 * b + c) (ix2 i j))
    (hP0 : ∀ k : Fin 768, ¬ (128 * b ≤ k.val ∧ k.val < 640 + 128 * b) → P k = 0) :
    (∑ k, V k * P k) * isum t (10 * b) (ix2 0 j) = mean (fun k => T k ⟨128 * b + j.val, h2⟩) V := by
  obtain ⟨m, hm⟩ := mx_real ht hb j h2 hT (hne.imp fun k hk => ⟨by by_contra h; exact hk (hout k h), hk⟩)
  rw [isum_apply]
  refine mean_kernel (m := m) (P := P) (fun k => ?_) ?_ hne
  · by_cases h : 128 * b ≤ k.val ∧ k.val < 640 + 128 * b
    · have hc : (k.val - 128 * b) / 64 < 10 := by omega
      have ek : k = ⟨64 * ((k.val - 128 * b) / 64) + 128 * b + k.val % 64, by omega⟩ := Fin.ext (by show k.val = 64 * ((k.val - 128 * b) / 64) + 128 * b + k.val % 64; omega)
      have e1 := hP _ hc ⟨k.val % 64, by omega⟩ (by show _ + k.val % 64 < 768; omega)
      rw [pc_val ht hb j h2 hT hm _ hc] at e1
      rw [ek]; exact e1
    · rw [hP0 k h, hout k h, pw, if_pos rfl, zero_mul, EReal.coe_zero]
  · rcases (by omega : b = 0 ∨ b = 1) with rfl | rfl
    · rw [sum_lo fun k hk => hP0 k (by omega)]
      exact Finset.sum_congr rfl fun i _ => Finset.sum_congr rfl fun c _ => (hP c.val c.isLt i _).symm
    · rw [sum_hi fun k hk => hP0 k (by omega)]
      exact Finset.sum_congr rfl fun i _ => Finset.sum_congr rfl fun c _ => (hP c.val c.isLt i _).symm

end values

end Cert.Proof.Band

end
-- ==== Proof.BandScore.lean ====
/- One item of the band attention's body: its scores, and its share of the output from what the two scratch buffers hold. -/
module

public import proofs.«01_k».proof.Proof.BandItem
public import proofs.«01_k».proof.Proof.Gen.BandIdeal.Value

@[expose] public section

noncomputable section

namespace Cert.Proof.Band

open Cert.BandIdeal Cert.BandIdeal.Gen Idealize.ShloMosaic Idealize.ShloMosaic.TcCoe Idealize.SL.Sem
open Cert.Proof.Common

/-! ## The windows -/

/-- A window of 768 rows over two blocks of 512, from row `o` of the first. -/
def W (o : Nat) (a b : Vec Ideal S512x1024 .bf16) (k : Fin 768) (c : Fin 1024) : EReal :=
  if k.val + o < 512 then a (ix2 ⟨(k.val + o) % 512, by omega⟩ c) else b (ix2 ⟨(k.val + o) % 512, by omega⟩ c)

theorem readAt_unread {s : Shape} {sh : Vec Ideal s .bf16} {arg : Memref sig .tc .vmem s .bf16} (h : arg.IsWhole) (r : Rect s) :
    View.readAt (Elt Ideal) arg.view r.toLoadRect (h.unread sh) = View.ld sh r := by
  show View.ld (arg.view.read (Elt Ideal) (h.unread sh)) r = _
  rw [h.read_unread]

theorem readAt_unread_f32 {s : Shape} {sh : Vec Ideal s .f32} {arg : Memref sig .tc .vmem s .f32} (h : arg.IsWhole) (r : Rect s) :
    View.readAt (Elt Ideal) arg.view r.toLoadRect (h.unread sh) = View.ld sh r := by
  show View.ld (arg.view.read (Elt Ideal) (h.unread sh)) r = _
  rw [h.read_unread]

theorem ld_ix2 {n w lo l0 : Nat} (x : Vec Ideal S512x1024 .bf16)
    (h : ∀ d, (![l0, lo] : Fin 2 → Nat) d + (⟨2, ![n, w]⟩ : Shape).size d ≤ S512x1024.size d) (i : Fin n) (c : Fin w)
    (h0 : l0 + i.val < 512) (h1 : lo + c.val < 1024) :
    View.ld x (Rect.unit ![l0, lo] (⟨2, ![n, w]⟩ : Shape).size h) (ix2 i c) = x (ix2 ⟨l0 + i.val, h0⟩ ⟨lo + c.val, h1⟩) := by
  refine congrArg x (funext fun d => ?_)
  match d with
  | ⟨0, _⟩ => exact Fin.ext (by show l0 + 1 * i.val = l0 + i.val; omega)
  | ⟨1, _⟩ => exact Fin.ext (by show lo + 1 * c.val = lo + c.val; omega)

section windows
variable {arga argb : Memref sig .tc .vmem S512x1024 .bf16} (ha : arga.IsWhole) (hb : argb.IsWhole) (a b : Vec Ideal S512x1024 .bf16)
  (lo : Nat) (k : Fin 768) (c : Fin 128) (h1 : lo + c.val < 1024)

theorem win0 (i1 : ∀ d, (![0, lo] : Fin 2 → Nat) d + S512x128.size d ≤ S512x1024.size d)
    (i2 : ∀ d, (![0, lo] : Fin 2 → Nat) d + S256x128.size d ≤ S512x1024.size d) :
    concatenate S768x128 0 [⟨S512x128, View.readAt (Elt Ideal) arga.view (Rect.unit (s := S512x1024) ![0, lo] S512x128.size i1).toLoadRect (ha.unread a)⟩,
      ⟨S256x128, View.readAt (Elt Ideal) argb.view (Rect.unit (s := S512x1024) ![0, lo] S256x128.size i2).toLoadRect (hb.unread b)⟩]
      concatenates_S512x128_S256x128_S768x128_d0 (ix2 k c) = W 0 a b k ⟨lo + c.val, h1⟩ := by
  rw [readAt_unread, readAt_unread]
  unfold W
  by_cases h : k.val < 512
  · rw [if_pos (by omega), concatenate_pair_apply_left (t := S768x128) (s₁ := S512x128) (s₂ := S256x128) _ _ _ _ _ rfl (ix2 ⟨k.val, h⟩ c) fun
      | ⟨0, _⟩ => rfl
      | ⟨1, _⟩ => rfl]
    rw [ld_ix2 (n := 512) (w := 128) a i1 ⟨k.val, h⟩ c (by show 0 + k.val < 512; omega) h1]
    exact congrArg a (congrArg (fun z => ix2 z _) (Fin.ext (by show 0 + k.val = (k.val + 0) % 512; omega)))
  · rw [if_neg (by omega), concatenate_pair_apply_right (t := S768x128) (s₁ := S512x128) (s₂ := S256x128) _ _ _ _ _ rfl rfl
      (ix2 ⟨k.val - 512, by omega⟩ c) (fun
      | ⟨0, _⟩ => fun h => absurd rfl h
      | ⟨1, _⟩ => fun _ => rfl) (by show k.val - 512 + 512 = k.val; omega)]
    rw [ld_ix2 (n := 256) (w := 128) b i2 ⟨k.val - 512, by omega⟩ c (by show 0 + (k.val - 512) < 512; omega) h1]
    exact congrArg b (congrArg (fun z => ix2 z _) (Fin.ext (by show 0 + (k.val - 512) = (k.val + 0) % 512; omega)))

theorem win1 (i1 : ∀ d, (![256, lo] : Fin 2 → Nat) d + S256x128.size d ≤ S512x1024.size d)
    (i2 : ∀ d, (![0, lo] : Fin 2 → Nat) d + S512x128.size d ≤ S512x1024.size d) :
    concatenate S768x128 0 [⟨S256x128, View.readAt (Elt Ideal) arga.view (Rect.unit (s := S512x1024) ![256, lo] S256x128.size i1).toLoadRect (ha.unread a)⟩,
      ⟨S512x128, View.readAt (Elt Ideal) argb.view (Rect.unit (s := S512x1024) ![0, lo] S512x128.size i2).toLoadRect (hb.unread b)⟩]
      concatenates_S256x128_S512x128_S768x128_d0 (ix2 k c) = W 256 a b k ⟨lo + c.val, h1⟩ := by
  rw [readAt_unread, readAt_unread]
  unfold W
  by_cases h : k.val < 256
  · rw [if_pos (by omega), concatenate_pair_apply_left (t := S768x128) (s₁ := S256x128) (s₂ := S512x128) _ _ _ _ _ rfl (ix2 ⟨k.val, h⟩ c) fun
      | ⟨0, _⟩ => rfl
      | ⟨1, _⟩ => rfl]
    rw [ld_ix2 (n := 256) (w := 128) a i1 ⟨k.val, h⟩ c (by show 256 + k.val < 512; omega) h1]
    exact congrArg a (congrArg (fun z => ix2 z _) (Fin.ext (by show 256 + k.val = (k.val + 256) % 512; omega)))
  · rw [if_neg (by omega), concatenate_pair_apply_right (t := S768x128) (s₁ := S256x128) (s₂ := S512x128) _ _ _ _ _ rfl rfl
      (ix2 ⟨k.val - 256, by omega⟩ c) (fun
      | ⟨0, _⟩ => fun h => absurd rfl h
      | ⟨1, _⟩ => fun _ => rfl) (by show k.val - 256 + 256 = k.val; omega)]
    rw [ld_ix2 (n := 512) (w := 128) b i2 ⟨k.val - 256, by omega⟩ c (by show 0 + (k.val - 256) < 512; omega) h1]
    exact congrArg b (congrArg (fun z => ix2 z _) (Fin.ext (by show 0 + (k.val - 256) = (k.val + 256) % 512; omega)))

end windows

/-! ## The scores -/

theorem lane (q : Fin 256) (c : Fin 128) : k0_pay2 (ix2 q c) = BitVec.ofNat 32 (c.val / 64) := by
  unfold k0_pay2
  pointwise
  revert c
  decide +kernel

/-- A lane pair's scores for the head in one half of its lanes: the other half's query lanes are set to zero. -/
def score (par : BitVec 32) (kw : FVec Ideal S768x128 .bf16) (qr : FVec Ideal S256x128 .bf16) : FVec Ideal S1x768x256 .f32 :=
  shapeCast S1x768x256 (matmul dot_S768x128_S256x128_S768x256_1_1_0_0_n_n none kw
    (select (cmpi .eq k0_pay2 (broadcast S256x128 par)) qr (broadcast S256x128 (Scalar.ofBits (F := Ideal) .bf16 0x0000#16)))
    (constant S768x256 .f32 0x00000000#32)) shapeCasts_S768x256_S1x768x256

theorem score_apply (par : BitVec 32) (kw : FVec Ideal S768x128 .bf16) (qr : FVec Ideal S256x128 .bf16) (k : Fin 768) (q : Fin 256) :
    score par kw qr (ix3 0 k q) = ∑ c : Fin 128, kw (ix2 k c) * (if BitVec.ofNat 32 (c.val / 64) = par then qr (ix2 q c) else 0) := by
  unfold score
  pointwise
  simp only [lane]
  refine Finset.sum_congr rfl fun c _ => congrArg _ ?_
  by_cases h : BitVec.ofNat 32 (c.val / 64) = par
  · rw [if_pos h, h]; simp [Scalar.select, IntOp.cmpi]
  · rw [if_neg h]
    show (if BitVec.ofBool (BitVec.ofNat 32 (c.val / 64) == par) = 1#1 then qr (ix2 q c) else 0) = 0
    rw [beq_eq_false_iff_ne.2 h]
    rfl

theorem score_head (p : Nat) (hp : p < 2) (kw : FVec Ideal S768x128 .bf16) (qr : FVec Ideal S256x128 .bf16) (k : Fin 768) (q : Fin 256) :
    score (BitVec.ofNat 32 p) kw qr (ix3 0 k q) = ∑ e : Fin 64, kw (ix2 k ⟨64 * p + e.val, by omega⟩) * qr (ix2 q ⟨64 * p + e.val, by omega⟩) := by
  have hlo (e : Fin 64) : (Fin.castAdd 64 e : Fin 128).val / 64 = 0 := by show e.val / 64 = 0; omega
  have hhi (e : Fin 64) : (Fin.natAdd 64 e : Fin 128).val / 64 = 1 := by show (64 + e.val) / 64 = 1; omega
  rw [score_apply]
  refine (Fin.sum_univ_add (a := 64) (b := 64) (fun c : Fin (64 + 64) =>
    kw (ix2 k c) * (if BitVec.ofNat 32 (c.val / 64) = BitVec.ofNat 32 p then qr (ix2 q c) else 0))).trans ?_
  simp only [hlo, hhi]
  rcases (by omega : p = 0 ∨ p = 1) with rfl | rfl
  · rw [show (∑ e : Fin 64, kw (ix2 k (Fin.natAdd 64 e)) * (if BitVec.ofNat 32 1 = BitVec.ofNat 32 0 then qr (ix2 q (Fin.natAdd 64 e)) else 0)) = 0 from
      Finset.sum_eq_zero fun e _ => by rw [if_neg (by decide), mul_zero], add_zero]
    refine Finset.sum_congr rfl fun e _ => ?_
    rw [if_pos rfl]
    have he : (Fin.castAdd 64 e : Fin 128) = ⟨64 * 0 + e.val, by omega⟩ := Fin.ext (by show e.val = 64 * 0 + e.val; omega)
    rw [he]
  · rw [show (∑ e : Fin 64, kw (ix2 k (Fin.castAdd 64 e)) * (if BitVec.ofNat 32 0 = BitVec.ofNat 32 1 then qr (ix2 q (Fin.castAdd 64 e)) else 0)) = 0 from
      Finset.sum_eq_zero fun e _ => by rw [if_neg (by decide), mul_zero], zero_add]
    refine Finset.sum_congr rfl fun e _ => ?_
    rw [if_pos rfl]
    rfl

/-! ## The two scratch buffers -/

theorem slot_emb {σ : Nat} (hσ : σ < 2) (k : Fin 768) (q : Fin 256) : (slot σ hσ).emb (ix3 0 k q) = ix3 ⟨σ, hσ⟩ k q := by
  refine funext fun d => ?_
  match d with
  | ⟨0, _⟩ => exact Fin.ext (by show σ + 1 * 0 = σ; omega)
  | ⟨1, _⟩ => exact Fin.ext (by show 0 + 1 * k.val = k.val; omega)
  | ⟨2, _⟩ => exact Fin.ext (by show 0 + 1 * q.val = q.val; omega)

theorem canon_slot {σ : Nat} (hσ : σ < 2) (w : S1x768x256.Idx → Elt Ideal .f32) (L : List (View.Piece (Elt Ideal) S2x768x256 .f32))
    (k : Fin 768) (q : Fin 256) : View.canon (⟨slot σ hσ, w⟩ :: L) (ix3 ⟨σ, hσ⟩ k q) = w (ix3 0 k q) := by
  rw [← slot_emb]
  exact View.canon_cons_emb (Val := Elt Ideal) (e := .f32) (slot σ hσ) w L (ix3 0 k q)

theorem canon_slot' {σ σ' : Nat} (hσ : σ < 2) (hσ' : σ' < 2) (hne : σ ≠ σ') (w w' : S1x768x256.Idx → Elt Ideal .f32)
    (L : List (View.Piece (Elt Ideal) S2x768x256 .f32)) (k : Fin 768) (q : Fin 256) :
    View.canon (⟨slot σ' hσ', w'⟩ :: ⟨slot σ hσ, w⟩ :: L) (ix3 ⟨σ, hσ⟩ k q) = w (ix3 0 k q) := by
  have hm : (ix3 ⟨σ, hσ⟩ k q : S2x768x256.Idx) ∉ (slot σ' hσ').set := fun h => by
    have h0 : σ' ≤ σ ∧ σ < σ' + 1 := Rect.mem_set_unit.1 h 0
    omega
  rw [View.canon_cons_of_not_mem (⟨slot σ' hσ', w'⟩ : View.Piece (Elt Ideal) S2x768x256 .f32) _ hm]
  exact canon_slot hσ w L k q

theorem readCov_apply {e : EltTy} {s : Shape} (arg : Memref sig .tc .vmem s e) (L : List (View.Piece (Elt Ideal) s e)) (r : Rect s) (x : r.shape.Idx) :
    arg.view.readCov L r.toLoadRect x = View.canon L (r.emb x) := by
  show arg.view.read (Elt Ideal) (arg.view.writes (Elt Ideal) arg.view.junk L) (r.emb x) = _
  rw [View.read_writes_junk_eq_canon]

theorem add_cast (u : FVec Ideal S1x64x128 .f32) (v : FVec Ideal S1x1x64x128 .f32) (i : Fin 64) (j : Fin 128) :
    addf (shapeCast S64x128 u shapeCasts_S1x64x128_S64x128) (shapeCast S64x128 v shapeCasts_S1x1x64x128_S64x128) (ix2 i j)
      = u (ix3 0 i j) + v (ix4 0 0 i j) := by
  pointwise

/-- An item's biased scores, in chunks. -/
def tsc (σ : Nat) (hσ : σ < 2) (h : Nat) (hh : h < 16) (arg10 : Memref sig .tc .vmem S2x768x256 .f32)
    (HS : List (View.Piece (Elt Ideal) S2x768x256 .f32)) (argb : Memref sig .tc .vmem S1x16x768x256 .f32) (hb : argb.IsWhole)
    (x : Vec Ideal S1x16x768x256 .f32) (n : Nat) : FVec Ideal S64x128 .f32 :=
  addf (shapeCast S64x128 (arg10.view.readCov HS (rS σ hσ n).toLoadRect) shapeCasts_S1x64x128_S64x128)
    (shapeCast S64x128 (View.readAt (Elt Ideal) argb.view (rB h hh n).toLoadRect (hb.unread x)) shapeCasts_S1x1x64x128_S64x128)

section item
variable {σ : Nat} {hσ : σ < 2} {h : Nat} {hh : h < 16} {arg10 : Memref sig .tc .vmem S2x768x256 .f32}
  {HS : List (View.Piece (Elt Ideal) S2x768x256 .f32)} {argb : Memref sig .tc .vmem S1x16x768x256 .f32} {hb : argb.IsWhole}
  {x : Vec Ideal S1x16x768x256 .f32} {S : Fin 768 → Fin 256 → EReal} (hS : ∀ k q, View.canon HS (ix3 ⟨σ, hσ⟩ k q) = S k q)

include hS in
theorem tsc_apply (b : Nat) (hb2 : b < 2) (c : Nat) (hc : c < 10) (i : Fin 64) (j : Fin 128) (h1 : 64 * c + 128 * b + i.val < 768)
    (h2 : 128 * b + j.val < 256) : tsc σ hσ h hh arg10 HS argb hb x (10 * b + c) (ix2 i j)
      = S ⟨64 * c + 128 * b + i.val, h1⟩ ⟨128 * b + j.val, h2⟩ + x (ix4 0 ⟨h, hh⟩ ⟨64 * c + 128 * b + i.val, h1⟩ ⟨128 * b + j.val, h2⟩) := by
  have m1 : (10 * b + c) % 10 = c := by omega
  have m2 : (10 * b + c) / 10 % 2 = b := by omega
  have e1 : (rS σ hσ (10 * b + c)).emb (ix3 0 i j) = ix3 ⟨σ, hσ⟩ ⟨64 * c + 128 * b + i.val, h1⟩ ⟨128 * b + j.val, h2⟩ := by
    refine funext fun d => ?_
    match d with
    | ⟨0, _⟩ => exact Fin.ext (by show σ + 1 * 0 = σ; omega)
    | ⟨1, _⟩ => exact Fin.ext (by show prow (10 * b + c) + 1 * i.val = 64 * c + 128 * b + i.val; unfold prow; omega)
    | ⟨2, _⟩ => exact Fin.ext (by show pcol (10 * b + c) + 1 * j.val = 128 * b + j.val; unfold pcol; omega)
  have e2 : (rB h hh (10 * b + c)).emb (ix4 0 0 i j) = ix4 0 ⟨h, hh⟩ ⟨64 * c + 128 * b + i.val, h1⟩ ⟨128 * b + j.val, h2⟩ := by
    refine funext fun d => ?_
    match d with
    | ⟨0, _⟩ => exact Fin.ext (by show 0 + 1 * 0 = 0; omega)
    | ⟨1, _⟩ => exact Fin.ext (by show h + 1 * 0 = h; omega)
    | ⟨2, _⟩ => exact Fin.ext (by show prow (10 * b + c) + 1 * i.val = 64 * c + 128 * b + i.val; unfold prow; omega)
    | ⟨3, _⟩ => exact Fin.ext (by show pcol (10 * b + c) + 1 * j.val = 128 * b + j.val; unfold pcol; omega)
  have a1 : arg10.view.readCov HS (rS σ hσ (10 * b + c)).toLoadRect (ix3 0 i j) = S ⟨64 * c + 128 * b + i.val, h1⟩ ⟨128 * b + j.val, h2⟩ := by
    rw [readCov_apply arg10 HS (rS σ hσ (10 * b + c)) (ix3 0 i j), e1, hS]
  have a2 : View.readAt (Elt Ideal) argb.view (rB h hh (10 * b + c)).toLoadRect (hb.unread x) (ix4 0 0 i j)
      = x (ix4 0 ⟨h, hh⟩ ⟨64 * c + 128 * b + i.val, h1⟩ ⟨128 * b + j.val, h2⟩) := by
    rw [readAt_unread_f32]
    exact congrArg x e2
  rw [← a1, ← a2]
  exact add_cast _ _ i j

end item

/-- An item's output: its weights times its values, over the weights' sum. -/
def itemO (p : FVec Ideal S1x768x256 .bf16) (iv : FVec Ideal S1x256 .f32) (vw : FVec Ideal S64x768 .bf16) : FVec Ideal S64x256 .f32 :=
  mulf (matmul dot_S64x768_S768x256_S64x256_1_0_0_1_n_n none vw (shapeCast S768x256 p shapeCasts_S1x768x256_S768x256)
      (constant S64x256 .f32 0x00000000#32))
    (broadcastTo S64x256 iv broadcasts_S1x256_S64x256)

theorem itemO_apply (p : FVec Ideal S1x768x256 .bf16) (iv : FVec Ideal S1x256 .f32) (vw : FVec Ideal S64x768 .bf16) (d : Fin 64) (q : Fin 256) :
    itemO p iv vw (ix2 d q) = (∑ k : Fin 768, vw (ix2 d k) * p (ix3 0 k q)) * iv (ix2 0 q) := by
  unfold itemO
  pointwise

theorem item_value {σ : Nat} {hσ : σ < 2} {t : Nat → FVec Ideal S64x128 .f32} {arg11 : Memref sig .tc .vmem S2x768x256 .bf16}
    {L L0 : List (View.Piece (Elt Ideal) S2x768x256 .bf16)} {vw : FVec Ideal S64x768 .bf16} {T : Fin 768 → Fin 256 → EReal}
    (ht : ∀ b, b < 2 → ∀ c, c < 10 → ∀ (i : Fin 64) (j : Fin 128) (h1 : 64 * c + 128 * b + i.val < 768) (h2 : 128 * b + j.val < 256),
      t (10 * b + c) (ix2 i j) = T ⟨64 * c + 128 * b + i.val, h1⟩ ⟨128 * b + j.val, h2⟩)
    (hT : ∀ k q, T k q ≠ ⊤)
    (hout : ∀ (k : Fin 768) (q : Fin 256), ¬ (128 * (q.val / 128) ≤ k.val ∧ k.val < 640 + 128 * (q.val / 128)) → T k q = ⊥)
    (hne : ∀ q, ∃ k, T k q ≠ ⊥) (hL : L = stk σ hσ (pst t) L0 20) (h0 : Zeros L0) (d : Fin 64) (q : Fin 256) :
    itemO (arg11.view.readCov L (slot σ hσ).toLoadRect) (inv t) vw (ix2 d q) = mean (fun k => T k q) (fun k => vw (ix2 d k)) := by
  have key (b : Nat) (hb : b < 2) (j : Fin 128) (h2 : 128 * b + j.val < 256) :
      itemO (arg11.view.readCov L (slot σ hσ).toLoadRect) (inv t) vw (ix2 d ⟨128 * b + j.val, h2⟩) = mean (fun k => T k ⟨128 * b + j.val, h2⟩) (fun k => vw (ix2 d k)) := by
    have hq : (128 * b + j.val) / 128 = b := by omega
    have hi : inv t (ix2 0 ⟨128 * b + j.val, h2⟩) = isum t (10 * b) (ix2 0 j) := by
      rcases (by omega : b = 0 ∨ b = 1) with rfl | rfl
      · rw [← inv_apply_lo]; exact congrArg (fun z => inv t (ix2 0 z)) (Fin.ext (by show 128 * 0 + j.val = j.val; omega))
      · exact inv_apply_hi t j
    have a (k : Fin 768) (q : Fin 256) : arg11.view.readCov L (slot σ hσ).toLoadRect (ix3 0 k q) = View.canon L (ix3 ⟨σ, hσ⟩ k q) := by
      rw [readCov_apply arg11 L (slot σ hσ) (ix3 0 k q), slot_emb]
    rw [itemO_apply, hi]
    simp only [a]
    refine item_mean (P := fun k => View.canon L (ix3 ⟨σ, hσ⟩ k ⟨128 * b + j.val, h2⟩)) ht hb j h2 (fun k => hT k _) (fun k hk => hout k _ (by show ¬ (128 * ((128 * b + j.val) / 128) ≤ k.val ∧ k.val < 640 + 128 * ((128 * b + j.val) / 128)); rwa [hq]))
      (hne _) (fun c hc i h1 => ?_) fun k hk => zeros_stk hL h0 _ ?_
    · have m1 : (10 * b + c) % 10 = c := by omega
      have m2 : (10 * b + c) / 10 % 2 = b := by omega
      have m3 : (10 * b + c) / 10 = b := by omega
      have e1 : (rS σ hσ (10 * b + c)).emb (ix3 0 i j) = ix3 ⟨σ, hσ⟩ ⟨64 * c + 128 * b + i.val, h1⟩ ⟨128 * b + j.val, h2⟩ := by
        refine funext fun d => ?_
        match d with
        | ⟨0, _⟩ => exact Fin.ext (by show σ + 1 * 0 = σ; omega)
        | ⟨1, _⟩ => exact Fin.ext (by show prow (10 * b + c) + 1 * i.val = 64 * c + 128 * b + i.val; unfold prow; omega)
        | ⟨2, _⟩ => exact Fin.ext (by show pcol (10 * b + c) + 1 * j.val = 128 * b + j.val; unfold pcol; omega)
      show View.canon L (ix3 ⟨σ, hσ⟩ ⟨64 * c + 128 * b + i.val, h1⟩ ⟨128 * b + j.val, h2⟩) = _
      rw [hL, ← e1, canon_stk (10 * b + c) (ix3 0 i j) 20 (by omega) le_rfl, pst_apply, m3]
    · show ((128 * b + j.val) < 128 ∧ 640 ≤ k.val) ∨ (128 ≤ 128 * b + j.val ∧ k.val < 128)
      omega
  have e := key (q.val / 128) (by omega) ⟨q.val % 128, by omega⟩ (by show 128 * (q.val / 128) + q.val % 128 < 256; omega)
  have eq : (⟨128 * (q.val / 128) + q.val % 128, by omega⟩ : Fin 256) = q := Fin.ext (by show 128 * (q.val / 128) + q.val % 128 = q.val; omega)
  simp only [eq] at e
  exact e

end Cert.Proof.Band

end
-- ==== Proof.BandPair.lean ====
/- Two items of the band attention's body, that is two heads of one tile of queries, which share the lanes they are stored at. -/
module

public import proofs.«01_k».proof.Proof.BandScore

@[expose] public section

noncomputable section

namespace Cert.Proof.Band

open Cert.BandIdeal Cert.BandIdeal.Gen Idealize.ShloMosaic Idealize.ShloMosaic.TcCoe Idealize.SL.Sem
open Cert.Proof.Common

/-! ## One grid point's block -/

/-- The scores of head `h` of the tile of queries from row `o`, before the bias. -/
def sc (o : Nat) (ho : o ≤ 256) (x0 x1 x2 : Vec Ideal S512x1024 .bf16) (h : Nat) (hh : h < 16) (k : Fin 768) (q : Fin 256) : EReal :=
  ∑ e : Fin 64, W o x1 x2 k ⟨64 * h + e.val, by omega⟩ * x0 (ix2 ⟨o + q.val, by omega⟩ ⟨64 * h + e.val, by omega⟩)

def blk (x0 x1 x2 x3 x4 : Vec Ideal S512x1024 .bf16) (x5 x6 : Vec Ideal S1x16x768x256 .f32) (r : Fin 512) (c : Fin 1024) : EReal :=
  if h0 : r.val < 256 then
    mean (fun k => sc 0 (by omega) x0 x1 x2 (c.val / 64) (by omega) k ⟨r.val, h0⟩ + x5 (ix4 0 ⟨c.val / 64, by omega⟩ k ⟨r.val, h0⟩))
      (fun k => W 0 x3 x4 k c)
  else
    mean (fun k => sc 256 le_rfl x0 x1 x2 (c.val / 64) (by omega) k ⟨r.val - 256, by omega⟩
      + x6 (ix4 0 ⟨c.val / 64, by omega⟩ k ⟨r.val - 256, by omega⟩)) (fun k => W 256 x3 x4 k c)

def blockOf (x0 x1 x2 x3 x4 : Vec Ideal S512x1024 .bf16) (x5 x6 : Vec Ideal S1x16x768x256 .f32) : Vec Ideal S512x1024 .bf16 := fun y =>
  blk x0 x1 x2 x3 x4 x5 x6 (y 0) (y 1)

/-- What the bias has to be: nowhere plus infinity, minus infinity on the keys no item takes, and for each query some key
    it leaves. -/
structure BiasOk (x : Vec Ideal S1x16x768x256 .f32) : Prop where
  top : ∀ h k q, x (ix4 0 h k q) ≠ ⊤
  out : ∀ h (k : Fin 768) (q : Fin 256), ¬ (128 * (q.val / 128) ≤ k.val ∧ k.val < 640 + 128 * (q.val / 128)) → x (ix4 0 h k q) = ⊥
  some : ∀ h q, ∃ k, x (ix4 0 h k q) ≠ ⊥

theorem sc_real {o : Nat} {ho : o ≤ 256} {x0 x1 x2 : Vec Ideal S512x1024 .bf16} {h : Nat} {hh : h < 16} (r0 : ∀ i, IsReal (x0 i))
    (r1 : ∀ i, IsReal (x1 i)) (r2 : ∀ i, IsReal (x2 i)) (k : Fin 768) (q : Fin 256) : IsReal (sc o ho x0 x1 x2 h hh k q) := by
  refine IsReal.sum fun e => IsReal.mul ?_ (r0 _)
  unfold W
  split
  · exact r1 _
  · exact r2 _

/-! ## Two items' output -/

/-- A lane pair's values, transposed, from lane `d`. -/
def vsl (d : Nat) (h : S128x768.Slices ![d, 0] S64x768) (vw : FVec Ideal S768x128 .bf16) : FVec Ideal S64x768 .bf16 :=
  extractStridedSlice S64x768 ![d, 0] (transpose S128x768 [1, 0] vw transposes_S768x128_p1_0_S128x768) h

def outP (a b : FVec Ideal S64x256 .f32) : FVec Ideal S256x128 .bf16 :=
  truncf .bf16 (transpose S256x128 [1, 0] (concatenate S128x256 0 [⟨S64x256, a⟩, ⟨S64x256, b⟩] concatenates_S64x256_S64x256_S128x256_d0)
    transposes_S128x256_p1_0_S256x128) bitsLt_bf16_f32

theorem vsl_lo (vw : FVec Ideal S768x128 .bf16) (d : Fin 64) (k : Fin 768) :
    vsl 0 slices_S128x768_o0_0_S64x768 vw (ix2 d k) = vw (ix2 k ⟨d.val, by omega⟩) := by
  unfold vsl
  pointwise

theorem vsl_hi (vw : FVec Ideal S768x128 .bf16) (d : Fin 64) (k : Fin 768) :
    vsl 64 slices_S128x768_o64_0_S64x768 vw (ix2 d k) = vw (ix2 k ⟨64 + d.val, by omega⟩) := by
  unfold vsl
  pointwise

theorem outP_lo (a b : FVec Ideal S64x256 .f32) (i : Fin 256) (d : Fin 64) : outP a b (ix2 i ⟨d.val, by omega⟩) = a (ix2 d i) := by
  refine Eq.trans ?_ (concatenate_pair_apply_left (t := S128x256) (s₁ := S64x256) (s₂ := S64x256) 0 a b
    concatenates_S64x256_S64x256_S128x256_d0 (ix2 ⟨d.val, by omega⟩ i) rfl (ix2 d i) fun
    | ⟨0, _⟩ => rfl
    | ⟨1, _⟩ => rfl)
  unfold outP
  generalize concatenate S128x256 0 [⟨S64x256, a⟩, ⟨S64x256, b⟩] concatenates_S64x256_S64x256_S128x256_d0 = u
  pointwise

theorem outP_hi (a b : FVec Ideal S64x256 .f32) (i : Fin 256) (d : Fin 64) : outP a b (ix2 i ⟨64 + d.val, by omega⟩) = b (ix2 d i) := by
  refine Eq.trans ?_ (concatenate_pair_apply_right (t := S128x256) (s₁ := S64x256) (s₂ := S64x256) 0 a b
    concatenates_S64x256_S64x256_S128x256_d0 (ix2 ⟨64 + d.val, by omega⟩ i) rfl rfl (ix2 d i) (fun
    | ⟨0, _⟩ => fun h => absurd rfl h
    | ⟨1, _⟩ => fun _ => rfl) (by show d.val + 64 = 64 + d.val; omega))
  unfold outP
  generalize concatenate S128x256 0 [⟨S64x256, a⟩, ⟨S64x256, b⟩] concatenates_S64x256_S64x256_S128x256_d0 = u
  pointwise

section pair
variable {arg10 : Memref sig .tc .vmem S2x768x256 .f32} {arg11 : Memref sig .tc .vmem S2x768x256 .bf16}
  {argb : Memref sig .tc .vmem S1x16x768x256 .f32} {hb : argb.IsWhole} {xb : Vec Ideal S1x16x768x256 .f32}

/-- One item's output, from its scores. -/
theorem item_out {σ : Nat} {hσ : σ < 2} {h : Nat} {hh : h < 16} {HS : List (View.Piece (Elt Ideal) S2x768x256 .f32)}
    {L L0 : List (View.Piece (Elt Ideal) S2x768x256 .bf16)} {S : Fin 768 → Fin 256 → EReal}
    (hL : L = stk σ hσ (pst (tsc σ hσ h hh arg10 HS argb hb xb)) L0 20) (h0 : Zeros L0)
    (hS : ∀ k q, View.canon HS (ix3 ⟨σ, hσ⟩ k q) = S k q) (rS : ∀ k q, IsReal (S k q)) (hx : BiasOk xb)
    (vw : FVec Ideal S64x768 .bf16) (d : Fin 64) (q : Fin 256) :
    itemO (arg11.view.readCov L (slot σ hσ).toLoadRect) (inv (tsc σ hσ h hh arg10 HS argb hb xb)) vw (ix2 d q)
      = mean (fun k => S k q + xb (ix4 0 ⟨h, hh⟩ k q)) (fun k => vw (ix2 d k)) := by
  refine item_value (T := fun k q => S k q + xb (ix4 0 ⟨h, hh⟩ k q)) (tsc_apply hS) (fun k q => ?_) (fun k q hk => ?_) (fun q => ?_) hL h0 d q
  · obtain ⟨r, hr⟩ := rS k q
    show S k q + _ ≠ ⊤
    rw [hr]; exact EReal.add_ne_top (EReal.coe_ne_top r) (hx.top _ k q)
  · show S k q + xb (ix4 0 ⟨h, hh⟩ k q) = ⊥
    rw [hx.out _ k q hk, EReal.add_bot]
  · obtain ⟨k, hk⟩ := hx.some ⟨h, hh⟩ q
    refine ⟨k, fun e => ?_⟩
    obtain ⟨r, hr⟩ := rS k q
    rcases EReal.add_eq_bot_iff.1 e with e | e
    · rw [hr] at e; exact EReal.coe_ne_bot r e
    · exact hk e

theorem pair_val {p : Nat} (hp : p < 8) {HS HS' A : List (View.Piece (Elt Ideal) S2x768x256 .f32)} {s s' : FVec Ideal S1x768x256 .f32}
    {L L' L0 : List (View.Piece (Elt Ideal) S2x768x256 .bf16)} {vw : FVec Ideal S768x128 .bf16} {w : FVec Ideal S256x128 .bf16}
    (hH : HS = ⟨slot 1 (by decide), s'⟩ :: ⟨slot 0 (by decide), s⟩ :: A) (hH' : HS' = HS ∨ ∃ u, HS' = ⟨slot 0 (by decide), u⟩ :: HS)
    (rs : ∀ k q, IsReal (s (ix3 0 k q))) (rs' : ∀ k q, IsReal (s' (ix3 0 k q))) (hx : BiasOk xb)
    (hL : L = stk 0 (by decide) (pst (tsc 0 (by decide) (2 * p) (by omega) arg10 HS argb hb xb)) L0 20)
    (hL' : L' = stk 1 (by decide) (pst (tsc 1 (by decide) (2 * p + 1) (by omega) arg10 HS' argb hb xb)) L 20) (h0 : Zeros L0)
    (hw : w = outP
      (itemO (arg11.view.readCov L (slot 0 (by decide)).toLoadRect) (inv (tsc 0 (by decide) (2 * p) (by omega) arg10 HS argb hb xb))
        (vsl 0 slices_S128x768_o0_0_S64x768 vw))
      (itemO (arg11.view.readCov L' (slot 1 (by decide)).toLoadRect) (inv (tsc 1 (by decide) (2 * p + 1) (by omega) arg10 HS' argb hb xb))
        (vsl 64 slices_S128x768_o64_0_S64x768 vw))) (i : Fin 256) (d : Fin 64) :
    w (ix2 i ⟨d.val, by omega⟩) = mean (fun k => s (ix3 0 k i) + xb (ix4 0 ⟨2 * p, by omega⟩ k i)) (fun k => vw (ix2 k ⟨d.val, by omega⟩)) ∧
    w (ix2 i ⟨64 + d.val, by omega⟩)
      = mean (fun k => s' (ix3 0 k i) + xb (ix4 0 ⟨2 * p + 1, by omega⟩ k i)) (fun k => vw (ix2 k ⟨64 + d.val, by omega⟩)) := by
  have hs (k : Fin 768) (q : Fin 256) : View.canon HS (ix3 ⟨0, by decide⟩ k q) = s (ix3 0 k q) := by
    rw [hH]; exact canon_slot' _ _ (by decide) _ _ _ _ _
  have hs1 (k : Fin 768) (q : Fin 256) : View.canon HS (ix3 ⟨1, by decide⟩ k q) = s' (ix3 0 k q) := by
    rw [hH]; exact canon_slot _ _ _ _ _
  have hs' (k : Fin 768) (q : Fin 256) : View.canon HS' (ix3 ⟨1, by decide⟩ k q) = s' (ix3 0 k q) := by
    rcases hH' with e | ⟨u, e⟩
    · rw [e]; exact hs1 k q
    · rw [e, hH]; exact canon_slot' _ _ (by decide) _ _ _ _ _
  constructor
  · rw [hw, outP_lo, item_out hL h0 hs rs hx]
    simp only [vsl_lo]
  · rw [hw, outP_hi, item_out hL' (zeros_stk hL h0) hs' rs' hx]
    simp only [vsl_hi]

end pair

/-! ## Both tiles' pairs -/

theorem inb_lane {l0 n p : Nat} (hl : l0 + n ≤ 512) (hp : p < 8) :
    ∀ d, (![l0, 128 * p] : Fin 2 → Nat) d + (⟨2, ![n, 128]⟩ : Shape).size d ≤ S512x1024.size d
  | ⟨0, _⟩ => hl
  | ⟨1, _⟩ => by show 128 * p + 128 ≤ 1024; omega

abbrev rL (l0 n p : Nat) (hl : l0 + n ≤ 512) (hp : p < 8) : Rect S512x1024 :=
  Rect.unit ![l0, 128 * p] (⟨2, ![n, 128]⟩ : Shape).size (inb_lane hl hp)

/-- The first tile's window: the previous block and half of this one. -/
def kw0 (arga argb : Memref sig .tc .vmem S512x1024 .bf16) (ha : arga.IsWhole) (hb : argb.IsWhole) (a b : Vec Ideal S512x1024 .bf16)
    (p : Nat) (hp : p < 8) : FVec Ideal S768x128 .bf16 :=
  concatenate S768x128 0 [⟨S512x128, View.readAt (Elt Ideal) arga.view (rL 0 512 p (by omega) hp).toLoadRect (ha.unread a)⟩,
    ⟨S256x128, View.readAt (Elt Ideal) argb.view (rL 0 256 p (by omega) hp).toLoadRect (hb.unread b)⟩] concatenates_S512x128_S256x128_S768x128_d0

/-- The second tile's: half of the previous block and this one. -/
def kw1 (arga argb : Memref sig .tc .vmem S512x1024 .bf16) (ha : arga.IsWhole) (hb : argb.IsWhole) (a b : Vec Ideal S512x1024 .bf16)
    (p : Nat) (hp : p < 8) : FVec Ideal S768x128 .bf16 :=
  concatenate S768x128 0 [⟨S256x128, View.readAt (Elt Ideal) arga.view (rL 256 256 p (by omega) hp).toLoadRect (ha.unread a)⟩,
    ⟨S512x128, View.readAt (Elt Ideal) argb.view (rL 0 512 p (by omega) hp).toLoadRect (hb.unread b)⟩] concatenates_S256x128_S512x128_S768x128_d0

def qw (arg : Memref sig .tc .vmem S512x1024 .bf16) (h : arg.IsWhole) (x : Vec Ideal S512x1024 .bf16) (o : Nat) (ho : o ≤ 256) (p : Nat) (hp : p < 8) :
    FVec Ideal S256x128 .bf16 :=
  View.readAt (Elt Ideal) arg.view (rL o 256 p (by omega) hp).toLoadRect (h.unread x)

theorem qw_apply {arg : Memref sig .tc .vmem S512x1024 .bf16} {h : arg.IsWhole} {x : Vec Ideal S512x1024 .bf16} {o : Nat} {ho : o ≤ 256} {p : Nat}
    {hp : p < 8} (q : Fin 256) (c : Fin 128) : qw arg h x o ho p hp (ix2 q c) = x (ix2 ⟨o + q.val, by omega⟩ ⟨128 * p + c.val, by omega⟩) := by
  unfold qw
  rw [readAt_unread]
  exact ld_ix2 (n := 256) (w := 128) x _ q c (by omega) (by omega)

/-- A head's scores, from its lane pair's window and queries. -/
theorem score_sc {p m : Nat} (hp : p < 8) (hm : m < 2) {o : Nat} (ho : o ≤ 256) {x0 x1 x2 : Vec Ideal S512x1024 .bf16} {kw : FVec Ideal S768x128 .bf16}
    {qr : FVec Ideal S256x128 .bf16} (hk : ∀ (k : Fin 768) (c : Fin 128), kw (ix2 k c) = W o x1 x2 k ⟨128 * p + c.val, by omega⟩)
    (hq : ∀ (q : Fin 256) (c : Fin 128), qr (ix2 q c) = x0 (ix2 ⟨o + q.val, by omega⟩ ⟨128 * p + c.val, by omega⟩)) (k : Fin 768) (q : Fin 256) :
    score (BitVec.ofNat 32 m) kw qr (ix3 0 k q) = sc o ho x0 x1 x2 (2 * p + m) (by omega) k q := by
  rw [score_head m hm]
  refine Finset.sum_congr rfl fun e _ => ?_
  have he : (⟨128 * p + (64 * m + e.val), by omega⟩ : Fin 1024) = ⟨64 * (2 * p + m) + e.val, by omega⟩ :=
    Fin.ext (by show 128 * p + (64 * m + e.val) = 64 * (2 * p + m) + e.val; omega)
  rw [hk, hq]
  simp only [he]

section tiles
variable {arg2 : Memref sig .tc .vmem S512x1024 .bf16} {harg2 : arg2.IsWhole} {arg3 : Memref sig .tc .vmem S512x1024 .bf16} {harg3 : arg3.IsWhole}
  {arg4 : Memref sig .tc .vmem S512x1024 .bf16} {harg4 : arg4.IsWhole} {arg5 : Memref sig .tc .vmem S512x1024 .bf16} {harg5 : arg5.IsWhole}
  {arg6 : Memref sig .tc .vmem S512x1024 .bf16} {harg6 : arg6.IsWhole}
  {arg10 : Memref sig .tc .vmem S2x768x256 .f32} {arg11 : Memref sig .tc .vmem S2x768x256 .bf16}
  {argb : Memref sig .tc .vmem S1x16x768x256 .f32} {hb : argb.IsWhole}
  {x0 x1 x2 x3 x4 : Vec Ideal S512x1024 .bf16} {x5 x6 : Vec Ideal S1x16x768x256 .f32}

/-- A pair's output as entries of the block, for either tile. -/
theorem pair_block {o : Nat} (ho : o ≤ 256) {p : Nat} (hp : p < 8) {xb : Vec Ideal S1x16x768x256 .f32} {vw : FVec Ideal S768x128 .bf16}
    {w : FVec Ideal S256x128 .bf16} {f : Fin 256 → Fin 1024 → EReal}
    (hf : ∀ (i : Fin 256) (c : Fin 1024), f i c = mean (fun k => sc o ho x0 x1 x2 (c.val / 64) (by omega) k i + xb (ix4 0 ⟨c.val / 64, by omega⟩ k i))
      (fun k => W o x3 x4 k c))
    (hv : ∀ (k : Fin 768) (c : Fin 128), vw (ix2 k c) = W o x3 x4 k ⟨128 * p + c.val, by omega⟩)
    (hw : ∀ (i : Fin 256) (d : Fin 64),
      w (ix2 i ⟨d.val, by omega⟩) = mean (fun k => sc o ho x0 x1 x2 (2 * p) (by omega) k i + xb (ix4 0 ⟨2 * p, by omega⟩ k i)) (fun k => vw (ix2 k ⟨d.val, by omega⟩)) ∧
      w (ix2 i ⟨64 + d.val, by omega⟩)
        = mean (fun k => sc o ho x0 x1 x2 (2 * p + 1) (by omega) k i + xb (ix4 0 ⟨2 * p + 1, by omega⟩ k i)) (fun k => vw (ix2 k ⟨64 + d.val, by omega⟩)))
    (i : Fin 256) (c : Fin 128) : w (ix2 i c) = f i ⟨128 * p + c.val, by omega⟩ := by
  rw [hf]
  by_cases h : c.val < 64
  · have e := (hw i ⟨c.val, h⟩).1
    simp only [hv] at e
    refine e.trans ?_
    have e1 : (128 * p + c.val) / 64 = 2 * p := by omega
    simp only [e1]
  · have e := (hw i ⟨c.val - 64, by omega⟩).2
    have e2 : 64 + (c.val - 64) = c.val := by omega
    simp only [hv, e2] at e
    refine e.trans ?_
    have e1 : (128 * p + c.val) / 64 = 2 * p + 1 := by omega
    simp only [e1]

theorem ix2_self (x : S256x128.Idx) : (ix2 (x 0) (x 1) : S256x128.Idx) = x := funext fun d => match d with
  | ⟨0, _⟩ => rfl
  | ⟨1, _⟩ => rfl

theorem emb_rL {o : Nat} (ho : o ≤ 256) {p : Nat} (hp : p < 8) (i : Fin 256) (c : Fin 128) :
    (rL o 256 p (by omega) hp).emb (ix2 i c) = ix2 ⟨o + i.val, by omega⟩ ⟨128 * p + c.val, by omega⟩ := by
  refine funext fun d => ?_
  match d with
  | ⟨0, _⟩ => exact Fin.ext (by show o + 1 * i.val = o + i.val; omega)
  | ⟨1, _⟩ => exact Fin.ext (by show 128 * p + 1 * c.val = 128 * p + c.val; omega)

theorem pair_eq0 {p : Nat} (hp : p < 8) {HS HS' A : List (View.Piece (Elt Ideal) S2x768x256 .f32)}
    {L L' L0 : List (View.Piece (Elt Ideal) S2x768x256 .bf16)} {w : FVec Ideal S256x128 .bf16}
    (hH : HS = ⟨slot 1 (by decide), score 1#32 (kw0 arg3 arg4 harg3 harg4 x1 x2 p hp) (qw arg2 harg2 x0 0 (by omega) p hp)⟩
      :: ⟨slot 0 (by decide), score 0#32 (kw0 arg3 arg4 harg3 harg4 x1 x2 p hp) (qw arg2 harg2 x0 0 (by omega) p hp)⟩ :: A)
    (hH' : HS' = HS ∨ ∃ u, HS' = ⟨slot 0 (by decide), u⟩ :: HS)
    (hL : L = stk 0 (by decide) (pst (tsc 0 (by decide) (2 * p) (by omega) arg10 HS argb hb x5)) L0 20)
    (hL' : L' = stk 1 (by decide) (pst (tsc 1 (by decide) (2 * p + 1) (by omega) arg10 HS' argb hb x5)) L 20) (h0 : Zeros L0)
    (hw : w = outP
      (itemO (arg11.view.readCov L (slot 0 (by decide)).toLoadRect) (inv (tsc 0 (by decide) (2 * p) (by omega) arg10 HS argb hb x5))
        (vsl 0 slices_S128x768_o0_0_S64x768 (kw0 arg5 arg6 harg5 harg6 x3 x4 p hp)))
      (itemO (arg11.view.readCov L' (slot 1 (by decide)).toLoadRect) (inv (tsc 1 (by decide) (2 * p + 1) (by omega) arg10 HS' argb hb x5))
        (vsl 64 slices_S128x768_o64_0_S64x768 (kw0 arg5 arg6 harg5 harg6 x3 x4 p hp))))
    (r0 : ∀ i, IsReal (x0 i)) (r1 : ∀ i, IsReal (x1 i)) (r2 : ∀ i, IsReal (x2 i)) (hx : BiasOk x5) (x : S256x128.Idx) :
    w x = blockOf x0 x1 x2 x3 x4 x5 x6 ((rL 0 256 p (by omega) hp).emb x) := by
  have hs (m : Nat) (hm : m < 2) (k : Fin 768) (q : Fin 256) := score_sc (o := 0) (x0 := x0) hp hm (by omega)
    (fun k c => win0 harg3 harg4 x1 x2 (128 * p) k c (by omega) (inb_lane (n := 512) (by omega) hp) (inb_lane (n := 256) (by omega) hp))
    (fun q c => qw_apply (arg := arg2) (h := harg2) (o := 0) (ho := by omega) (hp := hp) q c) k q
  have hw' := pair_val hp hH hH' (fun k q => by rw [show (0#32) = BitVec.ofNat 32 0 from rfl]; exact (hs 0 (by decide) k q).symm ▸ sc_real r0 r1 r2 k q)
    (fun k q => by rw [show (1#32) = BitVec.ofNat 32 1 from rfl]; exact (hs 1 (by decide) k q).symm ▸ sc_real r0 r1 r2 k q) hx hL hL' h0 hw
  have e0 (k : Fin 768) (q : Fin 256) : score 0#32 (kw0 arg3 arg4 harg3 harg4 x1 x2 p hp) (qw arg2 harg2 x0 0 (by omega) p hp) (ix3 0 k q) = _ := hs 0 (by decide) k q
  have e1 (k : Fin 768) (q : Fin 256) : score 1#32 (kw0 arg3 arg4 harg3 harg4 x1 x2 p hp) (qw arg2 harg2 x0 0 (by omega) p hp) (ix3 0 k q) = _ := hs 1 (by decide) k q
  simp only [e0, e1] at hw'
  have main := pair_block (f := fun i c => blk x0 x1 x2 x3 x4 x5 x6 ⟨0 + i.val, by omega⟩ c) (by omega) hp (fun i c => by
      show blk _ _ _ _ _ _ _ _ _ = _
      unfold blk
      rw [dif_pos (by show 0 + i.val < 256; omega)]
      simp only [Nat.zero_add])
    (fun k c => win0 harg5 harg6 x3 x4 (128 * p) k c (by omega) (inb_lane (n := 512) (by omega) hp) (inb_lane (n := 256) (by omega) hp)) hw'
  have key (i : Fin 256) (c : Fin 128) : w (ix2 i c) = blockOf x0 x1 x2 x3 x4 x5 x6 ((rL 0 256 p (by omega) hp).emb (ix2 i c)) := by
    rw [emb_rL (by omega) hp]; exact main i c
  exact Eq.subst (motive := fun x => w x = blockOf x0 x1 x2 x3 x4 x5 x6 ((rL 0 256 p (by omega) hp).emb x)) (ix2_self x) (key (x 0) (x 1))

theorem pair_eq1 {p : Nat} (hp : p < 8) {HS HS' A : List (View.Piece (Elt Ideal) S2x768x256 .f32)}
    {L L' L0 : List (View.Piece (Elt Ideal) S2x768x256 .bf16)} {w : FVec Ideal S256x128 .bf16}
    (hH : HS = ⟨slot 1 (by decide), score 1#32 (kw1 arg3 arg4 harg3 harg4 x1 x2 p hp) (qw arg2 harg2 x0 256 le_rfl p hp)⟩
      :: ⟨slot 0 (by decide), score 0#32 (kw1 arg3 arg4 harg3 harg4 x1 x2 p hp) (qw arg2 harg2 x0 256 le_rfl p hp)⟩ :: A)
    (hH' : HS' = HS ∨ ∃ u, HS' = ⟨slot 0 (by decide), u⟩ :: HS)
    (hL : L = stk 0 (by decide) (pst (tsc 0 (by decide) (2 * p) (by omega) arg10 HS argb hb x6)) L0 20)
    (hL' : L' = stk 1 (by decide) (pst (tsc 1 (by decide) (2 * p + 1) (by omega) arg10 HS' argb hb x6)) L 20) (h0 : Zeros L0)
    (hw : w = outP
      (itemO (arg11.view.readCov L (slot 0 (by decide)).toLoadRect) (inv (tsc 0 (by decide) (2 * p) (by omega) arg10 HS argb hb x6))
        (vsl 0 slices_S128x768_o0_0_S64x768 (kw1 arg5 arg6 harg5 harg6 x3 x4 p hp)))
      (itemO (arg11.view.readCov L' (slot 1 (by decide)).toLoadRect) (inv (tsc 1 (by decide) (2 * p + 1) (by omega) arg10 HS' argb hb x6))
        (vsl 64 slices_S128x768_o64_0_S64x768 (kw1 arg5 arg6 harg5 harg6 x3 x4 p hp))))
    (r0 : ∀ i, IsReal (x0 i)) (r1 : ∀ i, IsReal (x1 i)) (r2 : ∀ i, IsReal (x2 i)) (hx : BiasOk x6) (x : S256x128.Idx) :
    w x = blockOf x0 x1 x2 x3 x4 x5 x6 ((rL 256 256 p (by omega) hp).emb x) := by
  have hs (m : Nat) (hm : m < 2) (k : Fin 768) (q : Fin 256) := score_sc (o := 256) (x0 := x0) hp hm le_rfl
    (fun k c => win1 harg3 harg4 x1 x2 (128 * p) k c (by omega) (inb_lane (n := 256) (by omega) hp) (inb_lane (n := 512) (by omega) hp))
    (fun q c => qw_apply (arg := arg2) (h := harg2) (ho := le_rfl) (hp := hp) q c) k q
  have hw' := pair_val hp hH hH' (fun k q => by rw [show (0#32) = BitVec.ofNat 32 0 from rfl]; exact (hs 0 (by decide) k q).symm ▸ sc_real r0 r1 r2 k q)
    (fun k q => by rw [show (1#32) = BitVec.ofNat 32 1 from rfl]; exact (hs 1 (by decide) k q).symm ▸ sc_real r0 r1 r2 k q) hx hL hL' h0 hw
  have e0 (k : Fin 768) (q : Fin 256) : score 0#32 (kw1 arg3 arg4 harg3 harg4 x1 x2 p hp) (qw arg2 harg2 x0 256 le_rfl p hp) (ix3 0 k q) = _ := hs 0 (by decide) k q
  have e1 (k : Fin 768) (q : Fin 256) : score 1#32 (kw1 arg3 arg4 harg3 harg4 x1 x2 p hp) (qw arg2 harg2 x0 256 le_rfl p hp) (ix3 0 k q) = _ := hs 1 (by decide) k q
  simp only [e0, e1] at hw'
  have main := pair_block (f := fun i c => blk x0 x1 x2 x3 x4 x5 x6 ⟨256 + i.val, by omega⟩ c) le_rfl hp (fun i c => by
      show blk _ _ _ _ _ _ _ _ _ = _
      unfold blk
      rw [dif_neg (by show ¬ 256 + i.val < 256; omega)]
      simp only [Nat.add_sub_cancel_left])
    (fun k c => win1 harg5 harg6 x3 x4 (128 * p) k c (by omega) (inb_lane (n := 256) (by omega) hp) (inb_lane (n := 512) (by omega) hp)) hw'
  have key (i : Fin 256) (c : Fin 128) : w (ix2 i c) = blockOf x0 x1 x2 x3 x4 x5 x6 ((rL 256 256 p (by omega) hp).emb (ix2 i c)) := by
    rw [emb_rL le_rfl hp]; exact main i c
  exact Eq.subst (motive := fun x => w x = blockOf x0 x1 x2 x3 x4 x5 x6 ((rL 256 256 p (by omega) hp).emb x)) (ix2_self x) (key (x 0) (x 1))

end tiles

end Cert.Proof.Band

end
-- ==== Proof.BandList.lean ====
/- The band attention's body: what the two scratch buffers hold after each item. -/
module

public import proofs.«01_k».proof.Proof.BandPair

@[expose] public section

noncomputable section

namespace Cert.Proof.Band

open Cert.BandIdeal Cert.BandIdeal.Gen Idealize.ShloMosaic Idealize.ShloMosaic.TcCoe Idealize.SL.Sem
open Cert.Proof.Common

/-! ## The body's lists of pieces -/

section body
variable (c : Dev nD) (i : grid0.Coords) (arg2 : Memref sig .tc .vmem S512x1024 .bf16) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S512x1024 .bf16) (harg6 : arg6.IsWhole) (arg7 : Memref sig .tc .vmem S1x16x768x256 .f32) (harg7 : arg7.IsWhole)
  (arg8 : Memref sig .tc .vmem S1x16x768x256 .f32) (harg8 : arg8.IsWhole) (arg9 : Memref sig .tc .vmem S512x1024 .bf16) (harg9 : arg9.IsWhole)
  (arg10 : Memref sig .tc .vmem S2x768x256 .f32) (harg10 : arg10.IsWhole) (arg11 : Memref sig .tc .vmem S2x768x256 .bf16) (harg11 : arg11.IsWhole)
  (x0 x1 x2 x3 x4 : Vec Ideal S512x1024 .bf16) (x5 x6 : Vec Ideal S1x16x768x256 .f32)

/-- The rows and lanes no item stores weights at are set to zero before the first item. -/
def base : List (View.Piece (Elt Ideal) S2x768x256 .bf16) :=
  [⟨Rect.unit ![1, 64, 128] S1x64x128.size inb_S2x768x256_S1x64x128_1_64_128, (k0_pay10 (F := Ideal))⟩,
    ⟨Rect.unit ![1, 0, 128] S1x64x128.size inb_S2x768x256_S1x64x128_1_0_128, (k0_pay9 (F := Ideal))⟩,
    ⟨Rect.unit ![1, 704, 0] S1x64x128.size inb_S2x768x256_S1x64x128_1_704_0, (k0_pay8 (F := Ideal))⟩,
    ⟨Rect.unit ![1, 640, 0] S1x64x128.size inb_S2x768x256_S1x64x128_1_640_0, (k0_pay7 (F := Ideal))⟩,
    ⟨Rect.unit ![0, 64, 128] S1x64x128.size inb_S2x768x256_S1x64x128_0_64_128, (k0_pay6 (F := Ideal))⟩,
    ⟨Rect.unit ![0, 0, 128] S1x64x128.size inb_S2x768x256_S1x64x128_0_0_128, (k0_pay5 (F := Ideal))⟩,
    ⟨Rect.unit ![0, 704, 0] S1x64x128.size inb_S2x768x256_S1x64x128_0_704_0, (k0_pay4 (F := Ideal))⟩,
    ⟨Rect.unit ![0, 640, 0] S1x64x128.size inb_S2x768x256_S1x64x128_0_640_0, (k0_pay3 (F := Ideal))⟩]

theorem l0 : kernelRun0_A.sl.HS1_28 (F := Ideal) c arg2 harg2 arg3 harg3 arg4 harg4 arg7 harg7 arg10 x0 x1 x2 x5
    = stk 0 (by decide) (pst (tsc 0 (by decide) 0 (by decide) arg10 (kernelRun0_A.sl.HS0_2 (F := Ideal) c arg2 harg2 arg3 harg3 arg4 harg4 x0 x1 x2) arg7 harg7 x5))
      base 20 := rfl

theorem l1 : kernelRun0_A.sl.HS1_48 (F := Ideal) c arg2 harg2 arg3 harg3 arg4 harg4 arg7 harg7 arg10 x0 x1 x2 x5
    = stk 1 (by decide) (pst (tsc 1 (by decide) 1 (by decide) arg10 (kernelRun0_A.sl.HS0_3 (F := Ideal) c arg2 harg2 arg3 harg3 arg4 harg4 x0 x1 x2) arg7 harg7 x5))
      (kernelRun0_A.sl.HS1_28 (F := Ideal) c arg2 harg2 arg3 harg3 arg4 harg4 arg7 harg7 arg10 x0 x1 x2 x5) 20 := rfl

theorem l2 : kernelRun0_A.sl.HS1_68 (F := Ideal) c arg2 harg2 arg3 harg3 arg4 harg4 arg7 harg7 arg10 x0 x1 x2 x5
    = stk 0 (by decide) (pst (tsc 0 (by decide) 2 (by decide) arg10 (kernelRun0_A.sl.HS0_4 (F := Ideal) c arg2 harg2 arg3 harg3 arg4 harg4 x0 x1 x2) arg7 harg7 x5))
      (kernelRun0_A.sl.HS1_48 (F := Ideal) c arg2 harg2 arg3 harg3 arg4 harg4 arg7 harg7 arg10 x0 x1 x2 x5) 20 := rfl

theorem l3 : kernelRun0_A.sl.HS1_88 (F := Ideal) c arg2 harg2 arg3 harg3 arg4 harg4 arg7 harg7 arg10 x0 x1 x2 x5
    = stk 1 (by decide) (pst (tsc 1 (by decide) 3 (by decide) arg10 (kernelRun0_A.sl.HS0_5 (F := Ideal) c arg2 harg2 arg3 harg3 arg4 harg4 x0 x1 x2) arg7 harg7 x5))
      (kernelRun0_A.sl.HS1_68 (F := Ideal) c arg2 harg2 arg3 harg3 arg4 harg4 arg7 harg7 arg10 x0 x1 x2 x5) 20 := rfl

theorem l4 : kernelRun0_A.sl.HS1_108 (F := Ideal) c arg2 harg2 arg3 harg3 arg4 harg4 arg7 harg7 arg10 x0 x1 x2 x5
    = stk 0 (by decide) (pst (tsc 0 (by decide) 4 (by decide) arg10 (kernelRun0_A.sl.HS0_6 (F := Ideal) c arg2 harg2 arg3 harg3 arg4 harg4 x0 x1 x2) arg7 harg7 x5))
      (kernelRun0_A.sl.HS1_88 (F := Ideal) c arg2 harg2 arg3 harg3 arg4 harg4 arg7 harg7 arg10 x0 x1 x2 x5) 20 := rfl

theorem l5 : kernelRun0_A.sl.HS1_128 (F := Ideal) c arg2 harg2 arg3 harg3 arg4 harg4 arg7 harg7 arg10 x0 x1 x2 x5
    = stk 1 (by decide) (pst (tsc 1 (by decide) 5 (by decide) arg10 (kernelRun0_A.sl.HS0_7 (F := Ideal) c arg2 harg2 arg3 harg3 arg4 harg4 x0 x1 x2) arg7 harg7 x5))
      (kernelRun0_A.sl.HS1_108 (F := Ideal) c arg2 harg2 arg3 harg3 arg4 harg4 arg7 harg7 arg10 x0 x1 x2 x5) 20 := rfl

theorem l6 : kernelRun0_A.sl.HS1_148 (F := Ideal) c arg2 harg2 arg3 harg3 arg4 harg4 arg7 harg7 arg10 x0 x1 x2 x5
    = stk 0 (by decide) (pst (tsc 0 (by decide) 6 (by decide) arg10 (kernelRun0_A.sl.HS0_8 (F := Ideal) c arg2 harg2 arg3 harg3 arg4 harg4 x0 x1 x2) arg7 harg7 x5))
      (kernelRun0_A.sl.HS1_128 (F := Ideal) c arg2 harg2 arg3 harg3 arg4 harg4 arg7 harg7 arg10 x0 x1 x2 x5) 20 := rfl

theorem l7 : kernelRun0_A.sl.HS1_168 (F := Ideal) c arg2 harg2 arg3 harg3 arg4 harg4 arg7 harg7 arg10 x0 x1 x2 x5
    = stk 1 (by decide) (pst (tsc 1 (by decide) 7 (by decide) arg10 (kernelRun0_A.sl.HS0_9 (F := Ideal) c arg2 harg2 arg3 harg3 arg4 harg4 x0 x1 x2) arg7 harg7 x5))
      (kernelRun0_A.sl.HS1_148 (F := Ideal) c arg2 harg2 arg3 harg3 arg4 harg4 arg7 harg7 arg10 x0 x1 x2 x5) 20 := rfl

theorem l8 : kernelRun0_A.sl.HS1_188 (F := Ideal) c arg2 harg2 arg3 harg3 arg4 harg4 arg7 harg7 arg10 x0 x1 x2 x5
    = stk 0 (by decide) (pst (tsc 0 (by decide) 8 (by decide) arg10 (kernelRun0_A.sl.HS0_10 (F := Ideal) c arg2 harg2 arg3 harg3 arg4 harg4 x0 x1 x2) arg7 harg7 x5))
      (kernelRun0_A.sl.HS1_168 (F := Ideal) c arg2 harg2 arg3 harg3 arg4 harg4 arg7 harg7 arg10 x0 x1 x2 x5) 20 := rfl

theorem l9 : kernelRun0_A.sl.HS1_208 (F := Ideal) c arg2 harg2 arg3 harg3 arg4 harg4 arg7 harg7 arg10 x0 x1 x2 x5
    = stk 1 (by decide) (pst (tsc 1 (by decide) 9 (by decide) arg10 (kernelRun0_A.sl.HS0_11 (F := Ideal) c arg2 harg2 arg3 harg3 arg4 harg4 x0 x1 x2) arg7 harg7 x5))
      (kernelRun0_A.sl.HS1_188 (F := Ideal) c arg2 harg2 arg3 harg3 arg4 harg4 arg7 harg7 arg10 x0 x1 x2 x5) 20 := rfl

theorem l10 : kernelRun0_A.sl.HS1_228 (F := Ideal) c arg2 harg2 arg3 harg3 arg4 harg4 arg7 harg7 arg10 x0 x1 x2 x5
    = stk 0 (by decide) (pst (tsc 0 (by decide) 10 (by decide) arg10 (kernelRun0_A.sl.HS0_12 (F := Ideal) c arg2 harg2 arg3 harg3 arg4 harg4 x0 x1 x2) arg7 harg7 x5))
      (kernelRun0_A.sl.HS1_208 (F := Ideal) c arg2 harg2 arg3 harg3 arg4 harg4 arg7 harg7 arg10 x0 x1 x2 x5) 20 := rfl

theorem l11 : kernelRun0_A.sl.HS1_248 (F := Ideal) c arg2 harg2 arg3 harg3 arg4 harg4 arg7 harg7 arg10 x0 x1 x2 x5
    = stk 1 (by decide) (pst (tsc 1 (by decide) 11 (by decide) arg10 (kernelRun0_A.sl.HS0_13 (F := Ideal) c arg2 harg2 arg3 harg3 arg4 harg4 x0 x1 x2) arg7 harg7 x5))
      (kernelRun0_A.sl.HS1_228 (F := Ideal) c arg2 harg2 arg3 harg3 arg4 harg4 arg7 harg7 arg10 x0 x1 x2 x5) 20 := rfl

theorem l12 : kernelRun0_A.sl.HS1_268 (F := Ideal) c arg2 harg2 arg3 harg3 arg4 harg4 arg7 harg7 arg10 x0 x1 x2 x5
    = stk 0 (by decide) (pst (tsc 0 (by decide) 12 (by decide) arg10 (kernelRun0_A.sl.HS0_14 (F := Ideal) c arg2 harg2 arg3 harg3 arg4 harg4 x0 x1 x2) arg7 harg7 x5))
      (kernelRun0_A.sl.HS1_248 (F := Ideal) c arg2 harg2 arg3 harg3 arg4 harg4 arg7 harg7 arg10 x0 x1 x2 x5) 20 := rfl

theorem l13 : kernelRun0_A.sl.HS1_288 (F := Ideal) c arg2 harg2 arg3 harg3 arg4 harg4 arg7 harg7 arg10 x0 x1 x2 x5
    = stk 1 (by decide) (pst (tsc 1 (by decide) 13 (by decide) arg10 (kernelRun0_A.sl.HS0_15 (F := Ideal) c arg2 harg2 arg3 harg3 arg4 harg4 x0 x1 x2) arg7 harg7 x5))
      (kernelRun0_A.sl.HS1_268 (F := Ideal) c arg2 harg2 arg3 harg3 arg4 harg4 arg7 harg7 arg10 x0 x1 x2 x5) 20 := rfl

theorem l14 : kernelRun0_A.sl.HS1_308 (F := Ideal) c arg2 harg2 arg3 harg3 arg4 harg4 arg7 harg7 arg10 x0 x1 x2 x5
    = stk 0 (by decide) (pst (tsc 0 (by decide) 14 (by decide) arg10 (kernelRun0_A.sl.HS0_16 (F := Ideal) c arg2 harg2 arg3 harg3 arg4 harg4 x0 x1 x2) arg7 harg7 x5))
      (kernelRun0_A.sl.HS1_288 (F := Ideal) c arg2 harg2 arg3 harg3 arg4 harg4 arg7 harg7 arg10 x0 x1 x2 x5) 20 := rfl

theorem l15 : kernelRun0_A.sl.HS1_328 (F := Ideal) c arg2 harg2 arg3 harg3 arg4 harg4 arg7 harg7 arg10 x0 x1 x2 x5
    = stk 1 (by decide) (pst (tsc 1 (by decide) 15 (by decide) arg10 (kernelRun0_A.sl.HS0_17 (F := Ideal) c arg2 harg2 arg3 harg3 arg4 harg4 x0 x1 x2) arg7 harg7 x5))
      (kernelRun0_A.sl.HS1_308 (F := Ideal) c arg2 harg2 arg3 harg3 arg4 harg4 arg7 harg7 arg10 x0 x1 x2 x5) 20 := rfl

theorem l16 : kernelRun0_A.sl.HS1_348 (F := Ideal) c arg2 harg2 arg3 harg3 arg4 harg4 arg7 harg7 arg8 harg8 arg10 x0 x1 x2 x5 x6
    = stk 0 (by decide) (pst (tsc 0 (by decide) 0 (by decide) arg10 (kernelRun0_A.sl.HS0_18 (F := Ideal) c arg2 harg2 arg3 harg3 arg4 harg4 x0 x1 x2) arg8 harg8 x6))
      (kernelRun0_A.sl.HS1_328 (F := Ideal) c arg2 harg2 arg3 harg3 arg4 harg4 arg7 harg7 arg10 x0 x1 x2 x5) 20 := rfl

theorem l17 : kernelRun0_A.sl.HS1_368 (F := Ideal) c arg2 harg2 arg3 harg3 arg4 harg4 arg7 harg7 arg8 harg8 arg10 x0 x1 x2 x5 x6
    = stk 1 (by decide) (pst (tsc 1 (by decide) 1 (by decide) arg10 (kernelRun0_A.sl.HS0_19 (F := Ideal) c arg2 harg2 arg3 harg3 arg4 harg4 x0 x1 x2) arg8 harg8 x6))
      (kernelRun0_A.sl.HS1_348 (F := Ideal) c arg2 harg2 arg3 harg3 arg4 harg4 arg7 harg7 arg8 harg8 arg10 x0 x1 x2 x5 x6) 20 := rfl

theorem l18 : kernelRun0_A.sl.HS1_388 (F := Ideal) c arg2 harg2 arg3 harg3 arg4 harg4 arg7 harg7 arg8 harg8 arg10 x0 x1 x2 x5 x6
    = stk 0 (by decide) (pst (tsc 0 (by decide) 2 (by decide) arg10 (kernelRun0_A.sl.HS0_20 (F := Ideal) c arg2 harg2 arg3 harg3 arg4 harg4 x0 x1 x2) arg8 harg8 x6))
      (kernelRun0_A.sl.HS1_368 (F := Ideal) c arg2 harg2 arg3 harg3 arg4 harg4 arg7 harg7 arg8 harg8 arg10 x0 x1 x2 x5 x6) 20 := rfl

theorem l19 : kernelRun0_A.sl.HS1_408 (F := Ideal) c arg2 harg2 arg3 harg3 arg4 harg4 arg7 harg7 arg8 harg8 arg10 x0 x1 x2 x5 x6
    = stk 1 (by decide) (pst (tsc 1 (by decide) 3 (by decide) arg10 (kernelRun0_A.sl.HS0_21 (F := Ideal) c arg2 harg2 arg3 harg3 arg4 harg4 x0 x1 x2) arg8 harg8 x6))
      (kernelRun0_A.sl.HS1_388 (F := Ideal) c arg2 harg2 arg3 harg3 arg4 harg4 arg7 harg7 arg8 harg8 arg10 x0 x1 x2 x5 x6) 20 := rfl

theorem l20 : kernelRun0_A.sl.HS1_428 (F := Ideal) c arg2 harg2 arg3 harg3 arg4 harg4 arg7 harg7 arg8 harg8 arg10 x0 x1 x2 x5 x6
    = stk 0 (by decide) (pst (tsc 0 (by decide) 4 (by decide) arg10 (kernelRun0_A.sl.HS0_22 (F := Ideal) c arg2 harg2 arg3 harg3 arg4 harg4 x0 x1 x2) arg8 harg8 x6))
      (kernelRun0_A.sl.HS1_408 (F := Ideal) c arg2 harg2 arg3 harg3 arg4 harg4 arg7 harg7 arg8 harg8 arg10 x0 x1 x2 x5 x6) 20 := rfl

theorem l21 : kernelRun0_A.sl.HS1_448 (F := Ideal) c arg2 harg2 arg3 harg3 arg4 harg4 arg7 harg7 arg8 harg8 arg10 x0 x1 x2 x5 x6
    = stk 1 (by decide) (pst (tsc 1 (by decide) 5 (by decide) arg10 (kernelRun0_A.sl.HS0_23 (F := Ideal) c arg2 harg2 arg3 harg3 arg4 harg4 x0 x1 x2) arg8 harg8 x6))
      (kernelRun0_A.sl.HS1_428 (F := Ideal) c arg2 harg2 arg3 harg3 arg4 harg4 arg7 harg7 arg8 harg8 arg10 x0 x1 x2 x5 x6) 20 := rfl

theorem l22 : kernelRun0_A.sl.HS1_468 (F := Ideal) c arg2 harg2 arg3 harg3 arg4 harg4 arg7 harg7 arg8 harg8 arg10 x0 x1 x2 x5 x6
    = stk 0 (by decide) (pst (tsc 0 (by decide) 6 (by decide) arg10 (kernelRun0_A.sl.HS0_24 (F := Ideal) c arg2 harg2 arg3 harg3 arg4 harg4 x0 x1 x2) arg8 harg8 x6))
      (kernelRun0_A.sl.HS1_448 (F := Ideal) c arg2 harg2 arg3 harg3 arg4 harg4 arg7 harg7 arg8 harg8 arg10 x0 x1 x2 x5 x6) 20 := rfl

theorem l23 : kernelRun0_A.sl.HS1_488 (F := Ideal) c arg2 harg2 arg3 harg3 arg4 harg4 arg7 harg7 arg8 harg8 arg10 x0 x1 x2 x5 x6
    = stk 1 (by decide) (pst (tsc 1 (by decide) 7 (by decide) arg10 (kernelRun0_A.sl.HS0_25 (F := Ideal) c arg2 harg2 arg3 harg3 arg4 harg4 x0 x1 x2) arg8 harg8 x6))
      (kernelRun0_A.sl.HS1_468 (F := Ideal) c arg2 harg2 arg3 harg3 arg4 harg4 arg7 harg7 arg8 harg8 arg10 x0 x1 x2 x5 x6) 20 := rfl

theorem l24 : kernelRun0_A.sl.HS1_508 (F := Ideal) c arg2 harg2 arg3 harg3 arg4 harg4 arg7 harg7 arg8 harg8 arg10 x0 x1 x2 x5 x6
    = stk 0 (by decide) (pst (tsc 0 (by decide) 8 (by decide) arg10 (kernelRun0_A.sl.HS0_26 (F := Ideal) c arg2 harg2 arg3 harg3 arg4 harg4 x0 x1 x2) arg8 harg8 x6))
      (kernelRun0_A.sl.HS1_488 (F := Ideal) c arg2 harg2 arg3 harg3 arg4 harg4 arg7 harg7 arg8 harg8 arg10 x0 x1 x2 x5 x6) 20 := rfl

theorem l25 : kernelRun0_A.sl.HS1_528 (F := Ideal) c arg2 harg2 arg3 harg3 arg4 harg4 arg7 harg7 arg8 harg8 arg10 x0 x1 x2 x5 x6
    = stk 1 (by decide) (pst (tsc 1 (by decide) 9 (by decide) arg10 (kernelRun0_A.sl.HS0_27 (F := Ideal) c arg2 harg2 arg3 harg3 arg4 harg4 x0 x1 x2) arg8 harg8 x6))
      (kernelRun0_A.sl.HS1_508 (F := Ideal) c arg2 harg2 arg3 harg3 arg4 harg4 arg7 harg7 arg8 harg8 arg10 x0 x1 x2 x5 x6) 20 := rfl

theorem l26 : kernelRun0_A.sl.HS1_548 (F := Ideal) c arg2 harg2 arg3 harg3 arg4 harg4 arg7 harg7 arg8 harg8 arg10 x0 x1 x2 x5 x6
    = stk 0 (by decide) (pst (tsc 0 (by decide) 10 (by decide) arg10 (kernelRun0_A.sl.HS0_28 (F := Ideal) c arg2 harg2 arg3 harg3 arg4 harg4 x0 x1 x2) arg8 harg8 x6))
      (kernelRun0_A.sl.HS1_528 (F := Ideal) c arg2 harg2 arg3 harg3 arg4 harg4 arg7 harg7 arg8 harg8 arg10 x0 x1 x2 x5 x6) 20 := rfl

theorem l27 : kernelRun0_A.sl.HS1_568 (F := Ideal) c arg2 harg2 arg3 harg3 arg4 harg4 arg7 harg7 arg8 harg8 arg10 x0 x1 x2 x5 x6
    = stk 1 (by decide) (pst (tsc 1 (by decide) 11 (by decide) arg10 (kernelRun0_A.sl.HS0_29 (F := Ideal) c arg2 harg2 arg3 harg3 arg4 harg4 x0 x1 x2) arg8 harg8 x6))
      (kernelRun0_A.sl.HS1_548 (F := Ideal) c arg2 harg2 arg3 harg3 arg4 harg4 arg7 harg7 arg8 harg8 arg10 x0 x1 x2 x5 x6) 20 := rfl

theorem l28 : kernelRun0_A.sl.HS1_588 (F := Ideal) c arg2 harg2 arg3 harg3 arg4 harg4 arg7 harg7 arg8 harg8 arg10 x0 x1 x2 x5 x6
    = stk 0 (by decide) (pst (tsc 0 (by decide) 12 (by decide) arg10 (kernelRun0_A.sl.HS0_30 (F := Ideal) c arg2 harg2 arg3 harg3 arg4 harg4 x0 x1 x2) arg8 harg8 x6))
      (kernelRun0_A.sl.HS1_568 (F := Ideal) c arg2 harg2 arg3 harg3 arg4 harg4 arg7 harg7 arg8 harg8 arg10 x0 x1 x2 x5 x6) 20 := rfl

theorem l29 : kernelRun0_A.sl.HS1_608 (F := Ideal) c arg2 harg2 arg3 harg3 arg4 harg4 arg7 harg7 arg8 harg8 arg10 x0 x1 x2 x5 x6
    = stk 1 (by decide) (pst (tsc 1 (by decide) 13 (by decide) arg10 (kernelRun0_A.sl.HS0_31 (F := Ideal) c arg2 harg2 arg3 harg3 arg4 harg4 x0 x1 x2) arg8 harg8 x6))
      (kernelRun0_A.sl.HS1_588 (F := Ideal) c arg2 harg2 arg3 harg3 arg4 harg4 arg7 harg7 arg8 harg8 arg10 x0 x1 x2 x5 x6) 20 := rfl

theorem l30 : kernelRun0_A.sl.HS1_628 (F := Ideal) c arg2 harg2 arg3 harg3 arg4 harg4 arg7 harg7 arg8 harg8 arg10 x0 x1 x2 x5 x6
    = stk 0 (by decide) (pst (tsc 0 (by decide) 14 (by decide) arg10 (kernelRun0_A.sl.HS0_32 (F := Ideal) c arg2 harg2 arg3 harg3 arg4 harg4 x0 x1 x2) arg8 harg8 x6))
      (kernelRun0_A.sl.HS1_608 (F := Ideal) c arg2 harg2 arg3 harg3 arg4 harg4 arg7 harg7 arg8 harg8 arg10 x0 x1 x2 x5 x6) 20 := rfl

theorem l31 : kernelRun0_A.sl.HS1_648 (F := Ideal) c arg2 harg2 arg3 harg3 arg4 harg4 arg7 harg7 arg8 harg8 arg10 x0 x1 x2 x5 x6
    = stk 1 (by decide) (pst (tsc 1 (by decide) 15 (by decide) arg10 (kernelRun0_A.sl.HS0_32 (F := Ideal) c arg2 harg2 arg3 harg3 arg4 harg4 x0 x1 x2) arg8 harg8 x6))
      (kernelRun0_A.sl.HS1_628 (F := Ideal) c arg2 harg2 arg3 harg3 arg4 harg4 arg7 harg7 arg8 harg8 arg10 x0 x1 x2 x5 x6) 20 := rfl

theorem zeros_base : Zeros base := fun y hy => by
  refine View.canon_apply_of_pieces (Val := Elt Ideal) (e := .bf16) (fun _ => (0 : EReal)) base ?_ y ?_
  · have z : Ideal.ofBits .bf16 0x0000#16 = 0 := by simp [Ideal.ofBits, Ideal.ieee]
    unfold base
    simp only [List.forall_mem_cons, List.not_mem_nil, false_imp_iff, implies_true, and_true]
    exact ⟨fun _ => z, fun _ => z, fun _ => z, fun _ => z, fun _ => z, fun _ => z, fun _ => z, fun _ => z⟩
  · have h0 : (y 0).val < 2 := (y 0).isLt
    have h1 : (y 1).val < 768 := (y 1).isLt
    have h2 : (y 2).val < 256 := (y 2).isLt
    have key (a b d : Nat) (inb : ∀ t, (![a, b, d] : Fin 3 → Nat) t + S1x64x128.size t ≤ S2x768x256.size t) (e0 : (y 0).val = a)
        (e1 : b ≤ (y 1).val ∧ (y 1).val < b + 64) (e2 : d ≤ (y 2).val ∧ (y 2).val < d + 128) :
        y ∈ (Rect.unit (s := S2x768x256) ![a, b, d] S1x64x128.size inb).set := Rect.mem_set_unit.2 fun
      | ⟨0, _⟩ => by show a ≤ (y 0).val ∧ (y 0).val < a + 1; omega
      | ⟨1, _⟩ => e1
      | ⟨2, _⟩ => e2
    unfold base
    simp only [List.exists_mem_cons_iff]
    unfold Zone at hy
    rcases (by omega : (y 0).val = 0 ∨ (y 0).val = 1) with e | e <;> rcases hy with ⟨a, b⟩ | ⟨a, b⟩
    · by_cases h : (y 1).val < 704
      · exact .inr (.inr (.inr (.inr (.inr (.inr (.inr (.inl (key _ _ _ _ e (by omega) (by omega)))))))))
      · exact .inr (.inr (.inr (.inr (.inr (.inr (.inl (key _ _ _ _ e (by omega) (by omega))))))))
    · by_cases h : (y 1).val < 64
      · exact .inr (.inr (.inr (.inr (.inr (.inl (key _ _ _ _ e (by omega) (by omega)))))))
      · exact .inr (.inr (.inr (.inr (.inl (key _ _ _ _ e (by omega) (by omega))))))
    · by_cases h : (y 1).val < 704
      · exact .inr (.inr (.inr (.inl (key _ _ _ _ e (by omega) (by omega)))))
      · exact .inr (.inr (.inl (key _ _ _ _ e (by omega) (by omega))))
    · by_cases h : (y 1).val < 64
      · exact .inr (.inl (key _ _ _ _ e (by omega) (by omega)))
      · exact .inl (key _ _ _ _ e (by omega) (by omega))

theorem s0 : kernelRun0_A.sl.HS0_2 (F := Ideal) c arg2 harg2 arg3 harg3 arg4 harg4 x0 x1 x2 = ⟨slot 1 (by decide), score 1#32 (kw0 arg3 arg4 harg3 harg4 x1 x2 0 (by decide)) (qw arg2 harg2 x0 0 (by omega) 0 (by decide))⟩
      :: ⟨slot 0 (by decide), score 0#32 (kw0 arg3 arg4 harg3 harg4 x1 x2 0 (by decide)) (qw arg2 harg2 x0 0 (by omega) 0 (by decide))⟩ :: [] := rfl

theorem s2 : kernelRun0_A.sl.HS0_4 (F := Ideal) c arg2 harg2 arg3 harg3 arg4 harg4 x0 x1 x2 = ⟨slot 1 (by decide), score 1#32 (kw0 arg3 arg4 harg3 harg4 x1 x2 1 (by decide)) (qw arg2 harg2 x0 0 (by omega) 1 (by decide))⟩
      :: ⟨slot 0 (by decide), score 0#32 (kw0 arg3 arg4 harg3 harg4 x1 x2 1 (by decide)) (qw arg2 harg2 x0 0 (by omega) 1 (by decide))⟩ :: (kernelRun0_A.sl.HS0_2 (F := Ideal) c arg2 harg2 arg3 harg3 arg4 harg4 x0 x1 x2) := rfl

theorem s4 : kernelRun0_A.sl.HS0_6 (F := Ideal) c arg2 harg2 arg3 harg3 arg4 harg4 x0 x1 x2 = ⟨slot 1 (by decide), score 1#32 (kw0 arg3 arg4 harg3 harg4 x1 x2 2 (by decide)) (qw arg2 harg2 x0 0 (by omega) 2 (by decide))⟩
      :: ⟨slot 0 (by decide), score 0#32 (kw0 arg3 arg4 harg3 harg4 x1 x2 2 (by decide)) (qw arg2 harg2 x0 0 (by omega) 2 (by decide))⟩ :: (kernelRun0_A.sl.HS0_4 (F := Ideal) c arg2 harg2 arg3 harg3 arg4 harg4 x0 x1 x2) := rfl

theorem s6 : kernelRun0_A.sl.HS0_8 (F := Ideal) c arg2 harg2 arg3 harg3 arg4 harg4 x0 x1 x2 = ⟨slot 1 (by decide), score 1#32 (kw0 arg3 arg4 harg3 harg4 x1 x2 3 (by decide)) (qw arg2 harg2 x0 0 (by omega) 3 (by decide))⟩
      :: ⟨slot 0 (by decide), score 0#32 (kw0 arg3 arg4 harg3 harg4 x1 x2 3 (by decide)) (qw arg2 harg2 x0 0 (by omega) 3 (by decide))⟩ :: (kernelRun0_A.sl.HS0_6 (F := Ideal) c arg2 harg2 arg3 harg3 arg4 harg4 x0 x1 x2) := rfl

theorem s8 : kernelRun0_A.sl.HS0_10 (F := Ideal) c arg2 harg2 arg3 harg3 arg4 harg4 x0 x1 x2 = ⟨slot 1 (by decide), score 1#32 (kw0 arg3 arg4 harg3 harg4 x1 x2 4 (by decide)) (qw arg2 harg2 x0 0 (by omega) 4 (by decide))⟩
      :: ⟨slot 0 (by decide), score 0#32 (kw0 arg3 arg4 harg3 harg4 x1 x2 4 (by decide)) (qw arg2 harg2 x0 0 (by omega) 4 (by decide))⟩ :: (kernelRun0_A.sl.HS0_8 (F := Ideal) c arg2 harg2 arg3 harg3 arg4 harg4 x0 x1 x2) := rfl

theorem s10 : kernelRun0_A.sl.HS0_12 (F := Ideal) c arg2 harg2 arg3 harg3 arg4 harg4 x0 x1 x2 = ⟨slot 1 (by decide), score 1#32 (kw0 arg3 arg4 harg3 harg4 x1 x2 5 (by decide)) (qw arg2 harg2 x0 0 (by omega) 5 (by decide))⟩
      :: ⟨slot 0 (by decide), score 0#32 (kw0 arg3 arg4 harg3 harg4 x1 x2 5 (by decide)) (qw arg2 harg2 x0 0 (by omega) 5 (by decide))⟩ :: (kernelRun0_A.sl.HS0_10 (F := Ideal) c arg2 harg2 arg3 harg3 arg4 harg4 x0 x1 x2) := rfl

theorem s12 : kernelRun0_A.sl.HS0_14 (F := Ideal) c arg2 harg2 arg3 harg3 arg4 harg4 x0 x1 x2 = ⟨slot 1 (by decide), score 1#32 (kw0 arg3 arg4 harg3 harg4 x1 x2 6 (by decide)) (qw arg2 harg2 x0 0 (by omega) 6 (by decide))⟩
      :: ⟨slot 0 (by decide), score 0#32 (kw0 arg3 arg4 harg3 harg4 x1 x2 6 (by decide)) (qw arg2 harg2 x0 0 (by omega) 6 (by decide))⟩ :: (kernelRun0_A.sl.HS0_12 (F := Ideal) c arg2 harg2 arg3 harg3 arg4 harg4 x0 x1 x2) := rfl

theorem s14 : kernelRun0_A.sl.HS0_16 (F := Ideal) c arg2 harg2 arg3 harg3 arg4 harg4 x0 x1 x2 = ⟨slot 1 (by decide), score 1#32 (kw0 arg3 arg4 harg3 harg4 x1 x2 7 (by decide)) (qw arg2 harg2 x0 0 (by omega) 7 (by decide))⟩
      :: ⟨slot 0 (by decide), score 0#32 (kw0 arg3 arg4 harg3 harg4 x1 x2 7 (by decide)) (qw arg2 harg2 x0 0 (by omega) 7 (by decide))⟩ :: (kernelRun0_A.sl.HS0_14 (F := Ideal) c arg2 harg2 arg3 harg3 arg4 harg4 x0 x1 x2) := rfl

theorem s16 : kernelRun0_A.sl.HS0_18 (F := Ideal) c arg2 harg2 arg3 harg3 arg4 harg4 x0 x1 x2 = ⟨slot 1 (by decide), score 1#32 (kw1 arg3 arg4 harg3 harg4 x1 x2 0 (by decide)) (qw arg2 harg2 x0 256 (by omega) 0 (by decide))⟩
      :: ⟨slot 0 (by decide), score 0#32 (kw1 arg3 arg4 harg3 harg4 x1 x2 0 (by decide)) (qw arg2 harg2 x0 256 (by omega) 0 (by decide))⟩ :: (kernelRun0_A.sl.HS0_16 (F := Ideal) c arg2 harg2 arg3 harg3 arg4 harg4 x0 x1 x2) := rfl

theorem s18 : kernelRun0_A.sl.HS0_20 (F := Ideal) c arg2 harg2 arg3 harg3 arg4 harg4 x0 x1 x2 = ⟨slot 1 (by decide), score 1#32 (kw1 arg3 arg4 harg3 harg4 x1 x2 1 (by decide)) (qw arg2 harg2 x0 256 (by omega) 1 (by decide))⟩
      :: ⟨slot 0 (by decide), score 0#32 (kw1 arg3 arg4 harg3 harg4 x1 x2 1 (by decide)) (qw arg2 harg2 x0 256 (by omega) 1 (by decide))⟩ :: (kernelRun0_A.sl.HS0_18 (F := Ideal) c arg2 harg2 arg3 harg3 arg4 harg4 x0 x1 x2) := rfl

theorem s20 : kernelRun0_A.sl.HS0_22 (F := Ideal) c arg2 harg2 arg3 harg3 arg4 harg4 x0 x1 x2 = ⟨slot 1 (by decide), score 1#32 (kw1 arg3 arg4 harg3 harg4 x1 x2 2 (by decide)) (qw arg2 harg2 x0 256 (by omega) 2 (by decide))⟩
      :: ⟨slot 0 (by decide), score 0#32 (kw1 arg3 arg4 harg3 harg4 x1 x2 2 (by decide)) (qw arg2 harg2 x0 256 (by omega) 2 (by decide))⟩ :: (kernelRun0_A.sl.HS0_20 (F := Ideal) c arg2 harg2 arg3 harg3 arg4 harg4 x0 x1 x2) := rfl

theorem s22 : kernelRun0_A.sl.HS0_24 (F := Ideal) c arg2 harg2 arg3 harg3 arg4 harg4 x0 x1 x2 = ⟨slot 1 (by decide), score 1#32 (kw1 arg3 arg4 harg3 harg4 x1 x2 3 (by decide)) (qw arg2 harg2 x0 256 (by omega) 3 (by decide))⟩
      :: ⟨slot 0 (by decide), score 0#32 (kw1 arg3 arg4 harg3 harg4 x1 x2 3 (by decide)) (qw arg2 harg2 x0 256 (by omega) 3 (by decide))⟩ :: (kernelRun0_A.sl.HS0_22 (F := Ideal) c arg2 harg2 arg3 harg3 arg4 harg4 x0 x1 x2) := rfl

theorem s24 : kernelRun0_A.sl.HS0_26 (F := Ideal) c arg2 harg2 arg3 harg3 arg4 harg4 x0 x1 x2 = ⟨slot 1 (by decide), score 1#32 (kw1 arg3 arg4 harg3 harg4 x1 x2 4 (by decide)) (qw arg2 harg2 x0 256 (by omega) 4 (by decide))⟩
      :: ⟨slot 0 (by decide), score 0#32 (kw1 arg3 arg4 harg3 harg4 x1 x2 4 (by decide)) (qw arg2 harg2 x0 256 (by omega) 4 (by decide))⟩ :: (kernelRun0_A.sl.HS0_24 (F := Ideal) c arg2 harg2 arg3 harg3 arg4 harg4 x0 x1 x2) := rfl

theorem s26 : kernelRun0_A.sl.HS0_28 (F := Ideal) c arg2 harg2 arg3 harg3 arg4 harg4 x0 x1 x2 = ⟨slot 1 (by decide), score 1#32 (kw1 arg3 arg4 harg3 harg4 x1 x2 5 (by decide)) (qw arg2 harg2 x0 256 (by omega) 5 (by decide))⟩
      :: ⟨slot 0 (by decide), score 0#32 (kw1 arg3 arg4 harg3 harg4 x1 x2 5 (by decide)) (qw arg2 harg2 x0 256 (by omega) 5 (by decide))⟩ :: (kernelRun0_A.sl.HS0_26 (F := Ideal) c arg2 harg2 arg3 harg3 arg4 harg4 x0 x1 x2) := rfl

theorem s28 : kernelRun0_A.sl.HS0_30 (F := Ideal) c arg2 harg2 arg3 harg3 arg4 harg4 x0 x1 x2 = ⟨slot 1 (by decide), score 1#32 (kw1 arg3 arg4 harg3 harg4 x1 x2 6 (by decide)) (qw arg2 harg2 x0 256 (by omega) 6 (by decide))⟩
      :: ⟨slot 0 (by decide), score 0#32 (kw1 arg3 arg4 harg3 harg4 x1 x2 6 (by decide)) (qw arg2 harg2 x0 256 (by omega) 6 (by decide))⟩ :: (kernelRun0_A.sl.HS0_28 (F := Ideal) c arg2 harg2 arg3 harg3 arg4 harg4 x0 x1 x2) := rfl

theorem s30 : kernelRun0_A.sl.HS0_32 (F := Ideal) c arg2 harg2 arg3 harg3 arg4 harg4 x0 x1 x2 = ⟨slot 1 (by decide), score 1#32 (kw1 arg3 arg4 harg3 harg4 x1 x2 7 (by decide)) (qw arg2 harg2 x0 256 (by omega) 7 (by decide))⟩
      :: ⟨slot 0 (by decide), score 0#32 (kw1 arg3 arg4 harg3 harg4 x1 x2 7 (by decide)) (qw arg2 harg2 x0 256 (by omega) 7 (by decide))⟩ :: (kernelRun0_A.sl.HS0_30 (F := Ideal) c arg2 harg2 arg3 harg3 arg4 harg4 x0 x1 x2) := rfl

theorem z1 : Zeros (kernelRun0_A.sl.HS1_48 (F := Ideal) c arg2 harg2 arg3 harg3 arg4 harg4 arg7 harg7 arg10 x0 x1 x2 x5) :=
  zeros_stk (l1 c arg2 harg2 arg3 harg3 arg4 harg4 arg7 harg7 arg10 x0 x1 x2 x5) (zeros_stk (l0 c arg2 harg2 arg3 harg3 arg4 harg4 arg7 harg7 arg10 x0 x1 x2 x5) zeros_base)

theorem z3 : Zeros (kernelRun0_A.sl.HS1_88 (F := Ideal) c arg2 harg2 arg3 harg3 arg4 harg4 arg7 harg7 arg10 x0 x1 x2 x5) :=
  zeros_stk (l3 c arg2 harg2 arg3 harg3 arg4 harg4 arg7 harg7 arg10 x0 x1 x2 x5) (zeros_stk (l2 c arg2 harg2 arg3 harg3 arg4 harg4 arg7 harg7 arg10 x0 x1 x2 x5) (z1 c arg2 harg2 arg3 harg3 arg4 harg4 arg7 harg7 arg10 x0 x1 x2 x5))

theorem z5 : Zeros (kernelRun0_A.sl.HS1_128 (F := Ideal) c arg2 harg2 arg3 harg3 arg4 harg4 arg7 harg7 arg10 x0 x1 x2 x5) :=
  zeros_stk (l5 c arg2 harg2 arg3 harg3 arg4 harg4 arg7 harg7 arg10 x0 x1 x2 x5) (zeros_stk (l4 c arg2 harg2 arg3 harg3 arg4 harg4 arg7 harg7 arg10 x0 x1 x2 x5) (z3 c arg2 harg2 arg3 harg3 arg4 harg4 arg7 harg7 arg10 x0 x1 x2 x5))

theorem z7 : Zeros (kernelRun0_A.sl.HS1_168 (F := Ideal) c arg2 harg2 arg3 harg3 arg4 harg4 arg7 harg7 arg10 x0 x1 x2 x5) :=
  zeros_stk (l7 c arg2 harg2 arg3 harg3 arg4 harg4 arg7 harg7 arg10 x0 x1 x2 x5) (zeros_stk (l6 c arg2 harg2 arg3 harg3 arg4 harg4 arg7 harg7 arg10 x0 x1 x2 x5) (z5 c arg2 harg2 arg3 harg3 arg4 harg4 arg7 harg7 arg10 x0 x1 x2 x5))

theorem z9 : Zeros (kernelRun0_A.sl.HS1_208 (F := Ideal) c arg2 harg2 arg3 harg3 arg4 harg4 arg7 harg7 arg10 x0 x1 x2 x5) :=
  zeros_stk (l9 c arg2 harg2 arg3 harg3 arg4 harg4 arg7 harg7 arg10 x0 x1 x2 x5) (zeros_stk (l8 c arg2 harg2 arg3 harg3 arg4 harg4 arg7 harg7 arg10 x0 x1 x2 x5) (z7 c arg2 harg2 arg3 harg3 arg4 harg4 arg7 harg7 arg10 x0 x1 x2 x5))

theorem z11 : Zeros (kernelRun0_A.sl.HS1_248 (F := Ideal) c arg2 harg2 arg3 harg3 arg4 harg4 arg7 harg7 arg10 x0 x1 x2 x5) :=
  zeros_stk (l11 c arg2 harg2 arg3 harg3 arg4 harg4 arg7 harg7 arg10 x0 x1 x2 x5) (zeros_stk (l10 c arg2 harg2 arg3 harg3 arg4 harg4 arg7 harg7 arg10 x0 x1 x2 x5) (z9 c arg2 harg2 arg3 harg3 arg4 harg4 arg7 harg7 arg10 x0 x1 x2 x5))

theorem z13 : Zeros (kernelRun0_A.sl.HS1_288 (F := Ideal) c arg2 harg2 arg3 harg3 arg4 harg4 arg7 harg7 arg10 x0 x1 x2 x5) :=
  zeros_stk (l13 c arg2 harg2 arg3 harg3 arg4 harg4 arg7 harg7 arg10 x0 x1 x2 x5) (zeros_stk (l12 c arg2 harg2 arg3 harg3 arg4 harg4 arg7 harg7 arg10 x0 x1 x2 x5) (z11 c arg2 harg2 arg3 harg3 arg4 harg4 arg7 harg7 arg10 x0 x1 x2 x5))

theorem z15 : Zeros (kernelRun0_A.sl.HS1_328 (F := Ideal) c arg2 harg2 arg3 harg3 arg4 harg4 arg7 harg7 arg10 x0 x1 x2 x5) :=
  zeros_stk (l15 c arg2 harg2 arg3 harg3 arg4 harg4 arg7 harg7 arg10 x0 x1 x2 x5) (zeros_stk (l14 c arg2 harg2 arg3 harg3 arg4 harg4 arg7 harg7 arg10 x0 x1 x2 x5) (z13 c arg2 harg2 arg3 harg3 arg4 harg4 arg7 harg7 arg10 x0 x1 x2 x5))

theorem z17 : Zeros (kernelRun0_A.sl.HS1_368 (F := Ideal) c arg2 harg2 arg3 harg3 arg4 harg4 arg7 harg7 arg8 harg8 arg10 x0 x1 x2 x5 x6) :=
  zeros_stk (l17 c arg2 harg2 arg3 harg3 arg4 harg4 arg7 harg7 arg8 harg8 arg10 x0 x1 x2 x5 x6) (zeros_stk (l16 c arg2 harg2 arg3 harg3 arg4 harg4 arg7 harg7 arg8 harg8 arg10 x0 x1 x2 x5 x6) (z15 c arg2 harg2 arg3 harg3 arg4 harg4 arg7 harg7 arg10 x0 x1 x2 x5))

theorem z19 : Zeros (kernelRun0_A.sl.HS1_408 (F := Ideal) c arg2 harg2 arg3 harg3 arg4 harg4 arg7 harg7 arg8 harg8 arg10 x0 x1 x2 x5 x6) :=
  zeros_stk (l19 c arg2 harg2 arg3 harg3 arg4 harg4 arg7 harg7 arg8 harg8 arg10 x0 x1 x2 x5 x6) (zeros_stk (l18 c arg2 harg2 arg3 harg3 arg4 harg4 arg7 harg7 arg8 harg8 arg10 x0 x1 x2 x5 x6) (z17 c arg2 harg2 arg3 harg3 arg4 harg4 arg7 harg7 arg8 harg8 arg10 x0 x1 x2 x5 x6))

theorem z21 : Zeros (kernelRun0_A.sl.HS1_448 (F := Ideal) c arg2 harg2 arg3 harg3 arg4 harg4 arg7 harg7 arg8 harg8 arg10 x0 x1 x2 x5 x6) :=
  zeros_stk (l21 c arg2 harg2 arg3 harg3 arg4 harg4 arg7 harg7 arg8 harg8 arg10 x0 x1 x2 x5 x6) (zeros_stk (l20 c arg2 harg2 arg3 harg3 arg4 harg4 arg7 harg7 arg8 harg8 arg10 x0 x1 x2 x5 x6) (z19 c arg2 harg2 arg3 harg3 arg4 harg4 arg7 harg7 arg8 harg8 arg10 x0 x1 x2 x5 x6))

theorem z23 : Zeros (kernelRun0_A.sl.HS1_488 (F := Ideal) c arg2 harg2 arg3 harg3 arg4 harg4 arg7 harg7 arg8 harg8 arg10 x0 x1 x2 x5 x6) :=
  zeros_stk (l23 c arg2 harg2 arg3 harg3 arg4 harg4 arg7 harg7 arg8 harg8 arg10 x0 x1 x2 x5 x6) (zeros_stk (l22 c arg2 harg2 arg3 harg3 arg4 harg4 arg7 harg7 arg8 harg8 arg10 x0 x1 x2 x5 x6) (z21 c arg2 harg2 arg3 harg3 arg4 harg4 arg7 harg7 arg8 harg8 arg10 x0 x1 x2 x5 x6))

theorem z25 : Zeros (kernelRun0_A.sl.HS1_528 (F := Ideal) c arg2 harg2 arg3 harg3 arg4 harg4 arg7 harg7 arg8 harg8 arg10 x0 x1 x2 x5 x6) :=
  zeros_stk (l25 c arg2 harg2 arg3 harg3 arg4 harg4 arg7 harg7 arg8 harg8 arg10 x0 x1 x2 x5 x6) (zeros_stk (l24 c arg2 harg2 arg3 harg3 arg4 harg4 arg7 harg7 arg8 harg8 arg10 x0 x1 x2 x5 x6) (z23 c arg2 harg2 arg3 harg3 arg4 harg4 arg7 harg7 arg8 harg8 arg10 x0 x1 x2 x5 x6))

theorem z27 : Zeros (kernelRun0_A.sl.HS1_568 (F := Ideal) c arg2 harg2 arg3 harg3 arg4 harg4 arg7 harg7 arg8 harg8 arg10 x0 x1 x2 x5 x6) :=
  zeros_stk (l27 c arg2 harg2 arg3 harg3 arg4 harg4 arg7 harg7 arg8 harg8 arg10 x0 x1 x2 x5 x6) (zeros_stk (l26 c arg2 harg2 arg3 harg3 arg4 harg4 arg7 harg7 arg8 harg8 arg10 x0 x1 x2 x5 x6) (z25 c arg2 harg2 arg3 harg3 arg4 harg4 arg7 harg7 arg8 harg8 arg10 x0 x1 x2 x5 x6))

theorem z29 : Zeros (kernelRun0_A.sl.HS1_608 (F := Ideal) c arg2 harg2 arg3 harg3 arg4 harg4 arg7 harg7 arg8 harg8 arg10 x0 x1 x2 x5 x6) :=
  zeros_stk (l29 c arg2 harg2 arg3 harg3 arg4 harg4 arg7 harg7 arg8 harg8 arg10 x0 x1 x2 x5 x6) (zeros_stk (l28 c arg2 harg2 arg3 harg3 arg4 harg4 arg7 harg7 arg8 harg8 arg10 x0 x1 x2 x5 x6) (z27 c arg2 harg2 arg3 harg3 arg4 harg4 arg7 harg7 arg8 harg8 arg10 x0 x1 x2 x5 x6))

end body

end Cert.Proof.Band

end
-- ==== Proof.Band.lean ====
/- The band attention's call: what the kernel's run leaves in its result array, and what the reference's leaves there, as one
   function of the argument arrays. -/
module

public import proofs.«01_k».proof.Proof.BandList

@[expose] public section

noncomputable section

namespace Cert.Proof.Band

open Cert.BandIdeal Cert.BandIdeal.Gen Idealize.ShloMosaic Idealize.ShloMosaic.TcCoe Idealize.SL.Sem
open Cert.Proof.Common

/-! ## The body's lists of pieces -/

section body
variable (c : Dev nD) (i : grid0.Coords) (arg2 : Memref sig .tc .vmem S512x1024 .bf16) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S512x1024 .bf16) (harg6 : arg6.IsWhole) (arg7 : Memref sig .tc .vmem S1x16x768x256 .f32) (harg7 : arg7.IsWhole)
  (arg8 : Memref sig .tc .vmem S1x16x768x256 .f32) (harg8 : arg8.IsWhole) (arg9 : Memref sig .tc .vmem S512x1024 .bf16) (harg9 : arg9.IsWhole)
  (arg10 : Memref sig .tc .vmem S2x768x256 .f32) (harg10 : arg10.IsWhole) (arg11 : Memref sig .tc .vmem S2x768x256 .bf16) (harg11 : arg11.IsWhole)
  (x0 x1 x2 x3 x4 : Vec Ideal S512x1024 .bf16) (x5 x6 : Vec Ideal S1x16x768x256 .f32)

set_option maxHeartbeats 4000000 in
theorem body_eq (r0 : ∀ i, IsReal (x0 i)) (r1 : ∀ i, IsReal (x1 i)) (r2 : ∀ i, IsReal (x2 i)) (h5 : BiasOk x5) (h6 : BiasOk x6) :
    out0_A_7 c i arg2 harg2 arg3 harg3 arg4 harg4 arg5 harg5 arg6 harg6 arg7 harg7 arg8 harg8 arg9 harg9 arg10 harg10 arg11 harg11 x0 x1 x2 x3 x4 x5 x6
    = blockOf x0 x1 x2 x3 x4 x5 x6 := by
  unfold out0_A_7
  rw [View.read_writes_junk_eq_canon]
  funext y
  refine View.canon_apply_of_pieces (Val := Elt Ideal) (e := .bf16) (blockOf x0 x1 x2 x3 x4 x5 x6) _ ?_ y
    (cover0_A_7 c i arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_⟩
  · refine fun x => pair_eq1 (arg5 := arg5) (harg5 := harg5) (arg6 := arg6) (harg6 := harg6) (arg11 := arg11) (p := 7) (by decide) (s30 c arg2 harg2 arg3 harg3 arg4 harg4 x0 x1 x2) (.inl rfl) (l30 c arg2 harg2 arg3 harg3 arg4 harg4 arg7 harg7 arg8 harg8 arg10 x0 x1 x2 x5 x6) (l31 c arg2 harg2 arg3 harg3 arg4 harg4 arg7 harg7 arg8 harg8 arg10 x0 x1 x2 x5 x6)
      (z29 c arg2 harg2 arg3 harg3 arg4 harg4 arg7 harg7 arg8 harg8 arg10 x0 x1 x2 x5 x6) ?_ r0 r1 r2 h6 x
    exact rfl
  · have e : kernelRun0_A.sl.HS0_31 (F := Ideal) c arg2 harg2 arg3 harg3 arg4 harg4 x0 x1 x2 = ⟨slot 0 (by decide), _⟩ :: kernelRun0_A.sl.HS0_30 (F := Ideal) c arg2 harg2 arg3 harg3 arg4 harg4 x0 x1 x2 := rfl
    refine fun x => pair_eq1 (arg5 := arg5) (harg5 := harg5) (arg6 := arg6) (harg6 := harg6) (arg11 := arg11) (p := 6) (by decide) (s28 c arg2 harg2 arg3 harg3 arg4 harg4 x0 x1 x2) (.inr ⟨_, e⟩) (l28 c arg2 harg2 arg3 harg3 arg4 harg4 arg7 harg7 arg8 harg8 arg10 x0 x1 x2 x5 x6) (l29 c arg2 harg2 arg3 harg3 arg4 harg4 arg7 harg7 arg8 harg8 arg10 x0 x1 x2 x5 x6)
      (z27 c arg2 harg2 arg3 harg3 arg4 harg4 arg7 harg7 arg8 harg8 arg10 x0 x1 x2 x5 x6) ?_ r0 r1 r2 h6 x
    exact rfl
  · have e : kernelRun0_A.sl.HS0_29 (F := Ideal) c arg2 harg2 arg3 harg3 arg4 harg4 x0 x1 x2 = ⟨slot 0 (by decide), _⟩ :: kernelRun0_A.sl.HS0_28 (F := Ideal) c arg2 harg2 arg3 harg3 arg4 harg4 x0 x1 x2 := rfl
    refine fun x => pair_eq1 (arg5 := arg5) (harg5 := harg5) (arg6 := arg6) (harg6 := harg6) (arg11 := arg11) (p := 5) (by decide) (s26 c arg2 harg2 arg3 harg3 arg4 harg4 x0 x1 x2) (.inr ⟨_, e⟩) (l26 c arg2 harg2 arg3 harg3 arg4 harg4 arg7 harg7 arg8 harg8 arg10 x0 x1 x2 x5 x6) (l27 c arg2 harg2 arg3 harg3 arg4 harg4 arg7 harg7 arg8 harg8 arg10 x0 x1 x2 x5 x6)
      (z25 c arg2 harg2 arg3 harg3 arg4 harg4 arg7 harg7 arg8 harg8 arg10 x0 x1 x2 x5 x6) ?_ r0 r1 r2 h6 x
    exact rfl
  · have e : kernelRun0_A.sl.HS0_27 (F := Ideal) c arg2 harg2 arg3 harg3 arg4 harg4 x0 x1 x2 = ⟨slot 0 (by decide), _⟩ :: kernelRun0_A.sl.HS0_26 (F := Ideal) c arg2 harg2 arg3 harg3 arg4 harg4 x0 x1 x2 := rfl
    refine fun x => pair_eq1 (arg5 := arg5) (harg5 := harg5) (arg6 := arg6) (harg6 := harg6) (arg11 := arg11) (p := 4) (by decide) (s24 c arg2 harg2 arg3 harg3 arg4 harg4 x0 x1 x2) (.inr ⟨_, e⟩) (l24 c arg2 harg2 arg3 harg3 arg4 harg4 arg7 harg7 arg8 harg8 arg10 x0 x1 x2 x5 x6) (l25 c arg2 harg2 arg3 harg3 arg4 harg4 arg7 harg7 arg8 harg8 arg10 x0 x1 x2 x5 x6)
      (z23 c arg2 harg2 arg3 harg3 arg4 harg4 arg7 harg7 arg8 harg8 arg10 x0 x1 x2 x5 x6) ?_ r0 r1 r2 h6 x
    exact rfl
  · have e : kernelRun0_A.sl.HS0_25 (F := Ideal) c arg2 harg2 arg3 harg3 arg4 harg4 x0 x1 x2 = ⟨slot 0 (by decide), _⟩ :: kernelRun0_A.sl.HS0_24 (F := Ideal) c arg2 harg2 arg3 harg3 arg4 harg4 x0 x1 x2 := rfl
    refine fun x => pair_eq1 (arg5 := arg5) (harg5 := harg5) (arg6 := arg6) (harg6 := harg6) (arg11 := arg11) (p := 3) (by decide) (s22 c arg2 harg2 arg3 harg3 arg4 harg4 x0 x1 x2) (.inr ⟨_, e⟩) (l22 c arg2 harg2 arg3 harg3 arg4 harg4 arg7 harg7 arg8 harg8 arg10 x0 x1 x2 x5 x6) (l23 c arg2 harg2 arg3 harg3 arg4 harg4 arg7 harg7 arg8 harg8 arg10 x0 x1 x2 x5 x6)
      (z21 c arg2 harg2 arg3 harg3 arg4 harg4 arg7 harg7 arg8 harg8 arg10 x0 x1 x2 x5 x6) ?_ r0 r1 r2 h6 x
    exact rfl
  · have e : kernelRun0_A.sl.HS0_23 (F := Ideal) c arg2 harg2 arg3 harg3 arg4 harg4 x0 x1 x2 = ⟨slot 0 (by decide), _⟩ :: kernelRun0_A.sl.HS0_22 (F := Ideal) c arg2 harg2 arg3 harg3 arg4 harg4 x0 x1 x2 := rfl
    refine fun x => pair_eq1 (arg5 := arg5) (harg5 := harg5) (arg6 := arg6) (harg6 := harg6) (arg11 := arg11) (p := 2) (by decide) (s20 c arg2 harg2 arg3 harg3 arg4 harg4 x0 x1 x2) (.inr ⟨_, e⟩) (l20 c arg2 harg2 arg3 harg3 arg4 harg4 arg7 harg7 arg8 harg8 arg10 x0 x1 x2 x5 x6) (l21 c arg2 harg2 arg3 harg3 arg4 harg4 arg7 harg7 arg8 harg8 arg10 x0 x1 x2 x5 x6)
      (z19 c arg2 harg2 arg3 harg3 arg4 harg4 arg7 harg7 arg8 harg8 arg10 x0 x1 x2 x5 x6) ?_ r0 r1 r2 h6 x
    exact rfl
  · have e : kernelRun0_A.sl.HS0_21 (F := Ideal) c arg2 harg2 arg3 harg3 arg4 harg4 x0 x1 x2 = ⟨slot 0 (by decide), _⟩ :: kernelRun0_A.sl.HS0_20 (F := Ideal) c arg2 harg2 arg3 harg3 arg4 harg4 x0 x1 x2 := rfl
    refine fun x => pair_eq1 (arg5 := arg5) (harg5 := harg5) (arg6 := arg6) (harg6 := harg6) (arg11 := arg11) (p := 1) (by decide) (s18 c arg2 harg2 arg3 harg3 arg4 harg4 x0 x1 x2) (.inr ⟨_, e⟩) (l18 c arg2 harg2 arg3 harg3 arg4 harg4 arg7 harg7 arg8 harg8 arg10 x0 x1 x2 x5 x6) (l19 c arg2 harg2 arg3 harg3 arg4 harg4 arg7 harg7 arg8 harg8 arg10 x0 x1 x2 x5 x6)
      (z17 c arg2 harg2 arg3 harg3 arg4 harg4 arg7 harg7 arg8 harg8 arg10 x0 x1 x2 x5 x6) ?_ r0 r1 r2 h6 x
    exact rfl
  · have e : kernelRun0_A.sl.HS0_19 (F := Ideal) c arg2 harg2 arg3 harg3 arg4 harg4 x0 x1 x2 = ⟨slot 0 (by decide), _⟩ :: kernelRun0_A.sl.HS0_18 (F := Ideal) c arg2 harg2 arg3 harg3 arg4 harg4 x0 x1 x2 := rfl
    refine fun x => pair_eq1 (arg5 := arg5) (harg5 := harg5) (arg6 := arg6) (harg6 := harg6) (arg11 := arg11) (p := 0) (by decide) (s16 c arg2 harg2 arg3 harg3 arg4 harg4 x0 x1 x2) (.inr ⟨_, e⟩) (l16 c arg2 harg2 arg3 harg3 arg4 harg4 arg7 harg7 arg8 harg8 arg10 x0 x1 x2 x5 x6) (l17 c arg2 harg2 arg3 harg3 arg4 harg4 arg7 harg7 arg8 harg8 arg10 x0 x1 x2 x5 x6)
      (z15 c arg2 harg2 arg3 harg3 arg4 harg4 arg7 harg7 arg10 x0 x1 x2 x5) ?_ r0 r1 r2 h6 x
    exact rfl
  · have e : kernelRun0_A.sl.HS0_17 (F := Ideal) c arg2 harg2 arg3 harg3 arg4 harg4 x0 x1 x2 = ⟨slot 0 (by decide), _⟩ :: kernelRun0_A.sl.HS0_16 (F := Ideal) c arg2 harg2 arg3 harg3 arg4 harg4 x0 x1 x2 := rfl
    refine fun x => pair_eq0 (arg5 := arg5) (harg5 := harg5) (arg6 := arg6) (harg6 := harg6) (arg11 := arg11) (p := 7) (by decide) (s14 c arg2 harg2 arg3 harg3 arg4 harg4 x0 x1 x2) (.inr ⟨_, e⟩) (l14 c arg2 harg2 arg3 harg3 arg4 harg4 arg7 harg7 arg10 x0 x1 x2 x5) (l15 c arg2 harg2 arg3 harg3 arg4 harg4 arg7 harg7 arg10 x0 x1 x2 x5)
      (z13 c arg2 harg2 arg3 harg3 arg4 harg4 arg7 harg7 arg10 x0 x1 x2 x5) ?_ r0 r1 r2 h5 x
    exact rfl
  · have e : kernelRun0_A.sl.HS0_15 (F := Ideal) c arg2 harg2 arg3 harg3 arg4 harg4 x0 x1 x2 = ⟨slot 0 (by decide), _⟩ :: kernelRun0_A.sl.HS0_14 (F := Ideal) c arg2 harg2 arg3 harg3 arg4 harg4 x0 x1 x2 := rfl
    refine fun x => pair_eq0 (arg5 := arg5) (harg5 := harg5) (arg6 := arg6) (harg6 := harg6) (arg11 := arg11) (p := 6) (by decide) (s12 c arg2 harg2 arg3 harg3 arg4 harg4 x0 x1 x2) (.inr ⟨_, e⟩) (l12 c arg2 harg2 arg3 harg3 arg4 harg4 arg7 harg7 arg10 x0 x1 x2 x5) (l13 c arg2 harg2 arg3 harg3 arg4 harg4 arg7 harg7 arg10 x0 x1 x2 x5)
      (z11 c arg2 harg2 arg3 harg3 arg4 harg4 arg7 harg7 arg10 x0 x1 x2 x5) ?_ r0 r1 r2 h5 x
    exact rfl
  · have e : kernelRun0_A.sl.HS0_13 (F := Ideal) c arg2 harg2 arg3 harg3 arg4 harg4 x0 x1 x2 = ⟨slot 0 (by decide), _⟩ :: kernelRun0_A.sl.HS0_12 (F := Ideal) c arg2 harg2 arg3 harg3 arg4 harg4 x0 x1 x2 := rfl
    refine fun x => pair_eq0 (arg5 := arg5) (harg5 := harg5) (arg6 := arg6) (harg6 := harg6) (arg11 := arg11) (p := 5) (by decide) (s10 c arg2 harg2 arg3 harg3 arg4 harg4 x0 x1 x2) (.inr ⟨_, e⟩) (l10 c arg2 harg2 arg3 harg3 arg4 harg4 arg7 harg7 arg10 x0 x1 x2 x5) (l11 c arg2 harg2 arg3 harg3 arg4 harg4 arg7 harg7 arg10 x0 x1 x2 x5)
      (z9 c arg2 harg2 arg3 harg3 arg4 harg4 arg7 harg7 arg10 x0 x1 x2 x5) ?_ r0 r1 r2 h5 x
    exact rfl
  · have e : kernelRun0_A.sl.HS0_11 (F := Ideal) c arg2 harg2 arg3 harg3 arg4 harg4 x0 x1 x2 = ⟨slot 0 (by decide), _⟩ :: kernelRun0_A.sl.HS0_10 (F := Ideal) c arg2 harg2 arg3 harg3 arg4 harg4 x0 x1 x2 := rfl
    refine fun x => pair_eq0 (arg5 := arg5) (harg5 := harg5) (arg6 := arg6) (harg6 := harg6) (arg11 := arg11) (p := 4) (by decide) (s8 c arg2 harg2 arg3 harg3 arg4 harg4 x0 x1 x2) (.inr ⟨_, e⟩) (l8 c arg2 harg2 arg3 harg3 arg4 harg4 arg7 harg7 arg10 x0 x1 x2 x5) (l9 c arg2 harg2 arg3 harg3 arg4 harg4 arg7 harg7 arg10 x0 x1 x2 x5)
      (z7 c arg2 harg2 arg3 harg3 arg4 harg4 arg7 harg7 arg10 x0 x1 x2 x5) ?_ r0 r1 r2 h5 x
    exact rfl
  · have e : kernelRun0_A.sl.HS0_9 (F := Ideal) c arg2 harg2 arg3 harg3 arg4 harg4 x0 x1 x2 = ⟨slot 0 (by decide), _⟩ :: kernelRun0_A.sl.HS0_8 (F := Ideal) c arg2 harg2 arg3 harg3 arg4 harg4 x0 x1 x2 := rfl
    refine fun x => pair_eq0 (arg5 := arg5) (harg5 := harg5) (arg6 := arg6) (harg6 := harg6) (arg11 := arg11) (p := 3) (by decide) (s6 c arg2 harg2 arg3 harg3 arg4 harg4 x0 x1 x2) (.inr ⟨_, e⟩) (l6 c arg2 harg2 arg3 harg3 arg4 harg4 arg7 harg7 arg10 x0 x1 x2 x5) (l7 c arg2 harg2 arg3 harg3 arg4 harg4 arg7 harg7 arg10 x0 x1 x2 x5)
      (z5 c arg2 harg2 arg3 harg3 arg4 harg4 arg7 harg7 arg10 x0 x1 x2 x5) ?_ r0 r1 r2 h5 x
    exact rfl
  · have e : kernelRun0_A.sl.HS0_7 (F := Ideal) c arg2 harg2 arg3 harg3 arg4 harg4 x0 x1 x2 = ⟨slot 0 (by decide), _⟩ :: kernelRun0_A.sl.HS0_6 (F := Ideal) c arg2 harg2 arg3 harg3 arg4 harg4 x0 x1 x2 := rfl
    refine fun x => pair_eq0 (arg5 := arg5) (harg5 := harg5) (arg6 := arg6) (harg6 := harg6) (arg11 := arg11) (p := 2) (by decide) (s4 c arg2 harg2 arg3 harg3 arg4 harg4 x0 x1 x2) (.inr ⟨_, e⟩) (l4 c arg2 harg2 arg3 harg3 arg4 harg4 arg7 harg7 arg10 x0 x1 x2 x5) (l5 c arg2 harg2 arg3 harg3 arg4 harg4 arg7 harg7 arg10 x0 x1 x2 x5)
      (z3 c arg2 harg2 arg3 harg3 arg4 harg4 arg7 harg7 arg10 x0 x1 x2 x5) ?_ r0 r1 r2 h5 x
    exact rfl
  · have e : kernelRun0_A.sl.HS0_5 (F := Ideal) c arg2 harg2 arg3 harg3 arg4 harg4 x0 x1 x2 = ⟨slot 0 (by decide), _⟩ :: kernelRun0_A.sl.HS0_4 (F := Ideal) c arg2 harg2 arg3 harg3 arg4 harg4 x0 x1 x2 := rfl
    refine fun x => pair_eq0 (arg5 := arg5) (harg5 := harg5) (arg6 := arg6) (harg6 := harg6) (arg11 := arg11) (p := 1) (by decide) (s2 c arg2 harg2 arg3 harg3 arg4 harg4 x0 x1 x2) (.inr ⟨_, e⟩) (l2 c arg2 harg2 arg3 harg3 arg4 harg4 arg7 harg7 arg10 x0 x1 x2 x5) (l3 c arg2 harg2 arg3 harg3 arg4 harg4 arg7 harg7 arg10 x0 x1 x2 x5)
      (z1 c arg2 harg2 arg3 harg3 arg4 harg4 arg7 harg7 arg10 x0 x1 x2 x5) ?_ r0 r1 r2 h5 x
    exact rfl
  · have e : kernelRun0_A.sl.HS0_3 (F := Ideal) c arg2 harg2 arg3 harg3 arg4 harg4 x0 x1 x2 = ⟨slot 0 (by decide), _⟩ :: kernelRun0_A.sl.HS0_2 (F := Ideal) c arg2 harg2 arg3 harg3 arg4 harg4 x0 x1 x2 := rfl
    refine fun x => pair_eq0 (arg5 := arg5) (harg5 := harg5) (arg6 := arg6) (harg6 := harg6) (arg11 := arg11) (p := 0) (by decide) (s0 c arg2 harg2 arg3 harg3 arg4 harg4 x0 x1 x2) (.inr ⟨_, e⟩) (l0 c arg2 harg2 arg3 harg3 arg4 harg4 arg7 harg7 arg10 x0 x1 x2 x5) (l1 c arg2 harg2 arg3 harg3 arg4 harg4 arg7 harg7 arg10 x0 x1 x2 x5)
      zeros_base ?_ r0 r1 r2 h5 x
    exact rfl

end body

end Cert.Proof.Band

end
-- ==== Proof.BandArray.lean ====
/- The band attention's call: the kernel's result array as a function of its argument arrays. -/
module

public import proofs.«01_k».proof.Proof.Band

@[expose] public section

noncomputable section

namespace Cert.Proof.Band

open Cert.BandIdeal Cert.BandIdeal.Gen Idealize.ShloMosaic Idealize.ShloMosaic.TcCoe Idealize.SL.Sem
open Cert.Proof.Common

/-- Row `k` of the window of row `R`: the tile of `R` and the two before it, zero before the sequence's start. -/
def wk (a : Vec Ideal S32768x1024 .bf16) (R : Fin 32768) (k : Fin 768) (c : Fin 1024) : EReal :=
  if 512 ≤ k.val + 256 * (R.val % 8192 / 256) then a (ix2 ⟨256 * (R.val / 256) + k.val - 512, by omega⟩ c) else 0

/-- Which of the three biases a row takes. -/
def vn (R : Fin 32768) : Fin 3 := ⟨min (R.val % 8192 / 256) 2, by omega⟩

/-- The score to base 2 of row `R` with key `k` of its window, biased, in the head of column `c`. -/
def T (a0 a1 : Vec Ideal S32768x1024 .bf16) (a3 : Vec Ideal S3x16x768x256 .f32) (R : Fin 32768) (c : Fin 1024) (k : Fin 768) : EReal :=
  (∑ e : Fin 64, wk a1 R k ⟨64 * (c.val / 64) + e.val, by omega⟩ * a0 (ix2 R ⟨64 * (c.val / 64) + e.val, by omega⟩))
    + a3 (ix4 (vn R) ⟨c.val / 64, by omega⟩ k ⟨R.val % 256, by omega⟩)

/-- One element of the result. -/
def res (a0 a1 a2 : Vec Ideal S32768x1024 .bf16) (a3 : Vec Ideal S3x16x768x256 .f32) (R : Fin 32768) (c : Fin 1024) : EReal :=
  mean (T a0 a1 a3 R c) (fun k => wk a2 R k c)

/-- The result array of the argument arrays. -/
def result (a0 a1 a2 : Vec Ideal S32768x1024 .bf16) (a3 : Vec Ideal S3x16x768x256 .f32) : Vec Ideal S32768x1024 .bf16 := fun i =>
  res a0 a1 a2 a3 (i 0) (i 1)

/-- The places of a window a bias leaves. -/
def ok (n k t : Nat) : Prop := t / 64 ≤ k / 64 ∧ k / 64 ≤ t / 64 + 8 ∧ 512 ≤ k + 256 * n

/-- What the precondition says of the arguments. -/
structure Banded (a0 a1 : Vec Ideal S32768x1024 .bf16) (a3 : Vec Ideal S3x16x768x256 .f32) : Prop where
  q : ∀ i, IsReal (a0 i)
  k : ∀ i, IsReal (a1 i)
  yes : ∀ (n : Fin 3) h (k : Fin 768) (t : Fin 256), ok n.val k.val t.val → IsReal (a3 (ix4 n h k t))
  no : ∀ (n : Fin 3) h (k : Fin 768) (t : Fin 256), ¬ ok n.val k.val t.val → a3 (ix4 n h k t) = ⊥

theorem Banded.top {a0 a1 : Vec Ideal S32768x1024 .bf16} {a3 : Vec Ideal S3x16x768x256 .f32} (B : Banded a0 a1 a3) (n : Fin 3) (h : Fin 16)
    (k : Fin 768) (t : Fin 256) : a3 (ix4 n h k t) ≠ ⊤ := by
  by_cases o : ok n.val k.val t.val
  · obtain ⟨r, hr⟩ := B.yes n h k t o
    rw [hr]; exact EReal.coe_ne_top r
  · rw [B.no n h k t o]; exact bot_ne_top

theorem Banded.biasOk {a0 a1 : Vec Ideal S32768x1024 .bf16} {a3 : Vec Ideal S3x16x768x256 .f32} (B : Banded a0 a1 a3) (n : Fin 3)
    {x : Vec Ideal S1x16x768x256 .f32} (e : ∀ j, x j = a3 (ix4 n (j 1) (j 2) (j 3))) : BiasOk x where
  top h k q := by rw [e]; exact B.top n h k q
  out h k q hk := by
    rw [e]
    refine B.no n h k q fun o => hk ?_
    obtain ⟨o1, o2, -⟩ := o
    have := q.isLt
    omega
  some h q := ⟨⟨512, by omega⟩, by
    rw [e]
    obtain ⟨r, hr⟩ := B.yes n h ⟨512, by omega⟩ q ⟨by have := q.isLt; show _ ≤ 512 / 64; omega, by show 512 / 64 ≤ _; omega, by show 512 ≤ 512 + _; omega⟩
    exact fun hx => EReal.coe_ne_bot r (hr.symm.trans hx)⟩

theorem pw_bot : pw ⊥ = 0 := by simp [pw]

/-- A mean does not read the values of keys of no weight. -/
theorem mean_congr {T T' V V' : Fin 768 → EReal} (hT : ∀ k, T k = T' k) (hV : ∀ k, T k ≠ ⊥ → V k = V' k) : mean T V = mean T' V' := by
  obtain rfl := funext hT
  refine Finset.sum_congr rfl fun k _ => ?_
  by_cases h : T k = ⊥
  · rw [h, pw_bot, zero_div, EReal.coe_zero, zero_mul, zero_mul]
  · rw [hV k h]

/-- Row `r` of block `t`, and of the block before it. -/
def row (t : Fin 64) (r : Fin 512) : Fin 32768 := ⟨512 * (t.val % 4 * 16 + t.val / 4) + r.val, by omega⟩
def rowp (t : Fin 64) (r : Fin 512) : Fin 32768 := ⟨512 * (t.val % 4 * 16 + (t.val / 4 - 1)) + r.val, by omega⟩

theorem row_div (t : Fin 64) (r : Fin 512) : (row t r).val / 256 = 32 * (t.val % 4) + 2 * (t.val / 4) + r.val / 256 := by
  show (512 * (t.val % 4 * 16 + t.val / 4) + r.val) / 256 = _
  generalize t.val % 4 = b, t.val / 4 = j
  omega

theorem row_place (t : Fin 64) (r : Fin 512) : (row t r).val % 8192 / 256 = 2 * (t.val / 4) + r.val / 256 := by
  have hb : t.val % 4 < 4 := by omega
  have hj : t.val / 4 < 16 := by omega
  show (512 * (t.val % 4 * 16 + t.val / 4) + r.val) % 8192 / 256 = _
  generalize t.val % 4 = b at hb ⊢
  generalize t.val / 4 = j at hj ⊢
  have h : (512 * (b * 16 + j) + r.val) % 8192 = 512 * j + r.val := by omega
  rw [h]; omega

theorem W_eq {x y : Vec Ideal S512x1024 .bf16} {a : Vec Ideal S32768x1024 .bf16} {t : Fin 64}
    (e : ∀ j, x j = a (ix2 (rowp t (j 0)) (j 1))) (e' : ∀ j, y j = a (ix2 (row t (j 0)) (j 1))) (r : Fin 512) {o : Nat} (ho : o = 256 * (r.val / 256))
    (k : Fin 768) (c : Fin 1024) (hk : 512 ≤ k.val + 256 * ((row t r).val % 8192 / 256)) : W o x y k c = wk a (row t r) k c := by
  unfold W wk
  rw [if_pos hk]
  rw [row_place] at hk
  have hd := row_div t r
  split
  · rw [e]
    refine congrArg (fun z => a (ix2 z c)) (Fin.ext ?_)
    show 512 * (t.val % 4 * 16 + (t.val / 4 - 1)) + (k.val + o) % 512 = 256 * ((row t r).val / 256) + k.val - 512
    rw [hd]
    have hk' := k.isLt
    generalize t.val % 4 = b, t.val / 4 = j at hk ⊢
    omega
  · rw [e']
    refine congrArg (fun z => a (ix2 z c)) (Fin.ext ?_)
    show 512 * (t.val % 4 * 16 + t.val / 4) + (k.val + o) % 512 = 256 * ((row t r).val / 256) + k.val - 512
    rw [hd]
    have hk' := k.isLt
    generalize t.val % 4 = b, t.val / 4 = j at hk ⊢
    omega

/-- A half of a block. -/
theorem half_eq {x0 x1 x2 x3 x4 : Vec Ideal S512x1024 .bf16} {x : Vec Ideal S1x16x768x256 .f32} {a0 a1 a2 : Vec Ideal S32768x1024 .bf16}
    {a3 : Vec Ideal S3x16x768x256 .f32} (B : Banded a0 a1 a3) {t : Fin 64} (e0 : ∀ j, x0 j = a0 (ix2 (row t (j 0)) (j 1)))
    (e1 : ∀ j, x1 j = a1 (ix2 (rowp t (j 0)) (j 1))) (e2 : ∀ j, x2 j = a1 (ix2 (row t (j 0)) (j 1)))
    (e3 : ∀ j, x3 j = a2 (ix2 (rowp t (j 0)) (j 1))) (e4 : ∀ j, x4 j = a2 (ix2 (row t (j 0)) (j 1))) (r : Fin 512) (c : Fin 1024)
    (e : ∀ j, x j = a3 (ix4 (vn (row t r)) (j 1) (j 2) (j 3))) {o : Nat} (ho' : o ≤ 256) (ho : o = 256 * (r.val / 256)) (q : Fin 256)
    (hq : r.val = o + q.val) (hh : c.val / 64 < 16) :
    mean (fun k => sc o ho' x0 x1 x2 (c.val / 64) hh k q + x (ix4 0 ⟨c.val / 64, hh⟩ k q)) (fun k => W o x3 x4 k c)
    = res a0 a1 a2 a3 (row t r) c := by
  have hr : (row t r).val = 512 * (t.val % 4 * 16 + t.val / 4) + r.val := rfl
  have hq' : (⟨(row t r).val % 256, by omega⟩ : Fin 256) = q := Fin.ext (by show (row t r).val % 256 = _; rw [hr]; omega)
  have hx : ∀ k, x (ix4 0 ⟨c.val / 64, hh⟩ k q) = a3 (ix4 (vn (row t r)) ⟨c.val / 64, hh⟩ k q) := fun k => e _
  have hok : ∀ k : Fin 768, ok (vn (row t r)).val k.val q.val → 512 ≤ k.val + 256 * ((row t r).val % 8192 / 256) := fun k h => by
    have h3 : 512 ≤ k.val + 256 * min ((row t r).val % 8192 / 256) 2 := h.2.2
    omega
  unfold res
  refine mean_congr (fun k => ?_) (fun k hk => ?_)
  · unfold T
    rw [hq', hx]
    by_cases h : ok (vn (row t r)).val k.val q.val
    · refine congrArg (· + _) (Finset.sum_congr rfl fun e _ => ?_)
      rw [W_eq e1 e2 r ho k _ (hok k h), e0]
      refine congrArg (fun z => _ * a0 (ix2 z _)) (congrArg (row t) (Fin.ext ?_))
      exact hq.symm
    · rw [B.no _ _ _ _ h, EReal.add_bot, EReal.add_bot]
  · by_cases h : ok (vn (row t r)).val k.val q.val
    · exact W_eq e3 e4 r ho k c (hok k h)
    · refine absurd ?_ hk
      rw [hx, B.no _ _ _ _ h, EReal.add_bot]

theorem blk_eq {x0 x1 x2 x3 x4 : Vec Ideal S512x1024 .bf16} {x5 x6 : Vec Ideal S1x16x768x256 .f32} {a0 a1 a2 : Vec Ideal S32768x1024 .bf16}
    {a3 : Vec Ideal S3x16x768x256 .f32} (B : Banded a0 a1 a3) {t : Fin 64} (e0 : ∀ j, x0 j = a0 (ix2 (row t (j 0)) (j 1)))
    (e1 : ∀ j, x1 j = a1 (ix2 (rowp t (j 0)) (j 1))) (e2 : ∀ j, x2 j = a1 (ix2 (row t (j 0)) (j 1)))
    (e3 : ∀ j, x3 j = a2 (ix2 (rowp t (j 0)) (j 1))) (e4 : ∀ j, x4 j = a2 (ix2 (row t (j 0)) (j 1)))
    (e5 : ∀ j, x5 j = a3 (ix4 ⟨min (2 * (t.val / 4)) 2, by omega⟩ (j 1) (j 2) (j 3)))
    (e6 : ∀ j, x6 j = a3 (ix4 ⟨min (2 * (t.val / 4) + 1) 2, by omega⟩ (j 1) (j 2) (j 3))) (r : Fin 512) (c : Fin 1024) :
    blk x0 x1 x2 x3 x4 x5 x6 r c = res a0 a1 a2 a3 (row t r) c := by
  have hr : (row t r).val = 512 * (t.val % 4 * 16 + t.val / 4) + r.val := rfl
  unfold blk
  split
  · refine half_eq B e0 e1 e2 e3 e4 r c (fun j => (e5 j).trans ?_) _ (by omega) _ (by simp) _
    refine congrArg (fun z => a3 (ix4 z _ _ _)) (Fin.ext ?_)
    show min (2 * (t.val / 4)) 2 = min ((row t r).val % 8192 / 256) 2
    rw [row_place]; omega
  · refine half_eq B e0 e1 e2 e3 e4 r c (fun j => (e6 j).trans ?_) _ (by omega) _ (by show r.val = 256 + (r.val - 256); omega) _
    refine congrArg (fun z => a3 (ix4 z _ _ _)) (Fin.ext ?_)
    show min (2 * (t.val / 4) + 1) 2 = min ((row t r).val % 8192 / 256) 2
    rw [row_place]; omega

variable (m : (ℓ : Loc nD τ sig) → Buf (Elt Ideal) ℓ) (c : Dev nD)

/-- The arguments as launched. -/
abbrev A0 : Vec Ideal S32768x1024 .bf16 := m ((c : Thread nD τ).loc main_arg0)
abbrev A1 : Vec Ideal S32768x1024 .bf16 := m ((c : Thread nD τ).loc main_arg1)
abbrev A2 : Vec Ideal S32768x1024 .bf16 := m ((c : Thread nD τ).loc main_arg2)
abbrev A3 : Vec Ideal S3x16x768x256 .f32 := m ((c : Thread nD τ).loc main_arg3)

/-- Which block each window is on at a grid point. -/
theorem idx_facts : ∀ t : Fin cfg0.N,
    (win0_0.index t (0 : Fin 2) = t.val % 4 * 16 + t.val / 4 ∧ win0_0.index t (1 : Fin 2) = 0)
    ∧ (win0_1.index t (0 : Fin 2) = t.val % 4 * 16 + (t.val / 4 - 1) ∧ win0_1.index t (1 : Fin 2) = 0)
    ∧ (win0_2.index t (0 : Fin 2) = t.val % 4 * 16 + t.val / 4 ∧ win0_2.index t (1 : Fin 2) = 0)
    ∧ (win0_3.index t (0 : Fin 2) = t.val % 4 * 16 + (t.val / 4 - 1) ∧ win0_3.index t (1 : Fin 2) = 0)
    ∧ (win0_4.index t (0 : Fin 2) = t.val % 4 * 16 + t.val / 4 ∧ win0_4.index t (1 : Fin 2) = 0)
    ∧ (win0_5.index t (0 : Fin 4) = min (2 * (t.val / 4)) 2 ∧ win0_5.index t (1 : Fin 4) = 0 ∧ win0_5.index t (2 : Fin 4) = 0 ∧ win0_5.index t (3 : Fin 4) = 0)
    ∧ (win0_6.index t (0 : Fin 4) = min (2 * (t.val / 4) + 1) 2 ∧ win0_6.index t (1 : Fin 4) = 0 ∧ win0_6.index t (2 : Fin 4) = 0 ∧ win0_6.index t (3 : Fin 4) = 0)
    ∧ (win0_7.index t (0 : Fin 2) = t.val % 4 * 16 + t.val / 4 ∧ win0_7.index t (1 : Fin 2) = 0) :=
  (by decide +kernel : ∀ t : Fin grid0.N, _)

theorem iblk0 (t : Fin cfg0.N) (j : S512x1024.Idx) : iblk m c 0 t j = A0 m c (ix2 (row t (j 0)) (j 1)) := by
  refine Eq.trans ?_ (congrFun (V_main_arg0 m c) _)
  refine congrArg (V m c main_arg0) (funext fun a => Fin.ext ?_)
  obtain ⟨⟨e0, e1⟩, -⟩ := idx_facts t
  match a with
  | ⟨0, _⟩ => show win0_0.index t (0 : Fin 2) * 512 + 1 * (j 0).val = 512 * (t.val % 4 * 16 + t.val / 4) + (j 0).val; omega
  | ⟨1, _⟩ => show win0_0.index t (1 : Fin 2) * 1024 + 1 * (j 1).val = (j 1).val; omega

theorem iblk1 (t : Fin cfg0.N) (j : S512x1024.Idx) : iblk m c 1 t j = A1 m c (ix2 (rowp t (j 0)) (j 1)) := by
  refine Eq.trans ?_ (congrFun (V_main_arg1 m c) _)
  refine congrArg (V m c main_arg1) (funext fun a => Fin.ext ?_)
  obtain ⟨-, ⟨e0, e1⟩, -⟩ := idx_facts t
  match a with
  | ⟨0, _⟩ => show win0_1.index t (0 : Fin 2) * 512 + 1 * (j 0).val = 512 * (t.val % 4 * 16 + (t.val / 4 - 1)) + (j 0).val; omega
  | ⟨1, _⟩ => show win0_1.index t (1 : Fin 2) * 1024 + 1 * (j 1).val = (j 1).val; omega

theorem iblk2 (t : Fin cfg0.N) (j : S512x1024.Idx) : iblk m c 2 t j = A1 m c (ix2 (row t (j 0)) (j 1)) := by
  refine Eq.trans ?_ (congrFun (V_main_arg1 m c) _)
  refine congrArg (V m c main_arg1) (funext fun a => Fin.ext ?_)
  obtain ⟨-, -, ⟨e0, e1⟩, -⟩ := idx_facts t
  match a with
  | ⟨0, _⟩ => show win0_2.index t (0 : Fin 2) * 512 + 1 * (j 0).val = 512 * (t.val % 4 * 16 + t.val / 4) + (j 0).val; omega
  | ⟨1, _⟩ => show win0_2.index t (1 : Fin 2) * 1024 + 1 * (j 1).val = (j 1).val; omega

theorem iblk3 (t : Fin cfg0.N) (j : S512x1024.Idx) : iblk m c 3 t j = A2 m c (ix2 (rowp t (j 0)) (j 1)) := by
  refine Eq.trans ?_ (congrFun (V_main_arg2 m c) _)
  refine congrArg (V m c main_arg2) (funext fun a => Fin.ext ?_)
  obtain ⟨-, -, -, ⟨e0, e1⟩, -⟩ := idx_facts t
  match a with
  | ⟨0, _⟩ => show win0_3.index t (0 : Fin 2) * 512 + 1 * (j 0).val = 512 * (t.val % 4 * 16 + (t.val / 4 - 1)) + (j 0).val; omega
  | ⟨1, _⟩ => show win0_3.index t (1 : Fin 2) * 1024 + 1 * (j 1).val = (j 1).val; omega

theorem iblk4 (t : Fin cfg0.N) (j : S512x1024.Idx) : iblk m c 4 t j = A2 m c (ix2 (row t (j 0)) (j 1)) := by
  refine Eq.trans ?_ (congrFun (V_main_arg2 m c) _)
  refine congrArg (V m c main_arg2) (funext fun a => Fin.ext ?_)
  obtain ⟨-, -, -, -, ⟨e0, e1⟩, -⟩ := idx_facts t
  match a with
  | ⟨0, _⟩ => show win0_4.index t (0 : Fin 2) * 512 + 1 * (j 0).val = 512 * (t.val % 4 * 16 + t.val / 4) + (j 0).val; omega
  | ⟨1, _⟩ => show win0_4.index t (1 : Fin 2) * 1024 + 1 * (j 1).val = (j 1).val; omega

theorem iblk5 (t : Fin cfg0.N) (j : S1x16x768x256.Idx) :
    iblk m c 5 t j = A3 m c (ix4 ⟨min (2 * (t.val / 4)) 2, by omega⟩ (j 1) (j 2) (j 3)) := by
  refine Eq.trans ?_ (congrFun (V_main_arg3 m c) _)
  refine congrArg (V m c main_arg3) (funext fun a => Fin.ext ?_)
  obtain ⟨-, -, -, -, -, ⟨e0, e1, e2, e3⟩, -⟩ := idx_facts t
  have h0 : (j 0).val < 1 := (j 0).isLt
  match a with
  | ⟨0, _⟩ => show win0_5.index t (0 : Fin 4) * 1 + 1 * (j 0).val = min (2 * (t.val / 4)) 2; omega
  | ⟨1, _⟩ => show win0_5.index t (1 : Fin 4) * 16 + 1 * (j 1).val = (j 1).val; omega
  | ⟨2, _⟩ => show win0_5.index t (2 : Fin 4) * 768 + 1 * (j 2).val = (j 2).val; omega
  | ⟨3, _⟩ => show win0_5.index t (3 : Fin 4) * 256 + 1 * (j 3).val = (j 3).val; omega

theorem iblk6 (t : Fin cfg0.N) (j : S1x16x768x256.Idx) :
    iblk m c 6 t j = A3 m c (ix4 ⟨min (2 * (t.val / 4) + 1) 2, by omega⟩ (j 1) (j 2) (j 3)) := by
  refine Eq.trans ?_ (congrFun (V_main_arg3 m c) _)
  refine congrArg (V m c main_arg3) (funext fun a => Fin.ext ?_)
  obtain ⟨-, -, -, -, -, -, ⟨e0, e1, e2, e3⟩, -⟩ := idx_facts t
  have h0 : (j 0).val < 1 := (j 0).isLt
  match a with
  | ⟨0, _⟩ => show win0_6.index t (0 : Fin 4) * 1 + 1 * (j 0).val = min (2 * (t.val / 4) + 1) 2; omega
  | ⟨1, _⟩ => show win0_6.index t (1 : Fin 4) * 16 + 1 * (j 1).val = (j 1).val; omega
  | ⟨2, _⟩ => show win0_6.index t (2 : Fin 4) * 768 + 1 * (j 2).val = (j 2).val; omega
  | ⟨3, _⟩ => show win0_6.index t (3 : Fin 4) * 256 + 1 * (j 3).val = (j 3).val; omega

theorem emb7 (t : Fin cfg0.N) (j : S512x1024.Idx) : ((cfg0.win 7).blk t).view.emb j = ix2 (row t (j 0)) (j 1) := by
  funext a; apply Fin.ext
  obtain ⟨-, -, -, -, -, -, -, e0, e1⟩ := idx_facts t
  match a with
  | ⟨0, _⟩ => show win0_7.index t (0 : Fin 2) * 512 + 1 * (j 0).val = 512 * (t.val % 4 * 16 + t.val / 4) + (j 0).val; omega
  | ⟨1, _⟩ => show win0_7.index t (1 : Fin 2) * 1024 + 1 * (j 1).val = (j 1).val; omega

theorem blockOf_eq (x0 x1 x2 x3 x4 : Vec Ideal S512x1024 .bf16) (x5 x6 : Vec Ideal S1x16x768x256 .f32) (j : S512x1024.Idx) :
    blockOf x0 x1 x2 x3 x4 x5 x6 j = blk x0 x1 x2 x3 x4 x5 x6 (j 0) (j 1) := rfl

theorem result_eq (a0 a1 a2 : Vec Ideal S32768x1024 .bf16) (a3 : Vec Ideal S3x16x768x256 .f32) (R : Fin 32768) (k : Fin 1024) :
    result a0 a1 a2 a3 (ix2 R k) = res a0 a1 a2 a3 R k := rfl

/-- The kernel's result array is `result` of its arguments. -/
theorem array (B : Banded (A0 m c) (A1 m c) (A3 m c)) :
    (dats m 0 c).arrAt 7 cfg0.N = result (A0 m c) (A1 m c) (A2 m c) (A3 m c) := by
  refine (dats m 0 c).arrAt_eq_of_cover 7 _ (fun t _ => ?_) (fun i => ?_)
  · rw [Value.flushed7_A, body_eq]
    · funext j
      show blockOf _ _ _ _ _ _ _ j = result _ _ _ _ (((cfg0.win 7).blk t).view.emb j)
      rw [emb7, blockOf_eq]
      refine Eq.trans ?_ (result_eq _ _ _ _ _ _).symm
      exact blk_eq B (iblk0 m c t) (iblk1 m c t) (iblk2 m c t) (iblk3 m c t) (iblk4 m c t) (iblk5 m c t) (iblk6 m c t) (j 0) (j 1)
    · exact fun j => (iblk0 m c t j).symm ▸ B.q _
    · exact fun j => (iblk1 m c t j).symm ▸ B.k _
    · exact fun j => (iblk2 m c t j).symm ▸ B.k _
    · exact B.biasOk _ (iblk5 m c t)
    · exact B.biasOk _ (iblk6 m c t)
  · have h0 : (i 0).val < 32768 := (i 0).isLt
    obtain ⟨t, r, hi⟩ : ∃ (t : Fin cfg0.N) (r : Fin 512), ix2 (row t r) (i 1) = i :=
      ⟨⟨4 * ((i 0).val / 512 % 16) + (i 0).val / 8192, by show _ < 64; omega⟩, ⟨(i 0).val % 512, by omega⟩, by
        funext a; apply Fin.ext
        match a with
        | ⟨0, _⟩ =>
          show 512 * ((4 * ((i 0).val / 512 % 16) + (i 0).val / 8192) % 4 * 16 + (4 * ((i 0).val / 512 % 16) + (i 0).val / 8192) / 4) + (i 0).val % 512 = (i 0).val
          generalize (i 0).val = n at h0 ⊢
          have e1 : (4 * (n / 512 % 16) + n / 8192) % 4 = n / 8192 := by omega
          have e2 : (4 * (n / 512 % 16) + n / 8192) / 4 = n / 512 % 16 := by omega
          rw [e1, e2]; omega
        | ⟨1, _⟩ => rfl⟩
    refine ⟨t, flush0_7 t, ?_⟩
    have h := ((cfg0.win 7).blk t).view.emb_mem_set (ix2 (n0 := 512) (n1 := 1024) r (i 1))
    exact (congrArg (fun z => z ∈ ((cfg0.win 7).blk t).view.set) ((emb7 t _).trans hi)).mp h

end Cert.Proof.Band

end
-- ==== Proof.BandPre.lean ====
/- The band attention's call: what the precondition says of the arguments. -/
module

public import proofs.«01_k».proof.Proof.BandArray
public import proofs.«01_k».proof.Pre_banded

@[expose] public section

noncomputable section

namespace Cert.Proof.Band

open Cert.BandIdeal Idealize.ShloMosaic
open Cert.Proof.Common

theorem word_div : ∀ k : Fin 768, IntOp.divsi .host (BitVec.ofNat 32 k.val) 64#32 = BitVec.ofNat 32 (k.val / 64) := by decide +kernel

theorem word_le : ∀ a b : Fin 12, IntOp.cmpi .sle (BitVec.ofNat 32 a.val) (BitVec.ofNat 32 b.val) = 1#1 ↔ a.val ≤ b.val := by decide +kernel

theorem word_le' : ∀ a b : Fin 12,
    IntOp.cmpi .sle (BitVec.ofNat 32 b.val) (IntOp.addi (BitVec.ofNat 32 a.val) 8#32) = 1#1 ↔ b.val ≤ a.val + 8 := by decide +kernel

theorem word_ge : ∀ (n : Fin 3) (k : Fin 768),
    IntOp.cmpi .sge (IntOp.addi (BitVec.ofNat 32 k.val) (IntOp.muli 256#32 (BitVec.ofNat 32 n.val))) 512#32 = 1#1 ↔ 512 ≤ k.val + 256 * n.val := by
  decide +kernel

/-- The words the precondition's mask is made of. -/
theorem mask_ok (n : Fin 3) (k : Fin 768) (t : Fin 256) :
    IntOp.andi (IntOp.andi
        (IntOp.cmpi .sle (IntOp.divsi .host (BitVec.ofNat 32 t.val) 64#32) (IntOp.divsi .host (BitVec.ofNat 32 k.val) 64#32))
        (IntOp.cmpi .sle (IntOp.divsi .host (BitVec.ofNat 32 k.val) 64#32) (IntOp.addi (IntOp.divsi .host (BitVec.ofNat 32 t.val) 64#32) 8#32)))
      (IntOp.cmpi .sge (IntOp.addi (BitVec.ofNat 32 k.val) (IntOp.muli 256#32 (BitVec.ofNat 32 n.val))) 512#32) = 1#1 ↔ ok n.val k.val t.val := by
  have ht := word_div ⟨t.val, by omega⟩
  rw [word_div k, show IntOp.divsi .host (BitVec.ofNat 32 t.val) 64#32 = BitVec.ofNat 32 (t.val / 64) from ht, IntOp.andi_eq_one, IntOp.andi_eq_one,
    word_ge, word_le ⟨t.val / 64, by omega⟩ ⟨k.val / 64, by omega⟩, word_le' ⟨t.val / 64, by omega⟩ ⟨k.val / 64, by omega⟩]
  exact and_assoc

theorem eq_bot_of_cmp {x : EReal} (h : Ideal.cmp .oeq x (Ideal.ofBits .f32 0xFF800000#32) = 1#1) : x = ⊥ := by
  rw [bits_neg_inf] at h
  by_contra hx
  exact absurd h (by simp [Ideal.cmp, hx])

/-- What the precondition says of the arguments. -/
theorem banded_args [Cert.Pre_banded.Facts] {a0 a1 a2 : Vec Ideal S32768x1024 .bf16} {a3 : Vec Ideal S3x16x768x256 .f32}
    (h : Cert.Pre_banded.fn (F := Ideal) a0 a1 a2 a3 = fun _ => 1#1) : Banded a0 a1 a3 := by
  have h' := congrFun h ix0
  unfold Cert.Pre_banded.fn at h'
  dsimp only at h'
  unfold Cert.Pre_banded.fn_part1 at h'
  dsimp only at h'
  unfold Cert.Pre_banded.fn_part2 at h'
  obtain ⟨h01, h2⟩ := IntOp.andi_eq_one.1 h'
  obtain ⟨h0, h1⟩ := IntOp.andi_eq_one.1 h01
  have h3 := fun (n : Fin 3) (h : Fin 16) (k : Fin 768) (t : Fin 256) => Host.reduce_andi_all _ _ _ _ _ h2 (ix4 n h k t)
  have h4 : ∀ (n : Fin 3) (h : Fin 16) (k : Fin 768) (t : Fin 256), (if (IntOp.andi (IntOp.andi
        (IntOp.cmpi .sle (IntOp.divsi .host (BitVec.ofNat 32 t.val) 64#32) (IntOp.divsi .host (BitVec.ofNat 32 k.val) 64#32))
        (IntOp.cmpi .sle (IntOp.divsi .host (BitVec.ofNat 32 k.val) 64#32) (IntOp.addi (IntOp.divsi .host (BitVec.ofNat 32 t.val) 64#32) 8#32)))
      (IntOp.cmpi .sge (IntOp.addi (BitVec.ofNat 32 k.val) (IntOp.muli 256#32 (BitVec.ofNat 32 n.val))) 512#32)) = 1#1 then
        Ideal.cmp .olt (max (a3 (ix4 n h k t)) (-(a3 (ix4 n h k t)))) (Ideal.ofBits .f32 0x7F800000#32)
      else Ideal.cmp .oeq (a3 (ix4 n h k t)) (Ideal.ofBits .f32 0xFF800000#32)) = 1#1 := h3
  refine ⟨fun i => isReal_of_cmp (Host.reduce_andi_all _ _ _ _ _ h0 i), fun i => isReal_of_cmp (Host.reduce_andi_all _ _ _ _ _ h1 i),
    fun n h k t o => ?_, fun n h k t o => ?_⟩
  · have h5 := h4 n h k t
    rw [if_pos ((mask_ok n k t).2 o)] at h5
    exact isReal_of_cmp h5
  · have h5 := h4 n h k t
    rw [if_neg fun z => o ((mask_ok n k t).1 z)] at h5
    exact eq_bot_of_cmp h5

end Cert.Proof.Band

end
-- ==== Proof.BandRef.lean ====
/- The band attention's call: the reference's result array as the same function of the argument arrays. -/
module

public import proofs.«01_k».proof.Proof.BandArray
public import proofs.«01_k».proof.Proof.Gen.BandRefIdeal.Read

@[expose] public section

noncomputable section

namespace Cert.Proof.Band

open Cert.BandRefIdeal Cert.BandRefIdeal.Read Idealize.ShloMosaic
open Cert.Proof.Common

theorem zero_bits : Ideal.ofBits .f32 0x00000000#32 = 0 := by simp [Ideal.ofBits, Ideal.ieee]

section windows
variable (a : Vec Ideal S32768x1024 .bf16) (b : Fin 4) (q : Fin 256) (h : Fin 16) (e : Fin 64)

/-- The padded tiles: two tiles of zeros, then the argument's. -/
theorem pad_lo (t : Fin 34) (ht : t.val < 2) : val_main_v7 (F := Ideal) a (ix5 b t q h e) = 0 := by
  unfold val_main_v7
  rw [concatenate_pair_apply_left (t := S4x34x256x16x64) (s₁ := S4x2x256x16x64) (s₂ := S4x32x256x16x64) _ _ _ _ _ rfl
    (ix5 b ⟨t.val, ht⟩ q h e) fun
      | ⟨0, _⟩ => rfl
      | ⟨1, _⟩ => rfl
      | ⟨2, _⟩ => rfl
      | ⟨3, _⟩ => rfl
      | ⟨4, _⟩ => rfl]
  rw [val_main_v4_apply, val_main_cst_apply]
  exact zero_bits

theorem pad_hi (t : Fin 34) (ht : 2 ≤ t.val) : val_main_v7 (F := Ideal) a (ix5 b t q h e)
    = a (ix2 ⟨(b.val * 32 + (t.val - 2)) * 256 + q.val, by omega⟩ ⟨64 * h.val + e.val, by omega⟩) := by
  unfold val_main_v7
  rw [concatenate_pair_apply_right (t := S4x34x256x16x64) (s₁ := S4x2x256x16x64) (s₂ := S4x32x256x16x64) _ _ _ _ _ rfl rfl
    (ix5 b ⟨t.val - 2, by omega⟩ q h e) (fun
      | ⟨0, _⟩ => fun _ => rfl
      | ⟨1, _⟩ => fun h => absurd rfl h
      | ⟨2, _⟩ => fun _ => rfl
      | ⟨3, _⟩ => fun _ => rfl
      | ⟨4, _⟩ => fun _ => rfl) (by show t.val - 2 + 2 = t.val; omega)]
  rw [val_main_v6_apply, val_main_v5_apply]
  refine congrArg a (funext fun d => Fin.ext ?_)
  match d with
  | ⟨0, _⟩ =>
    show ((((b.val * 32 + (t.val - 2)) * 256 + q.val) * 16 + h.val) * 64 + e.val) / 1024 = (b.val * 32 + (t.val - 2)) * 256 + q.val
    omega
  | ⟨1, _⟩ =>
    show ((((b.val * 32 + (t.val - 2)) * 256 + q.val) * 16 + h.val) * 64 + e.val) % 1024 = 64 * h.val + e.val
    omega

/-- A window's place in the padded tiles. -/
theorem win_at (t : Fin 32) (k : Fin 768) : val_main_v12 (F := Ideal) a (ix5 b t k h e)
    = val_main_v7 (F := Ideal) a (ix5 b ⟨t.val + k.val / 256, by omega⟩ ⟨k.val % 256, by omega⟩ h e) := by
  unfold val_main_v12
  by_cases h2 : k.val < 512
  · rw [concatenate_pair_apply_left (t := S4x32x768x16x64) (s₁ := S4x32x512x16x64) (s₂ := S4x32x256x16x64) _ _ _ _ _ rfl
      (ix5 b t ⟨k.val, h2⟩ h e) fun
        | ⟨0, _⟩ => rfl
        | ⟨1, _⟩ => rfl
        | ⟨2, _⟩ => rfl
        | ⟨3, _⟩ => rfl
        | ⟨4, _⟩ => rfl]
    unfold val_main_v10
    by_cases h1 : k.val < 256
    · rw [concatenate_pair_apply_left (t := S4x32x512x16x64) (s₁ := S4x32x256x16x64) (s₂ := S4x32x256x16x64) _ _ _ _ _ rfl
        (ix5 b t ⟨k.val, h1⟩ h e) fun
          | ⟨0, _⟩ => rfl
          | ⟨1, _⟩ => rfl
          | ⟨2, _⟩ => rfl
          | ⟨3, _⟩ => rfl
          | ⟨4, _⟩ => rfl]
      rw [val_main_v8_apply]
      refine congrArg _ (funext fun d => Fin.ext ?_)
      match d with
      | ⟨0, _⟩ => rfl
      | ⟨1, _⟩ => show t.val = t.val + k.val / 256; omega
      | ⟨2, _⟩ => show k.val = k.val % 256; omega
      | ⟨3, _⟩ => rfl
      | ⟨4, _⟩ => rfl
    · rw [concatenate_pair_apply_right (t := S4x32x512x16x64) (s₁ := S4x32x256x16x64) (s₂ := S4x32x256x16x64) _ _ _ _ _ rfl rfl
        (ix5 b t ⟨k.val - 256, by omega⟩ h e) (fun
          | ⟨0, _⟩ => fun _ => rfl
          | ⟨1, _⟩ => fun _ => rfl
          | ⟨2, _⟩ => fun h => absurd rfl h
          | ⟨3, _⟩ => fun _ => rfl
          | ⟨4, _⟩ => fun _ => rfl) (by show k.val - 256 + 256 = k.val; omega)]
      rw [val_main_v9_apply]
      refine congrArg _ (funext fun d => Fin.ext ?_)
      match d with
      | ⟨0, _⟩ => rfl
      | ⟨1, _⟩ => show 1 + t.val = t.val + k.val / 256; omega
      | ⟨2, _⟩ => show k.val - 256 = k.val % 256; omega
      | ⟨3, _⟩ => rfl
      | ⟨4, _⟩ => rfl
  · rw [concatenate_pair_apply_right (t := S4x32x768x16x64) (s₁ := S4x32x512x16x64) (s₂ := S4x32x256x16x64) _ _ _ _ _ rfl rfl
      (ix5 b t ⟨k.val - 512, by omega⟩ h e) (fun
        | ⟨0, _⟩ => fun _ => rfl
        | ⟨1, _⟩ => fun _ => rfl
        | ⟨2, _⟩ => fun h => absurd rfl h
        | ⟨3, _⟩ => fun _ => rfl
        | ⟨4, _⟩ => fun _ => rfl) (by show k.val - 512 + 512 = k.val; omega)]
    rw [val_main_v11_apply]
    refine congrArg _ (funext fun d => Fin.ext ?_)
    match d with
    | ⟨0, _⟩ => rfl
    | ⟨1, _⟩ => show 2 + t.val = t.val + k.val / 256; omega
    | ⟨2, _⟩ => show k.val - 512 = k.val % 256; omega
    | ⟨3, _⟩ => rfl
    | ⟨4, _⟩ => rfl

/-- A window is `wk`. -/
theorem win_eq (R : Fin 32768) (t : Fin 32) (hb : b.val = R.val / 8192) (ht : t.val = R.val % 8192 / 256) (k : Fin 768) (c : Fin 1024)
    (hc : c.val = 64 * h.val + e.val) : val_main_v12 (F := Ideal) a (ix5 b t k h e) = wk a R k c := by
  rw [win_at]
  unfold wk
  rw [← ht]
  by_cases h2 : 512 ≤ k.val + 256 * t.val
  · rw [if_pos h2, pad_hi a b _ h e _ (by show 2 ≤ t.val + k.val / 256; omega)]
    have hR : R.val / 256 = b.val * 32 + t.val := by omega
    refine congrArg a (funext fun d => Fin.ext ?_)
    match d with
    | ⟨0, _⟩ => show (b.val * 32 + (t.val + k.val / 256 - 2)) * 256 + k.val % 256 = 256 * (R.val / 256) + k.val - 512; rw [hR]; omega
    | ⟨1, _⟩ => exact hc.symm
  · rw [if_neg h2, pad_lo a b _ h e _ (by show t.val + k.val / 256 < 2; omega)]

/-- The values' windows are computed as the keys' are. -/
theorem win_v : val_main_v39 (F := Ideal) a = val_main_v12 (F := Ideal) a := rfl

theorem q_eq (R : Fin 32768) (t : Fin 32) (hb : b.val = R.val / 8192) (ht : t.val = R.val % 8192 / 256) (hq : q.val = R.val % 256) (c : Fin 1024)
    (hc : c.val = 64 * h.val + e.val) : val_main_v14 (F := Ideal) a (ix5 b t q h e) = a (ix2 R c) := by
  rw [val_main_v14_apply, val_main_v13_apply]
  refine congrArg a (funext fun d => Fin.ext ?_)
  match d with
  | ⟨0, _⟩ => show ((((b.val * 32 + t.val) * 256 + q.val) * 16 + h.val) * 64 + e.val) / 1024 = R.val; omega
  | ⟨1, _⟩ => show ((((b.val * 32 + t.val) * 256 + q.val) * 16 + h.val) * 64 + e.val) % 1024 = c.val; omega

end windows

/-- The bias of a tile. -/
theorem bias_eq (a3 : Vec Ideal S3x16x768x256 .f32) (t : Fin 32) (h : Fin 16) (k : Fin 768) (q : Fin 256) :
    val_main_v3 (F := Ideal) a3 (ix4 t h k q) = a3 (ix4 ⟨min t.val 2, by omega⟩ h k q) := by
  unfold val_main_v3
  by_cases h2 : t.val < 2
  · rw [concatenate_pair_apply_left (t := S32x16x768x256) (s₁ := S2x16x768x256) (s₂ := S30x16x768x256) _ _ _ _ _ rfl
      (ix4 ⟨t.val, h2⟩ h k q) fun
        | ⟨0, _⟩ => rfl
        | ⟨1, _⟩ => rfl
        | ⟨2, _⟩ => rfl
        | ⟨3, _⟩ => rfl]
    rw [val_main_v0_apply]
    refine congrArg a3 (funext fun d => Fin.ext ?_)
    match d with
    | ⟨0, _⟩ => show t.val = min t.val 2; omega
    | ⟨1, _⟩ => rfl
    | ⟨2, _⟩ => rfl
    | ⟨3, _⟩ => rfl
  · rw [concatenate_pair_apply_right (t := S32x16x768x256) (s₁ := S2x16x768x256) (s₂ := S30x16x768x256) _ _ _ _ _ rfl rfl
      (ix4 ⟨t.val - 2, by omega⟩ h k q) (fun
        | ⟨0, _⟩ => fun h => absurd rfl h
        | ⟨1, _⟩ => fun _ => rfl
        | ⟨2, _⟩ => fun _ => rfl
        | ⟨3, _⟩ => fun _ => rfl) (by show t.val - 2 + 2 = t.val; omega)]
    rw [val_main_v2_apply, val_main_v1_apply]
    refine congrArg a3 (funext fun d => Fin.ext ?_)
    match d with
    | ⟨0, _⟩ => show 2 = min t.val 2; omega
    | ⟨1, _⟩ => rfl
    | ⟨2, _⟩ => rfl
    | ⟨3, _⟩ => rfl

section scores
variable (a0 a1 a2 : Vec Ideal S32768x1024 .bf16) (a3 : Vec Ideal S3x16x768x256 .f32) (R : Fin 32768) (c : Fin 1024)

abbrev bi : Fin 4 := ⟨R.val / 8192, by omega⟩
abbrev ti : Fin 32 := ⟨R.val % 8192 / 256, by omega⟩
abbrev qi : Fin 256 := ⟨R.val % 256, by omega⟩
abbrev hi : Fin 16 := ⟨c.val / 64, by omega⟩
abbrev ei : Fin 64 := ⟨c.val % 64, by omega⟩

theorem score_eq (k : Fin 768) : val_main_v18 (F := Ideal) a0 a1 a3 (ix5 (bi R) (ti R) (hi c) k (qi R)) = T a0 a1 a3 R c k := by
  rw [val_main_v18_apply, val_main_v15_apply, val_main_v17_apply, val_main_v16_apply]
  refine congrArg₂ (fun x y : EReal => x + y) (Finset.sum_congr rfl fun e _ => ?_) ?_
  · refine congrArg₂ (fun x y : EReal => x * y) (Eq.trans (congrArg _ ?_) (win_eq a1 (bi R) (hi c) e R (ti R) rfl rfl k ⟨64 * (c.val / 64) + e.val, by omega⟩ rfl))
      (Eq.trans (congrArg _ ?_) (q_eq a0 (bi R) (qi R) (hi c) e R (ti R) rfl rfl rfl ⟨64 * (c.val / 64) + e.val, by omega⟩ rfl))
    · funext d; match d with | ⟨0, _⟩ => rfl | ⟨1, _⟩ => rfl | ⟨2, _⟩ => rfl | ⟨3, _⟩ => rfl | ⟨4, _⟩ => rfl
    · funext d; match d with | ⟨0, _⟩ => rfl | ⟨1, _⟩ => rfl | ⟨2, _⟩ => rfl | ⟨3, _⟩ => rfl | ⟨4, _⟩ => rfl
  · refine Eq.trans (congrArg _ ?_) (bias_eq a3 (ti R) (hi c) k (qi R))
    funext d; match d with | ⟨0, _⟩ => rfl | ⟨1, _⟩ => rfl | ⟨2, _⟩ => rfl | ⟨3, _⟩ => rfl

theorem bits_two : Ideal.ofBits .f32 0x40000000#32 = ((2 : ℝ) : EReal) := by
  simp [Ideal.ofBits, Ideal.ieee, -EReal.coe_mul]; norm_num

/-- A score brought to base e. -/
theorem base_eq (k : Fin 768) : val_main_v21 (F := Ideal) a0 a1 a3 (ix5 (bi R) (ti R) (hi c) k (qi R))
    = T a0 a1 a3 R c k * ((Real.log 2 : ℝ) : EReal) := by
  rw [val_main_v21_apply, score_eq, val_main_v20_apply, val_main_v19_apply, val_main_cst_0_apply]
  refine congrArg (fun z : EReal => T a0 a1 a3 R c k * z) ?_
  show Ideal.log (Ideal.ofBits .f32 0x40000000#32) = _
  rw [bits_two, Ideal.log_coe, if_neg (by norm_num)]

theorem max_eq : val_main_v22 (F := Ideal) a0 a1 a3 (ix4 (bi R) (ti R) (hi c) (qi R))
    = Finset.univ.fold max ⊥ fun k => T a0 a1 a3 R c k * ((Real.log 2 : ℝ) : EReal) := by
  simp only [← base_eq]
  unfold val_main_v22
  generalize val_main_v21 (F := Ideal) a0 a1 a3 = y
  rw [← bits_neg_inf]
  unfold val_main_cst_1
  pointwise

theorem div_eq (k : Fin 768) : val_main_v30 (F := Ideal) a0 a1 a3 (ix5 (bi R) (ti R) (hi c) k (qi R))
    = Ideal.div (val_main_v26 (F := Ideal) a0 a1 a3 (ix5 (bi R) (ti R) (hi c) k (qi R)))
      (∑ j : Fin 768, val_main_v26 (F := Ideal) a0 a1 a3 (ix5 (bi R) (ti R) (hi c) j (qi R))) := by
  rw [val_main_v30_apply, val_main_v29_apply, val_main_v28_apply, val_main_v27_apply, val_main_cst_2_apply]
  refine congrArg (fun z : EReal => Ideal.div (val_main_v26 (F := Ideal) a0 a1 a3 (ix5 (bi R) (ti R) (hi c) k (qi R))) z) ?_
  show Ideal.ofBits .f32 0x00000000#32 + _ = _
  rw [zero_bits, zero_add]
  refine Finset.sum_congr rfl fun j _ => congrArg _ ?_
  funext d; match d with | ⟨0, _⟩ => rfl | ⟨1, _⟩ => rfl | ⟨2, _⟩ => rfl | ⟨3, _⟩ => rfl | ⟨4, _⟩ => rfl

theorem times_log {x : EReal} (hx : x ≠ ⊤) :
    x * ((Real.log 2 : ℝ) : EReal) ≠ ⊤ ∧ (x ≠ ⊥ → x * ((Real.log 2 : ℝ) : EReal) ≠ ⊥) := by
  have hl : 0 < Real.log 2 := Real.log_pos (by norm_num)
  induction x using EReal.rec with
  | bot => rw [EReal.bot_mul_coe_of_pos hl]; exact ⟨bot_ne_top, fun h => absurd rfl h⟩
  | top => exact absurd rfl hx
  | coe r => rw [← EReal.coe_mul]; exact ⟨EReal.coe_ne_top _, fun _ => EReal.coe_ne_bot _⟩

variable {a0 a1 a3} (B : Banded a0 a1 a3)
include B

theorem sum_real (k : Fin 768) : IsReal (∑ e : Fin 64, wk a1 R k ⟨64 * (c.val / 64) + e.val, by omega⟩ * a0 (ix2 R ⟨64 * (c.val / 64) + e.val, by omega⟩)) := by
  refine IsReal.sum fun e => IsReal.mul ?_ (B.q _)
  unfold wk
  split
  · exact B.k _
  · exact ⟨0, rfl⟩

theorem T_top (k : Fin 768) : T a0 a1 a3 R c k ≠ ⊤ := by
  unfold T
  by_cases o : ok (vn R).val k.val (R.val % 256)
  · obtain ⟨r, hr⟩ := (sum_real R c B k).add (B.yes (vn R) ⟨c.val / 64, by omega⟩ k ⟨R.val % 256, by omega⟩ o)
    rw [hr]; exact EReal.coe_ne_top r
  · rw [B.no (vn R) ⟨c.val / 64, by omega⟩ k ⟨R.val % 256, by omega⟩ o, EReal.add_bot]; exact bot_ne_top

theorem T_some : ∃ k, T a0 a1 a3 R c k ≠ ⊥ := ⟨⟨512, by omega⟩, by
  unfold T
  obtain ⟨r, hr⟩ := (sum_real R c B ⟨512, by omega⟩).add (B.yes (vn R) ⟨c.val / 64, by omega⟩ ⟨512, by omega⟩ ⟨R.val % 256, by omega⟩
    ⟨by show R.val % 256 / 64 ≤ 512 / 64; omega, by show 512 / 64 ≤ R.val % 256 / 64 + 8; omega, by show 512 ≤ 512 + 256 * (vn R).val; omega⟩)
  rw [hr]; exact EReal.coe_ne_bot r⟩

/-- The reference's weights. -/
theorem weight_eq : ∃ m : ℝ, ∀ k, val_main_v26 (F := Ideal) a0 a1 a3 (ix5 (bi R) (ti R) (hi c) k (qi R))
    = ((pw (T a0 a1 a3 R c k) * Real.exp (-m) : ℝ) : EReal) := by
  obtain ⟨k0, h0⟩ := T_some R c B
  obtain ⟨m, hm⟩ := fold_max_real (s := Finset.univ) (f := fun k => T a0 a1 a3 R c k * ((Real.log 2 : ℝ) : EReal))
    (fun k _ => (times_log (T_top R c B k)).1) ⟨k0, Finset.mem_univ _, (times_log (T_top R c B k0)).2 h0⟩
  refine ⟨m, fun k => ?_⟩
  have h : val_main_v24 (F := Ideal) a0 a1 a3 (ix5 (bi R) (ti R) (hi c) k (qi R)) = (m : EReal) := by
    rw [val_main_v24_apply, val_main_v23_apply]
    refine Eq.trans (congrArg _ ?_) ((max_eq a0 a1 a3 R c).trans hm)
    funext d; match d with | ⟨0, _⟩ => rfl | ⟨1, _⟩ => rfl | ⟨2, _⟩ => rfl | ⟨3, _⟩ => rfl
  rw [val_main_v26_apply, val_main_v25_apply, base_eq, h]
  exact exp_shift (T_top R c B k) m

end scores

/-- The reference's result array is `result` of its arguments. -/
theorem ref_eq {a0 a1 : Vec Ideal S32768x1024 .bf16} (a2 : Vec Ideal S32768x1024 .bf16) {a3 : Vec Ideal S3x16x768x256 .f32} (B : Banded a0 a1 a3) :
    val_main_v43 (F := Ideal) a0 a1 a2 a3 = result a0 a1 a2 a3 := by
  funext i
  obtain ⟨R, c, rfl⟩ : ∃ (R : Fin 32768) (c : Fin 1024), i = ix2 R c := ⟨i 0, i 1, funext fun a => by
    match a with
    | ⟨0, _⟩ => rfl
    | ⟨1, _⟩ => rfl⟩
  obtain ⟨m, hm⟩ := weight_eq R c B
  rw [val_main_v43_apply, result_eq]
  show val_main_v42 (F := Ideal) a0 a1 a2 a3 (ix2 R c) = _
  rw [val_main_v42_apply, val_main_v41_apply, val_main_v40_apply, win_v]
  unfold res
  rw [← mean_reference (E := fun k => val_main_v26 (F := Ideal) a0 a1 a3 (ix5 (bi R) (ti R) (hi c) k (qi R))) hm (T_some R c B)]
  refine Finset.sum_congr rfl fun k _ => ?_
  rw [mul_comm]
  refine congrArg₂ (fun x y : EReal => x * y) (Eq.trans (congrArg _ ?_) (div_eq a0 a1 a3 R c k))
    (Eq.trans (congrArg _ ?_) (win_eq a2 (bi R) (hi c) (ei c) R (ti R) rfl rfl k c (by show c.val = 64 * (c.val / 64) + c.val % 64; omega)))
  · funext d; apply Fin.ext
    match d with
    | ⟨0, _⟩ => show (R.val * 1024 + c.val) / 8388608 = R.val / 8192; omega
    | ⟨1, _⟩ => show (R.val * 1024 + c.val) / 262144 % 32 = R.val % 8192 / 256; omega
    | ⟨2, _⟩ => show (R.val * 1024 + c.val) / 64 % 16 = c.val / 64; omega
    | ⟨3, _⟩ => rfl
    | ⟨4, _⟩ => show (R.val * 1024 + c.val) / 1024 % 256 = R.val % 256; omega
  · funext d; apply Fin.ext
    match d with
    | ⟨0, _⟩ => show (R.val * 1024 + c.val) / 8388608 = R.val / 8192; omega
    | ⟨1, _⟩ => show (R.val * 1024 + c.val) / 262144 % 32 = R.val % 8192 / 256; omega
    | ⟨2, _⟩ => rfl
    | ⟨3, _⟩ => show (R.val * 1024 + c.val) / 64 % 16 = c.val / 64; omega
    | ⟨4, _⟩ => show (R.val * 1024 + c.val) % 64 = c.val % 64; omega

end Cert.Proof.Band

end
-- ==== Proof.Claims.lean ====
/- The value claims: each kernel's run beside its reference's, both with the result the call's own module names. -/
module

public import proofs.«01_k».proof.Defs
public import proofs.«01_k».proof.Proof.Merge
public import proofs.«01_k».proof.Proof.Ffn
public import proofs.«01_k».proof.Proof.Ffn1
public import proofs.«01_k».proof.Proof.InProjValue
public import proofs.«01_k».proof.Proof.BandPre
public import proofs.«01_k».proof.Proof.BandRef
public import proofs.«01_k».proof.Proof.Gen.BandRefIdeal.Run
public import proofs.«01_k».proof.Proof.Gen.Pre_banded
public import proofs.«01_k».proof.Proof.Gen.Pre_finite_gate
public import proofs.«01_k».proof.Proof.Gen.Pre_finite_proj
public import proofs.«01_k».proof.Proof.Gen.FfnRefIdeal.Run
public import proofs.«01_k».proof.Proof.Gen.Ffn1RefIdeal.Run
public import proofs.«01_k».proof.Proof.Gen.MergeRefIdeal.Run
public import proofs.«01_k».proof.Proof.Gen.InProjRefIdeal.Run

@[expose] public section

noncomputable section

namespace Cert.Proof

open Idealize.ShloMosaic Idealize.SL.Sem

theorem value_merge : Cert.algebraic_MergeIdeal_MergeRefIdeal := by
  intro m g m' g' _ hm
  refine ⟨fun c => Merge.result (Merge.A0 m c) (Merge.A1 m c) (Merge.A2 m c) (Merge.A3 m c) (Merge.A4 m c) (Merge.A5 m c)
    (Merge.A6 m c) (Merge.A7 m c), (θ_run _ _ _).mono (fun r h c => ⟨(h c).1.trans (Merge.array m c), (h c).2⟩)
    (Cert.MergeIdeal.Value.run_blocks m g), (θ_run _ _ _).mono (fun r h c => ⟨(h c).1.trans ?_, (h c).2⟩)
    (Cert.MergeRefIdeal.Value.run (F := Ideal) m' g')⟩
  obtain ⟨h0, h1, h2, h3, h4, h5, h6, h7⟩ := hm c
  rw [h0, h1, h2, h3, h4, h5, h6, h7]
  exact (Cert.MergeRefIdeal.Read.val_main_v20_eq _ _ _ _ _ _ _ _).trans (Merge.ref_eq _ _ _ _ _ _ _ _)

theorem value_ffn : Cert.algebraic_FfnIdeal_FfnRefIdeal_pre_finite_gate := by
  intro m g m' g' hpre hm
  refine ⟨fun c => Ffn.result Common.gateT (Ffn.A0 m c) (Ffn.A1 m c) (Ffn.A2 m c) (Ffn.A3 m c) (Ffn.A4 m c),
    (θ_run _ _ _).mono (fun r h c => ⟨(h c).1.trans (Ffn.array m c), (h c).2⟩)
    (Cert.FfnIdeal.Value.run_blocks m g), (θ_run _ _ _).mono (fun r h c => ⟨(h c).1.trans ?_, (h c).2⟩)
    (Cert.FfnRefIdeal.Value.run (F := Ideal) m' g')⟩
  obtain ⟨h0, h1, h2, h3, h4⟩ := hm c
  obtain ⟨r0, r1, r2⟩ := Ffn.finite_args (hpre c)
  rw [Ffn.ref_eq, h0, h1, h2, h3, h4]
  exact (Ffn.result_congr _ _ r0 r1 r2).symm

theorem value_ffn1 : Cert.algebraic_Ffn1Ideal_Ffn1RefIdeal_pre_finite_gate := by
  intro m g m' g' hpre hm
  refine ⟨fun c => Ffn1.result Common.gateT (Ffn1.A0 m c) (Ffn1.A1 m c) (Ffn1.A2 m c) (Ffn1.A3 m c),
    (θ_run _ _ _).mono (fun r h c => ⟨(h c).1.trans (Ffn1.array m c), (h c).2⟩)
    (Cert.Ffn1Ideal.Value.run_blocks m g), (θ_run _ _ _).mono (fun r h c => ⟨(h c).1.trans ?_, (h c).2⟩)
    (Cert.Ffn1RefIdeal.Value.run (F := Ideal) m' g')⟩
  obtain ⟨h0, h1, h2, h3, h4⟩ := hm c
  obtain ⟨r0, r1, r2⟩ := Ffn.finite_args (hpre c)
  rw [h0, h1, h2, h3]
  exact (Cert.Ffn1RefIdeal.Read.val_main_v21_eq _ _ _ _).trans ((Ffn1.ref_eq _ _ _ _).trans (Ffn1.result_congr _ r0 r1 r2).symm)

open InProj in
theorem value_inproj : Cert.algebraic_InProjIdeal_InProjRefIdeal_pre_finite_proj := by
  intro m g m' g' hpre hm
  refine ⟨fun c => result Common.gateT 1024 0 (by decide) (A0 m c) (A1 m c) (A2 m c),
    fun c => result id 1536 1024 (by decide) (A0 m c) (A1 m c) (A2 m c),
    fun c => steps (A0 m c) (A1 m c) (A2 m c),
    fun c => result qscale 1024 2576 (by decide) (A0 m c) (A1 m c) (A2 m c),
    fun c => result id 1024 3600 (by decide) (A0 m c) (A1 m c) (A2 m c),
    fun c => result id 1024 4624 (by decide) (A0 m c) (A1 m c) (A2 m c),
    fun c => result id 2048 5648 (by decide) (A0 m c) (A1 m c) (A2 m c),
    (θ_run _ _ _).mono (fun r h c => ?_) (Cert.InProjIdeal.Value.run_blocks m g),
    (θ_run _ _ _).mono (fun r h c => ?_) (Cert.InProjRefIdeal.Value.run (F := Ideal) m' g')⟩
  · obtain ⟨hz, hx, hq, hk, hv, hg, hd, hargs⟩ := h c
    exact ⟨hz.trans (array_z m c), hx.trans (array_xbc m c), hd.trans (array_dt m c), hq.trans (array_q m c),
      hk.trans (array_k m c), hv.trans (array_v m c), hg.trans (array_g m c), hargs⟩
  · obtain ⟨hz, hx, hd, hq, hk, hv, hg, hargs⟩ := h c
    obtain ⟨h0, h1, h2⟩ := hm c
    obtain ⟨r0, r1, r2⟩ := finite_args (hpre c)
    rw [h0, h1, h2] at hz hx hd hq hk hv hg
    exact ⟨hz.trans ((Cert.InProjRefIdeal.Read.val_main_v24_eq _ _ _).trans ((ref_z _ _ _).trans (result_congr r0 r1 r2 _ _ _).symm)),
      hx.trans ((Cert.InProjRefIdeal.Read.val_main_v25_eq _ _ _).trans (ref_xbc _ _ _)),
      hd.trans ((Cert.InProjRefIdeal.Read.val_main_v28_eq _ _ _).trans (ref_dt _ _ _)),
      hq.trans ((Cert.InProjRefIdeal.Read.val_main_v29_eq _ _ _).trans (ref_q _ _ _)),
      hk.trans ((Cert.InProjRefIdeal.Read.val_main_v30_eq _ _ _).trans (ref_k _ _ _)),
      hv.trans ((Cert.InProjRefIdeal.Read.val_main_v31_eq _ _ _).trans (ref_v _ _ _)),
      hg.trans ((Cert.InProjRefIdeal.Read.val_main_v32_eq _ _ _).trans (ref_g _ _ _)), hargs⟩

/-- The band attention: the kernel's call and its reference end with equal results. -/
theorem value_band : Cert.algebraic_BandIdeal_BandRefIdeal_pre_banded := by
  intro m g m' g' hpre hm
  refine ⟨fun c => Band.result (Band.A0 m c) (Band.A1 m c) (Band.A2 m c) (Band.A3 m c),
    (θ_run _ _ _).mono (fun r h c => ⟨(h c).1.trans (Band.array m c (Band.banded_args (hpre c))), (h c).2⟩)
    (Cert.BandIdeal.Value.run_blocks m g), (θ_run _ _ _).mono (fun r h c => ⟨(h c).1.trans ?_, (h c).2⟩)
    (Cert.BandRefIdeal.Value.run (F := Ideal) m' g')⟩
  obtain ⟨h0, h1, h2, h3⟩ := hm c
  refine (Cert.BandRefIdeal.Read.val_main_v43_eq (F := Ideal) m' c).trans ?_
  rw [h0, h1, h2, h3]
  exact Band.ref_eq _ (Band.banded_args (hpre c))

end Cert.Proof

end
-- ==== Proof.lean ====
/- The certificate's claims, one theorem for each: the frames from the generated runs, the values from `Proof/Claims.lean`. -/
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1RefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_banded
public import proofs.«01_k».proof.Proof.Gen.Pre_finite_gate
public import proofs.«01_k».proof.Proof.Gen.Pre_finite_proj
public import proofs.«01_k».proof.Proof.Gen.FfnIdeal.Value
public import proofs.«01_k».proof.Proof.Gen.MergeIdeal.Value
public import proofs.«01_k».proof.Proof.Gen.BandIdeal.Value
public import proofs.«01_k».proof.Proof.Gen.BandRefIdeal.Run
public import proofs.«01_k».proof.Proof.Gen.BandRefIdeal.Read
public import proofs.«01_k».proof.Proof.Gen.Ffn1Ideal.Value
public import proofs.«01_k».proof.Proof.Gen.Ffn1RefIdeal.Run
public import proofs.«01_k».proof.Proof.Gen.Ffn1RefIdeal.Read
public import proofs.«01_k».proof.Proof.Gen.InProjIdeal.Value
public import proofs.«01_k».proof.Proof.Gen.FfnRefIdeal.Run
public import proofs.«01_k».proof.Proof.Gen.FfnRefIdeal.Read
public import proofs.«01_k».proof.Proof.Gen.MergeRefIdeal.Run
public import proofs.«01_k».proof.Proof.Gen.MergeRefIdeal.Read
public import proofs.«01_k».proof.Proof.Gen.InProjRefIdeal.Run
public import proofs.«01_k».proof.Proof.Gen.InProjRefIdeal.Read
public import proofs.«01_k».proof.Proof.Gen.AttentionRefIdeal.Run
public import proofs.«01_k».proof.Proof.Gen.AttentionRefIdeal.Read
public import proofs.«01_k».proof.Proof.Claims
public import Idealize.ShloMosaic.Adequacy
public import Idealize.ShloMosaic.Init

@[expose] public section

noncomputable section

namespace Cert.Proof

open Idealize.ShloMosaic Idealize.SL.Sem

theorem frame_Attention : Cert.quiescent_Attention := fun m g _ => Cert.Attention.Gen.frame m g

theorem frame_AttentionIdeal : Cert.quiescent_AttentionIdeal := fun m g _ => Cert.AttentionIdeal.Gen.frame m g

theorem frame_AttentionRefIdeal : Cert.quiescent_AttentionRefIdeal := fun m g _ =>
  (θ_run _ _ _).mono (fun r h => ⟨fun c => (h c).2, sem_eq_zero_of_no_sems (by decide) r.2⟩) (Cert.AttentionRefIdeal.Value.run (F := Ideal) m g)

theorem frame_Band : Cert.quiescent_Band := fun m g _ => Cert.Band.Gen.frame m g

theorem frame_BandIdeal : Cert.quiescent_BandIdeal := fun m g _ => Cert.BandIdeal.Gen.frame m g

theorem frame_BandIdeal_banded : Cert.quiescent_BandIdeal_pre_banded := fun m g _ => frame_BandIdeal m g trivial

theorem frame_BandRefIdeal : Cert.quiescent_BandRefIdeal := fun m g _ =>
  (θ_run _ _ _).mono (fun r h => ⟨fun c => (h c).2, sem_eq_zero_of_no_sems (by decide) r.2⟩) (Cert.BandRefIdeal.Value.run (F := Ideal) m g)

theorem frame_BandRefIdeal_banded : Cert.quiescent_BandRefIdeal_pre_banded := fun m g _ => frame_BandRefIdeal m g trivial

theorem frame_Ffn : Cert.quiescent_Ffn := fun m g _ => Cert.Ffn.Gen.frame m g

theorem frame_FfnIdeal : Cert.quiescent_FfnIdeal := fun m g _ => Cert.FfnIdeal.Gen.frame m g

theorem frame_FfnIdeal_finite_gate : Cert.quiescent_FfnIdeal_pre_finite_gate := fun m g _ => frame_FfnIdeal m g trivial

theorem frame_FfnRefIdeal : Cert.quiescent_FfnRefIdeal := fun m g _ =>
  (θ_run _ _ _).mono (fun r h => ⟨fun c => (h c).2, sem_eq_zero_of_no_sems (by decide) r.2⟩) (Cert.FfnRefIdeal.Value.run (F := Ideal) m g)

theorem frame_FfnRefIdeal_finite_gate : Cert.quiescent_FfnRefIdeal_pre_finite_gate := fun m g _ => frame_FfnRefIdeal m g trivial

theorem frame_Ffn1 : Cert.quiescent_Ffn1 := fun m g _ => Cert.Ffn1.Gen.frame m g

theorem frame_Ffn1Ideal : Cert.quiescent_Ffn1Ideal := fun m g _ => Cert.Ffn1Ideal.Gen.frame m g

theorem frame_Ffn1Ideal_finite_gate : Cert.quiescent_Ffn1Ideal_pre_finite_gate := fun m g _ => frame_Ffn1Ideal m g trivial

theorem frame_Ffn1RefIdeal : Cert.quiescent_Ffn1RefIdeal := fun m g _ =>
  (θ_run _ _ _).mono (fun r h => ⟨fun c => (h c).2, sem_eq_zero_of_no_sems (by decide) r.2⟩) (Cert.Ffn1RefIdeal.Value.run (F := Ideal) m g)

theorem frame_Ffn1RefIdeal_finite_gate : Cert.quiescent_Ffn1RefIdeal_pre_finite_gate := fun m g _ => frame_Ffn1RefIdeal m g trivial

theorem frame_Merge : Cert.quiescent_Merge := fun m g _ => Cert.Merge.Gen.frame m g

theorem frame_MergeIdeal : Cert.quiescent_MergeIdeal := fun m g _ => Cert.MergeIdeal.Gen.frame m g

theorem frame_MergeRefIdeal : Cert.quiescent_MergeRefIdeal := fun m g _ =>
  (θ_run _ _ _).mono (fun r h => ⟨fun c => (h c).2, sem_eq_zero_of_no_sems (by decide) r.2⟩) (Cert.MergeRefIdeal.Value.run (F := Ideal) m g)

theorem frame_InProj : Cert.quiescent_InProj := fun m g _ => Cert.InProj.Gen.frame m g

theorem frame_InProjIdeal : Cert.quiescent_InProjIdeal := fun m g _ => Cert.InProjIdeal.Gen.frame m g

theorem frame_InProjRefIdeal : Cert.quiescent_InProjRefIdeal := fun m g _ =>
  (θ_run _ _ _).mono (fun r h => ⟨fun c => (h c).2.2.2.2.2.2.2, sem_eq_zero_of_no_sems (by decide) r.2⟩) (Cert.InProjRefIdeal.Value.run (F := Ideal) m g)

theorem frame_InProjIdeal_finite_proj : Cert.quiescent_InProjIdeal_pre_finite_proj := fun m g _ => frame_InProjIdeal m g trivial

theorem frame_InProjRefIdeal_finite_proj : Cert.quiescent_InProjRefIdeal_pre_finite_proj := fun m g _ => frame_InProjRefIdeal m g trivial

theorem preserves_attention : Cert.preserves_Attention_AttentionIdeal :=
  IdealRules.named_const.statement Cert.AttentionIdeal.κ "log2e" .f32 0x3FB8AA3B#32 (((Real.log 2)⁻¹ : ℝ) : EReal) rfl

theorem claim : Cert.Claim := ⟨Cert.Attention.Gen.facts, Cert.AttentionIdeal.Gen.facts, Cert.AttentionRefIdeal.Gen.facts, Cert.Band.Gen.facts, Cert.BandIdeal.Gen.facts, Cert.BandRefIdeal.Gen.facts, Cert.Ffn.Gen.facts, Cert.FfnIdeal.Gen.facts, Cert.FfnRefIdeal.Gen.facts, Cert.Ffn1.Gen.facts, Cert.Ffn1Ideal.Gen.facts, Cert.Ffn1RefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.Pre_banded.Gen.facts, Cert.Pre_finite_gate.Gen.facts, Cert.Pre_finite_proj.Gen.facts,
  frame_Attention, frame_AttentionIdeal, frame_AttentionRefIdeal, frame_Band, frame_BandIdeal, frame_BandIdeal_banded, frame_BandRefIdeal, frame_BandRefIdeal_banded, frame_Ffn, frame_FfnIdeal, frame_FfnIdeal_finite_gate, frame_FfnRefIdeal, frame_FfnRefIdeal_finite_gate, frame_Ffn1, frame_Ffn1Ideal, frame_Ffn1Ideal_finite_gate, frame_Ffn1RefIdeal, frame_Ffn1RefIdeal_finite_gate, frame_Merge, frame_MergeIdeal, frame_MergeRefIdeal, frame_InProj, frame_InProjIdeal, frame_InProjIdeal_finite_proj, frame_InProjRefIdeal, frame_InProjRefIdeal_finite_proj, preserves_attention, trivial, value_band, trivial, value_ffn, trivial, value_ffn1, trivial, value_merge, trivial, value_inproj⟩

end Cert.Proof

end
